-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v234) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x4096x2048 : Shape := ⟨3, ![4, 4096, 2048]⟩
abbrev S2x2048 : Shape := ⟨2, ![2, 2048]⟩
abbrev S2x2048x12288 : Shape := ⟨3, ![2, 2048, 12288]⟩
abbrev S2x4x256x256 : Shape := ⟨4, ![2, 4, 256, 256]⟩
abbrev S2x1024 : Shape := ⟨2, ![2, 1024]⟩
abbrev S2x8x128x128 : Shape := ⟨4, ![2, 8, 128, 128]⟩
abbrev S2x128x8 : Shape := ⟨3, ![2, 128, 8]⟩
abbrev S2x3x1024 : Shape := ⟨3, ![2, 3, 1024]⟩
abbrev S2x1x2048 : Shape := ⟨3, ![2, 1, 2048]⟩
abbrev S2x1x1024 : Shape := ⟨3, ![2, 1, 1024]⟩
abbrev S2x8x128 : Shape := ⟨3, ![2, 8, 128]⟩
abbrev S2x8x128x1 : Shape := ⟨4, ![2, 8, 128, 1]⟩
abbrev S16384x2048 : Shape := ⟨2, ![16384, 2048]⟩
abbrev S16384x3072 : Shape := ⟨2, ![16384, 3072]⟩
abbrev S512x2048 : Shape := ⟨2, ![512, 2048]⟩
abbrev S16x2048 : Shape := ⟨2, ![16, 2048]⟩
abbrev S1x1x2048 : Shape := ⟨3, ![1, 1, 2048]⟩
abbrev S1x2048x6144 : Shape := ⟨3, ![1, 2048, 6144]⟩
abbrev S1x4x256x256 : Shape := ⟨4, ![1, 4, 256, 256]⟩
abbrev S1x1x1024 : Shape := ⟨3, ![1, 1, 1024]⟩
abbrev S1x8x128x128 : Shape := ⟨4, ![1, 8, 128, 128]⟩
abbrev S1x3x1024 : Shape := ⟨3, ![1, 3, 1024]⟩
abbrev S512x3072 : Shape := ⟨2, ![512, 3072]⟩
abbrev S544x2048 : Shape := ⟨2, ![544, 2048]⟩
abbrev S544x1024 : Shape := ⟨2, ![544, 1024]⟩
abbrev S512x1024 : Shape := ⟨2, ![512, 1024]⟩
abbrev S1x2048 : Shape := ⟨2, ![1, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x2048x1024 : Shape := ⟨3, ![1, 2048, 1024]⟩
abbrev S2048x1024 : Shape := ⟨2, ![2048, 1024]⟩
abbrev S512x256 : Shape := ⟨2, ![512, 256]⟩
abbrev S544x256 : Shape := ⟨2, ![544, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S1x1024 : Shape := ⟨2, ![1, 1024]⟩
abbrev S128x128 : Shape := ⟨2, ![128, 128]⟩
abbrev S128x512 : Shape := ⟨2, ![128, 512]⟩
abbrev S1x1x128x128 : Shape := ⟨4, ![1, 1, 128, 128]⟩

abbrev nBuf : Space → Nat
  | .hbm => 21
  | .vmem => 22
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x12288, .f32⟩
  | .hbm, ⟨3, _⟩ => ⟨S2x4x256x256, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x128x8, .f32⟩
  | .hbm, ⟨8, _⟩ => ⟨S2x3x1024, .f32⟩
  | .hbm, ⟨9, _⟩ => ⟨S2x1x2048, .f32⟩
  | .hbm, ⟨10, _⟩ => ⟨S2x1x1024, .f32⟩
  | .hbm, ⟨11, _⟩ => ⟨S2x1x1024, .f32⟩
  | .hbm, ⟨12, _⟩ => ⟨S2x2048x12288, .bf16⟩
  | .hbm, ⟨13, _⟩ => ⟨S2x4x256x256, .bf16⟩
  | .hbm, ⟨14, _⟩ => ⟨S2x8x128x128, .bf16⟩
  | .hbm, ⟨15, _⟩ => ⟨S2x8x128, .f32⟩
  | .hbm, ⟨16, _⟩ => ⟨S2x8x128x1, .f32⟩
  | .hbm, ⟨17, _⟩ => ⟨S2x8x128x128, .f32⟩
  | .hbm, ⟨18, _⟩ => ⟨S16384x2048, .f32⟩
  | .hbm, ⟨19, _⟩ => ⟨S16384x3072, .bf16⟩
  | .hbm, ⟨20, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x1x2048, .f32⟩
  | .local _ .vmem, ⟨7, _⟩ => ⟨S1x2048x6144, .bf16⟩
  | .local _ .vmem, ⟨8, _⟩ => ⟨S1x4x256x256, .bf16⟩
  | .local _ .vmem, ⟨9, _⟩ => ⟨S1x1x1024, .f32⟩
  | .local _ .vmem, ⟨10, _⟩ => ⟨S1x1x1024, .f32⟩
  | .local _ .vmem, ⟨11, _⟩ => ⟨S1x8x128x128, .bf16⟩
  | .local _ .vmem, ⟨12, _⟩ => ⟨S1x8x128x128, .f32⟩
  | .local _ .vmem, ⟨13, _⟩ => ⟨S1x3x1024, .f32⟩
  | .local _ .vmem, ⟨14, _⟩ => ⟨S512x3072, .bf16⟩
  | .local _ .vmem, ⟨15, _⟩ => ⟨S512x3072, .bf16⟩
  | .local _ .vmem, ⟨16, _⟩ => ⟨S512x2048, .bf16⟩
  | .local _ .vmem, ⟨17, _⟩ => ⟨S512x2048, .bf16⟩
  | .local _ .vmem, ⟨18, _⟩ => ⟨S544x2048, .bf16⟩
  | .local _ .vmem, ⟨19, _⟩ => ⟨S544x1024, .f32⟩
  | .local _ .vmem, ⟨20, _⟩ => ⟨S512x1024, .bf16⟩
  | .local _ .vmem, ⟨21, _⟩ => ⟨S512x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4x4096x2048 : Shape := ⟨3, ![4, 4096, 2048]⟩
abbrev S2x2048 : Shape := ⟨2, ![2, 2048]⟩
abbrev S2x2048x12288 : Shape := ⟨3, ![2, 2048, 12288]⟩
abbrev S2x4x256x256 : Shape := ⟨4, ![2, 4, 256, 256]⟩
abbrev S2x1024 : Shape := ⟨2, ![2, 1024]⟩
abbrev S2x8x128x128 : Shape := ⟨4, ![2, 8, 128, 128]⟩
abbrev S2x128x8 : Shape := ⟨3, ![2, 128, 8]⟩
abbrev S2x3x1024 : Shape := ⟨3, ![2, 3, 1024]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x12288 : Shape := ⟨3, ![1, 2048, 12288]⟩
abbrev S2048x12288 : Shape := ⟨2, ![2048, 12288]⟩
abbrev S2048x6144 : Shape := ⟨2, ![2048, 6144]⟩
abbrev S4x4096x6144 : Shape := ⟨3, ![4, 4096, 6144]⟩
abbrev S4x4096x1024 : Shape := ⟨3, ![4, 4096, 1024]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S4096 : Shape := ⟨1, ![4096]⟩
abbrev S4x4096x256 : Shape := ⟨3, ![4, 4096, 256]⟩
abbrev S4x4097x256 : Shape := ⟨3, ![4, 4097, 256]⟩
abbrev S1x4096x1 : Shape := ⟨3, ![1, 4096, 1]⟩
abbrev S4x4099x256 : Shape := ⟨3, ![4, 4099, 256]⟩
abbrev S4x4103x256 : Shape := ⟨3, ![4, 4103, 256]⟩
abbrev S4x4111x256 : Shape := ⟨3, ![4, 4111, 256]⟩
abbrev S4x4096x4x256 : Shape := ⟨4, ![4, 4096, 4, 256]⟩
abbrev S4x256x4x4096 : Shape := ⟨4, ![4, 256, 4, 4096]⟩
abbrev S1x1x1024 : Shape := ⟨3, ![1, 1, 1024]⟩
abbrev S1x8x128x128 : Shape := ⟨4, ![1, 8, 128, 128]⟩
abbrev S8x128x128 : Shape := ⟨3, ![8, 128, 128]⟩
abbrev S1x128x8 : Shape := ⟨3, ![1, 128, 8]⟩
abbrev S128x8 : Shape := ⟨2, ![128, 8]⟩
abbrev S4x32x128x8x128 : Shape := ⟨5, ![4, 32, 128, 8, 128]⟩
abbrev S8x4x32x128x128 : Shape := ⟨5, ![8, 4, 32, 128, 128]⟩
abbrev S1x1x128x8x1 : Shape := ⟨5, ![1, 1, 128, 8, 1]⟩
abbrev S4x4096x3072 : Shape := ⟨3, ![4, 4096, 3072]⟩
abbrev S1x3x1024 : Shape := ⟨3, ![1, 3, 1024]⟩
abbrev S3x1024 : Shape := ⟨2, ![3, 1024]⟩
abbrev S4x4098x1024 : Shape := ⟨3, ![4, 4098, 1024]⟩
abbrev S16384x3072 : Shape := ⟨2, ![16384, 3072]⟩
abbrev S16384x2048 : Shape := ⟨2, ![16384, 2048]⟩

abbrev nBuf : Space → Nat
  | .hbm => 336
  | .vmem => 0
  | .smem => 0
  | _ => 0

abbrev hbmTy0_0 (i : Nat) : BufTy := match i % 128 with
  | 0 => ⟨S4x4096x2048, .f32⟩
  | 1 => ⟨S2x2048, .f32⟩
  | 2 => ⟨S2x2048x12288, .f32⟩
  | 3 => ⟨S2x4x256x256, .f32⟩
  | 4 => ⟨S2x1024, .f32⟩
  | 5 => ⟨S2x1024, .f32⟩
  | 6 => ⟨S2x8x128x128, .f32⟩
  | 7 => ⟨S2x128x8, .f32⟩
  | 8 => ⟨S2x3x1024, .f32⟩
  | 9 => ⟨S1x2048, .f32⟩
  | 10 => ⟨S2048, .f32⟩
  | 11 => ⟨S4x4096x2048, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x2048, .f32⟩
  | 23 => ⟨S4x4096x2048, .f32⟩
  | 24 => ⟨S1x1x2048, .f32⟩
  | 25 => ⟨S4x4096x2048, .f32⟩
  | 26 => ⟨S4x4096x2048, .f32⟩
  | 27 => ⟨S1x2048x12288, .f32⟩
  | 28 => ⟨S2048x12288, .f32⟩
  | 29 => ⟨S2048x6144, .f32⟩
  | 30 => ⟨S4x4096x6144, .f32⟩
  | 31 => ⟨S4x4096x1024, .f32⟩
  | 32 => ⟨S1x4x256x256, .f32⟩
  | 33 => ⟨S4x256x256, .f32⟩
  | 34 => ⟨S1x1024, .f32⟩
  | 35 => ⟨S1024, .f32⟩
  | 36 => ⟨S4096, .i32⟩
  | 37 => ⟨S_, .i32⟩
  | 38 => ⟨S4096, .i32⟩
  | 39 => ⟨S4096, .i32⟩
  | 40 => ⟨S_, .i32⟩
  | 41 => ⟨S_, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S_, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S4x4096x256, .f32⟩
  | 60 => ⟨S_, .i32⟩
  | 61 => ⟨S_, .f32⟩
  | 62 => ⟨S4x4097x256, .f32⟩
  | 63 => ⟨S4x4096x256, .f32⟩
  | 64 => ⟨S_, .f32⟩
  | 65 => ⟨S4x4096x256, .f32⟩
  | 66 => ⟨S4x4096x256, .f32⟩
  | 67 => ⟨S4x4096x256, .f32⟩
  | 68 => ⟨S4x4096x256, .f32⟩
  | 69 => ⟨S4096, .i32⟩
  | 70 => ⟨S_, .i32⟩
  | 71 => ⟨S4096, .i32⟩
  | 72 => ⟨S4096, .i32⟩
  | 73 => ⟨S4096, .f32⟩
  | 74 => ⟨S1x4096x1, .f32⟩
  | 75 => ⟨S4x4096x256, .f32⟩
  | 76 => ⟨S4x4096x256, .f32⟩
  | 77 => ⟨S_, .i32⟩
  | 78 => ⟨S4096, .i32⟩
  | 79 => ⟨S4096, .i32⟩
  | 80 => ⟨S_, .i32⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S_, .i32⟩
  | 92 => ⟨S_, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S4x4096x256, .f32⟩
  | 100 => ⟨S_, .i32⟩
  | 101 => ⟨S_, .f32⟩
  | 102 => ⟨S4x4099x256, .f32⟩
  | 103 => ⟨S4x4096x256, .f32⟩
  | 104 => ⟨S_, .f32⟩
  | 105 => ⟨S4x4096x256, .f32⟩
  | 106 => ⟨S4x4096x256, .f32⟩
  | 107 => ⟨S4x4096x256, .f32⟩
  | 108 => ⟨S4x4096x256, .f32⟩
  | 109 => ⟨S4x4096x256, .f32⟩
  | 110 => ⟨S4x4096x256, .f32⟩
  | 111 => ⟨S4x4096x256, .f32⟩
  | 112 => ⟨S4x4096x256, .f32⟩
  | 113 => ⟨S4096, .i32⟩
  | 114 => ⟨S_, .i32⟩
  | 115 => ⟨S4096, .i32⟩
  | 116 => ⟨S4096, .i32⟩
  | 117 => ⟨S4096, .f32⟩
  | 118 => ⟨S1x4096x1, .f32⟩
  | 119 => ⟨S4x4096x256, .f32⟩
  | 120 => ⟨S4x4096x256, .f32⟩
  | 121 => ⟨S_, .i32⟩
  | 122 => ⟨S4096, .i32⟩
  | 123 => ⟨S4096, .i32⟩
  | 124 => ⟨S_, .i32⟩
  | 125 => ⟨S_, .i32⟩
  | 126 => ⟨S_, .i32⟩
  | 127 => ⟨S4096, .i32⟩
  | _ => ⟨S4x4096x2048, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S4x4096x256, .f32⟩
  | 16 => ⟨S_, .i32⟩
  | 17 => ⟨S_, .f32⟩
  | 18 => ⟨S4x4103x256, .f32⟩
  | 19 => ⟨S4x4096x256, .f32⟩
  | 20 => ⟨S_, .f32⟩
  | 21 => ⟨S4x4096x256, .f32⟩
  | 22 => ⟨S4x4096x256, .f32⟩
  | 23 => ⟨S4x4096x256, .f32⟩
  | 24 => ⟨S4x4096x256, .f32⟩
  | 25 => ⟨S4x4096x256, .f32⟩
  | 26 => ⟨S4x4096x256, .f32⟩
  | 27 => ⟨S4x4096x256, .f32⟩
  | 28 => ⟨S4x4096x256, .f32⟩
  | 29 => ⟨S4x4096x256, .f32⟩
  | 30 => ⟨S4x4096x256, .f32⟩
  | 31 => ⟨S4x4096x256, .f32⟩
  | 32 => ⟨S4x4096x256, .f32⟩
  | 33 => ⟨S4x4096x256, .f32⟩
  | 34 => ⟨S4x4096x256, .f32⟩
  | 35 => ⟨S4x4096x256, .f32⟩
  | 36 => ⟨S4x4096x256, .f32⟩
  | 37 => ⟨S4096, .i32⟩
  | 38 => ⟨S_, .i32⟩
  | 39 => ⟨S4096, .i32⟩
  | 40 => ⟨S4096, .i32⟩
  | 41 => ⟨S4096, .f32⟩
  | 42 => ⟨S1x4096x1, .f32⟩
  | 43 => ⟨S4x4096x256, .f32⟩
  | 44 => ⟨S4x4096x256, .f32⟩
  | 45 => ⟨S_, .i32⟩
  | 46 => ⟨S4096, .i32⟩
  | 47 => ⟨S4096, .i32⟩
  | 48 => ⟨S_, .i32⟩
  | 49 => ⟨S_, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S_, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4x4096x256, .f32⟩
  | 68 => ⟨S_, .i32⟩
  | 69 => ⟨S_, .f32⟩
  | 70 => ⟨S4x4111x256, .f32⟩
  | 71 => ⟨S4x4096x256, .f32⟩
  | 72 => ⟨S_, .f32⟩
  | 73 => ⟨S4x4096x256, .f32⟩
  | 74 => ⟨S4x4096x256, .f32⟩
  | 75 => ⟨S4x4096x256, .f32⟩
  | 76 => ⟨S4x4096x256, .f32⟩
  | 77 => ⟨S4x4096x256, .f32⟩
  | 78 => ⟨S4x4096x256, .f32⟩
  | 79 => ⟨S4x4096x256, .f32⟩
  | 80 => ⟨S4x4096x256, .f32⟩
  | 81 => ⟨S4x4096x256, .f32⟩
  | 82 => ⟨S4x4096x256, .f32⟩
  | 83 => ⟨S4x4096x256, .f32⟩
  | 84 => ⟨S4x4096x256, .f32⟩
  | 85 => ⟨S4x4096x256, .f32⟩
  | 86 => ⟨S4x4096x256, .f32⟩
  | 87 => ⟨S4x4096x256, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S4x4096x256, .f32⟩
  | 94 => ⟨S4x4096x256, .f32⟩
  | 95 => ⟨S4x4096x256, .f32⟩
  | 96 => ⟨S4x4096x256, .f32⟩
  | 97 => ⟨S4x4096x256, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S4x4096x256, .f32⟩
  | 104 => ⟨S4x4096x256, .f32⟩
  | 105 => ⟨S4096, .i32⟩
  | 106 => ⟨S_, .i32⟩
  | 107 => ⟨S4096, .i32⟩
  | 108 => ⟨S4096, .i32⟩
  | 109 => ⟨S4096, .f32⟩
  | 110 => ⟨S1x4096x1, .f32⟩
  | 111 => ⟨S4x4096x256, .f32⟩
  | 112 => ⟨S4x4096x256, .f32⟩
  | 113 => ⟨S4x4096x1024, .f32⟩
  | 114 => ⟨S4x4096x1024, .f32⟩
  | 115 => ⟨S4x4096x4x256, .f32⟩
  | 116 => ⟨S4x256x4x4096, .f32⟩
  | 117 => ⟨S4x4096x4x256, .f32⟩
  | 118 => ⟨S4x4096x1024, .f32⟩
  | 119 => ⟨S1x1x1024, .f32⟩
  | 120 => ⟨S4x4096x1024, .f32⟩
  | 121 => ⟨S4x4096x1024, .f32⟩
  | 122 => ⟨S4x4096x2048, .f32⟩
  | 123 => ⟨S1x1024, .f32⟩
  | 124 => ⟨S1024, .f32⟩
  | 125 => ⟨S1x8x128x128, .f32⟩
  | 126 => ⟨S8x128x128, .f32⟩
  | 127 => ⟨S1x128x8, .f32⟩
  | _ => ⟨S4x4096x2048, .f32⟩

abbrev hbmTy0_2 (i : Nat) : BufTy := match i % 128 with
  | 0 => ⟨S128x8, .f32⟩
  | 1 => ⟨S4x4096x2048, .f32⟩
  | 2 => ⟨S4x4096x2048, .f32⟩
  | 3 => ⟨S_, .f32⟩
  | 4 => ⟨S4x4096x2048, .f32⟩
  | 5 => ⟨S4x4096x2048, .f32⟩
  | 6 => ⟨S4x4096x2048, .f32⟩
  | 7 => ⟨S_, .f32⟩
  | 8 => ⟨S4x4096x2048, .f32⟩
  | 9 => ⟨S4x4096x2048, .f32⟩
  | 10 => ⟨S4x4096x2048, .f32⟩
  | 11 => ⟨S_, .f32⟩
  | 12 => ⟨S4x4096x2048, .f32⟩
  | 13 => ⟨S4x4096x2048, .f32⟩
  | 14 => ⟨S_, .f32⟩
  | 15 => ⟨S4x4096x2048, .f32⟩
  | 16 => ⟨S4x4096x2048, .f32⟩
  | 17 => ⟨S4x4096x2048, .f32⟩
  | 18 => ⟨S4x4096x1024, .f32⟩
  | 19 => ⟨S4x4096x1024, .f32⟩
  | 20 => ⟨S4x4096x1024, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x1024, .f32⟩
  | 32 => ⟨S4x4096x1024, .f32⟩
  | 33 => ⟨S1x1x1024, .f32⟩
  | 34 => ⟨S4x4096x1024, .f32⟩
  | 35 => ⟨S4x4096x1024, .f32⟩
  | 36 => ⟨S4x32x128x8x128, .f32⟩
  | 37 => ⟨S8x4x32x128x128, .f32⟩
  | 38 => ⟨S4x32x128x8x128, .f32⟩
  | 39 => ⟨S1x1x128x8x1, .f32⟩
  | 40 => ⟨S4x32x128x8x128, .f32⟩
  | 41 => ⟨S4x32x128x8x128, .f32⟩
  | 42 => ⟨S4x4096x1024, .f32⟩
  | 43 => ⟨S4x4096x1024, .f32⟩
  | 44 => ⟨S4x4096x3072, .f32⟩
  | 45 => ⟨S1x3x1024, .f32⟩
  | 46 => ⟨S3x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S_, .i32⟩
  | 52 => ⟨S_, .f32⟩
  | 53 => ⟨S4x4098x1024, .f32⟩
  | 54 => ⟨S4x4096x1024, .f32⟩
  | 55 => ⟨S1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S1x1024, .f32⟩
  | 62 => ⟨S1024, .f32⟩
  | 63 => ⟨S1x1x1024, .f32⟩
  | 64 => ⟨S4x4096x1024, .f32⟩
  | 65 => ⟨S4x4096x1024, .f32⟩
  | 66 => ⟨S4x4096x1024, .f32⟩
  | 67 => ⟨S4x4096x1024, .f32⟩
  | 68 => ⟨S1x1024, .f32⟩
  | 69 => ⟨S1024, .f32⟩
  | 70 => ⟨S1x1x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x4096x3072, .f32⟩
  | 76 => ⟨S16384x3072, .f32⟩
  | 77 => ⟨S16384x3072, .bf16⟩
  | 78 => ⟨S16384x2048, .f32⟩
  | 79 => ⟨S16384x2048, .bf16⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_c_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_c_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v30 : Ref sig .tc := ⟨.hbm, 58, rfl⟩
abbrev main_v31 : Ref sig .tc := ⟨.hbm, 59, rfl⟩
abbrev main_c_7 : Ref sig .tc := ⟨.hbm, 60, rfl⟩
abbrev main_call2_v0 : Ref sig .tc := ⟨.hbm, 61, rfl⟩
abbrev main_v32 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_c_12 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v47 : Ref sig .tc := ⟨.hbm, 87, rfl⟩
abbrev main_c_13 : Ref sig .tc := ⟨.hbm, 88, rfl⟩
abbrev main_v48 : Ref sig .tc := ⟨.hbm, 89, rfl⟩
abbrev main_v49 : Ref sig .tc := ⟨.hbm, 90, rfl⟩
abbrev main_c_14 : Ref sig .tc := ⟨.hbm, 91, rfl⟩
abbrev main_c_15 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v50 : Ref sig .tc := ⟨.hbm, 98, rfl⟩
abbrev main_v51 : Ref sig .tc := ⟨.hbm, 99, rfl⟩
abbrev main_c_16 : Ref sig .tc := ⟨.hbm, 100, rfl⟩
abbrev main_call5_v0 : Ref sig .tc := ⟨.hbm, 101, rfl⟩
abbrev main_v52 : Ref sig .tc := ⟨.hbm, 102, rfl⟩
abbrev main_v53 : Ref sig .tc := ⟨.hbm, 103, rfl⟩
abbrev main_cst_17 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_18 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_19 : Ref sig .tc := ⟨.hbm, 121, rfl⟩
abbrev main_v69 : Ref sig .tc := ⟨.hbm, 122, rfl⟩
abbrev main_v70 : Ref sig .tc := ⟨.hbm, 123, rfl⟩
abbrev main_c_20 : Ref sig .tc := ⟨.hbm, 124, rfl⟩
abbrev main_c_21 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v71 : Ref sig .tc := ⟨.hbm, 131, rfl⟩
abbrev main_c_22 : Ref sig .tc := ⟨.hbm, 132, rfl⟩
abbrev main_v72 : Ref sig .tc := ⟨.hbm, 133, rfl⟩
abbrev main_v73 : Ref sig .tc := ⟨.hbm, 134, rfl⟩
abbrev main_c_23 : Ref sig .tc := ⟨.hbm, 135, rfl⟩
abbrev main_c_24 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_v74 : Ref sig .tc := ⟨.hbm, 142, rfl⟩
abbrev main_v75 : Ref sig .tc := ⟨.hbm, 143, rfl⟩
abbrev main_c_25 : Ref sig .tc := ⟨.hbm, 144, rfl⟩
abbrev main_call8_v0 : Ref sig .tc := ⟨.hbm, 145, rfl⟩
abbrev main_v76 : Ref sig .tc := ⟨.hbm, 146, rfl⟩
abbrev main_v77 : Ref sig .tc := ⟨.hbm, 147, rfl⟩
abbrev main_cst_26 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_c_27 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_c_28 : Ref sig .tc := ⟨.hbm, 173, rfl⟩
abbrev main_v101 : Ref sig .tc := ⟨.hbm, 174, rfl⟩
abbrev main_v102 : Ref sig .tc := ⟨.hbm, 175, rfl⟩
abbrev main_c_29 : Ref sig .tc := ⟨.hbm, 176, rfl⟩
abbrev main_c_30 : Ref sig .tc := ⟨.hbm, 177, rfl⟩
abbrev main_call9_v0 : Ref sig .tc := ⟨.hbm, 178, rfl⟩
abbrev main_call9_v1 : Ref sig .tc := ⟨.hbm, 179, rfl⟩
abbrev main_call9_v2 : Ref sig .tc := ⟨.hbm, 180, rfl⟩
abbrev main_call9_v3 : Ref sig .tc := ⟨.hbm, 181, rfl⟩
abbrev main_call9_v4 : Ref sig .tc := ⟨.hbm, 182, rfl⟩
abbrev main_v103 : Ref sig .tc := ⟨.hbm, 183, rfl⟩
abbrev main_c_31 : Ref sig .tc := ⟨.hbm, 184, rfl⟩
abbrev main_v104 : Ref sig .tc := ⟨.hbm, 185, rfl⟩
abbrev main_v105 : Ref sig .tc := ⟨.hbm, 186, rfl⟩
abbrev main_c_32 : Ref sig .tc := ⟨.hbm, 187, rfl⟩
abbrev main_c_33 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_call10_v3 : Ref sig .tc := ⟨.hbm, 192, rfl⟩
abbrev main_call10_v4 : Ref sig .tc := ⟨.hbm, 193, rfl⟩
abbrev main_v106 : Ref sig .tc := ⟨.hbm, 194, rfl⟩
abbrev main_v107 : Ref sig .tc := ⟨.hbm, 195, rfl⟩
abbrev main_c_34 : Ref sig .tc := ⟨.hbm, 196, rfl⟩
abbrev main_call11_v0 : Ref sig .tc := ⟨.hbm, 197, rfl⟩
abbrev main_v108 : Ref sig .tc := ⟨.hbm, 198, rfl⟩
abbrev main_v109 : Ref sig .tc := ⟨.hbm, 199, rfl⟩
abbrev main_cst_35 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_c_36 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_cst_37 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_cst_38 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_39 : Ref sig .tc := ⟨.hbm, 267, rfl⟩
abbrev main_v173 : Ref sig .tc := ⟨.hbm, 268, rfl⟩
abbrev main_v174 : Ref sig .tc := ⟨.hbm, 269, rfl⟩
abbrev main_cst_40 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_cst_41 : Ref sig .tc := ⟨.hbm, 277, rfl⟩
abbrev main_v181 : Ref sig .tc := ⟨.hbm, 278, rfl⟩
abbrev main_v182 : Ref sig .tc := ⟨.hbm, 279, rfl⟩
abbrev main_cst_42 : Ref sig .tc := ⟨.hbm, 280, rfl⟩
abbrev main_v183 : Ref sig .tc := ⟨.hbm, 281, rfl⟩
abbrev main_v184 : Ref sig .tc := ⟨.hbm, 282, rfl⟩
abbrev main_cst_43 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_c_44 : Ref sig .tc := ⟨.hbm, 307, rfl⟩
abbrev main_call12_v0 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩

abbrev nD : Nat := 1
abbrev τ : Topo := Topo.v7x

variable {F : FTy → Type} [FloatOps F]
-- ==== Kernel2.lean ====
abbrev S16384x2048 : Shape := ⟨2, ![16384, 2048]⟩
abbrev S16384x3072 : Shape := ⟨2, ![16384, 3072]⟩
abbrev S2x2048x12288 : Shape := ⟨3, ![2, 2048, 12288]⟩
abbrev S2x1024x2048 : Shape := ⟨3, ![2, 1024, 2048]⟩
abbrev S2x2048x2048 : Shape := ⟨3, ![2, 2048, 2048]⟩
abbrev S1024x2048 : Shape := ⟨2, ![1024, 2048]⟩
abbrev S1024x3072 : Shape := ⟨2, ![1024, 3072]⟩
abbrev S1x2048x256 : Shape := ⟨3, ![1, 2048, 256]⟩
abbrev S1x1024x256 : Shape := ⟨3, ![1, 1024, 256]⟩
abbrev S1x1024x2048 : Shape := ⟨3, ![1, 1024, 2048]⟩
abbrev S3x1024x256 : Shape := ⟨3, ![3, 1024, 256]⟩
abbrev S512x2048 : Shape := ⟨2, ![512, 2048]⟩
abbrev S2048x256 : Shape := ⟨2, ![2048, 256]⟩
abbrev S512x256 : Shape := ⟨2, ![512, 256]⟩
abbrev S512x1024 : Shape := ⟨2, ![512, 1024]⟩
abbrev S1024x256 : Shape := ⟨2, ![1024, 256]⟩
abbrev S1x512x256 : Shape := ⟨3, ![1, 512, 256]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 13
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S2x2048x12288, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S2x2048x12288, .bf16⟩
  | .hbm, ⟨8, _⟩ => ⟨S2x1024x2048, .bf16⟩
  | .hbm, ⟨9, _⟩ => ⟨S2x1024x2048, .bf16⟩
  | .hbm, ⟨10, _⟩ => ⟨S2x1024x2048, .bf16⟩
  | .hbm, ⟨11, _⟩ => ⟨S2x2048x2048, .bf16⟩
  | .hbm, ⟨12, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x3072, .bf16⟩
  | .local _ .vmem, ⟨3, _⟩ => ⟨S1024x3072, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1024x2048, .f32⟩
  | .local _ .vmem, ⟨19, _⟩ => ⟨S1024x2048, .f32⟩
  | .local _ .vmem, ⟨20, _⟩ => ⟨S3x1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def k0_cond4 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_20 : BitVec 32 := 0#32
  let v41 : BitVec 1 := Scalar.cmpi .ne v40 c0_i32_20
  v41

def k0_cond5 (i : grid0.Coords) : BitVec 1 :=
  let arg1 : BitVec 32 := BitVec.ofNat 32 (i 1).val
  let c4_i32_21 : BitVec 32 := 4#32
  let c0_i32_22 : BitVec 32 := 0#32
  let v42 : BitVec 1 := Scalar.cmpi .eq c4_i32_21 c0_i32_22
  let c1_i32_23 : BitVec 32 := 1#32
  let v43 : BitVec 32 := Scalar.select v42 c1_i32_23 c4_i32_21
  let v44 : BitVec 32 := Scalar.remsi arg1 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c3_i32_27 : BitVec 32 := 3#32
  let v52 : BitVec 1 := Scalar.cmpi .eq v51 c3_i32_27
  let c4_i32_28 : BitVec 32 := 4#32
  let v53 : BitVec 1 := Scalar.cmpi .sge arg1 c4_i32_28
  let v54 : BitVec 1 := Scalar.andi v52 v53
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S16384x3072 : Shape := ⟨2, ![16384, 3072]⟩
abbrev S2x2048x12288 : Shape := ⟨3, ![2, 2048, 12288]⟩
abbrev S2x1024x2048 : Shape := ⟨3, ![2, 1024, 2048]⟩
abbrev S2x2048x2048 : Shape := ⟨3, ![2, 2048, 2048]⟩
abbrev S1x2048x12288 : Shape := ⟨3, ![1, 2048, 12288]⟩
abbrev S2048x12288 : Shape := ⟨2, ![2048, 12288]⟩
abbrev S2048x6144 : Shape := ⟨2, ![2048, 6144]⟩
abbrev S16384x6144 : Shape := ⟨2, ![16384, 6144]⟩
abbrev S_ : Shape := ⟨0, ![]⟩
abbrev S16384x3x2048 : Shape := ⟨3, ![16384, 3, 2048]⟩
abbrev S16384x1024 : Shape := ⟨2, ![16384, 1024]⟩
abbrev S16384x1x2048 : Shape := ⟨3, ![16384, 1, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S2x2048x12288, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x2048x2048, .f32⟩
  | .hbm, ⟨7, _⟩ => ⟨S16384x2048, .f32⟩
  | .hbm, ⟨8, _⟩ => ⟨S16384x3072, .f32⟩
  | .hbm, ⟨9, _⟩ => ⟨S1x2048x12288, .f32⟩
  | .hbm, ⟨10, _⟩ => ⟨S2048x12288, .f32⟩
  | .hbm, ⟨11, _⟩ => ⟨S2048x6144, .f32⟩
  | .hbm, ⟨12, _⟩ => ⟨S16384x6144, .f32⟩
  | .hbm, ⟨13, _⟩ => ⟨S16384x6144, .f32⟩
  | .hbm, ⟨14, _⟩ => ⟨S16384x6144, .f32⟩
  | .hbm, ⟨15, _⟩ => ⟨S_, .f32⟩
  | .hbm, ⟨16, _⟩ => ⟨S16384x6144, .f32⟩
  | .hbm, ⟨17, _⟩ => ⟨S16384x6144, .f32⟩
  | .hbm, ⟨18, _⟩ => ⟨S_, .f32⟩
  | .hbm, ⟨19, _⟩ => ⟨S16384x6144, .f32⟩
  | .hbm, ⟨20, _⟩ => ⟨S16384x6144, .f32⟩
  | .hbm, ⟨21, _⟩ => ⟨S16384x3x2048, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x2048, .f32⟩
  | .hbm, ⟨26, _⟩ => ⟨S16384x2048, .f32⟩
  | .hbm, ⟨27, _⟩ => ⟨S1x1024x2048, .f32⟩
  | .hbm, ⟨28, _⟩ => ⟨S1024x2048, .f32⟩
  | .hbm, ⟨29, _⟩ => ⟨S16384x2048, .f32⟩
  | .hbm, ⟨30, _⟩ => ⟨S16384x2048, .f32⟩
  | .hbm, ⟨31, _⟩ => ⟨S16384x1x2048, .f32⟩
  | .hbm, ⟨32, _⟩ => ⟨S16384x2048, .f32⟩
  | .hbm, ⟨33, _⟩ => ⟨S1x1024x2048, .f32⟩
  | .hbm, ⟨34, _⟩ => ⟨S1024x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x1x2048, .f32⟩
  | .hbm, ⟨39, _⟩ => ⟨S16384x2048, .f32⟩
  | .hbm, ⟨40, _⟩ => ⟨S1x1024x2048, .f32⟩
  | .hbm, ⟨41, _⟩ => ⟨S1024x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S1x2048x2048, .f32⟩
  | .hbm, ⟨46, _⟩ => ⟨S2048x2048, .f32⟩
  | .hbm, ⟨47, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel3.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x5632x2048 : Shape := ⟨3, ![2, 5632, 2048]⟩
abbrev S2048 : Shape := ⟨1, ![2048]⟩
abbrev S64 : Shape := ⟨1, ![64]⟩
abbrev S2x1x2048 : Shape := ⟨3, ![2, 1, 2048]⟩
abbrev S16384x2048 : Shape := ⟨2, ![16384, 2048]⟩
abbrev S1x2048 : Shape := ⟨2, ![1, 2048]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x2048 : Shape := ⟨2, ![64, 2048]⟩
abbrev S2x3x22x512 : Shape := ⟨4, ![2, 3, 22, 512]⟩
abbrev S2x22x3x512 : Shape := ⟨4, ![2, 22, 3, 512]⟩
abbrev S512x2048 : Shape := ⟨2, ![512, 2048]⟩
abbrev S1x1x2048 : Shape := ⟨3, ![1, 1, 2048]⟩
abbrev S1x2048x512 : Shape := ⟨3, ![1, 2048, 512]⟩
abbrev S1x22x3x512 : Shape := ⟨4, ![1, 22, 3, 512]⟩
abbrev S1x512x2048 : Shape := ⟨3, ![1, 512, 2048]⟩
abbrev S16x576x128 : Shape := ⟨3, ![16, 576, 128]⟩
abbrev S11x64x512 : Shape := ⟨3, ![11, 64, 512]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S8x2048 : Shape := ⟨2, ![8, 2048]⟩
abbrev S512 : Shape := ⟨1, ![512]⟩
abbrev S512x1 : Shape := ⟨2, ![512, 1]⟩
abbrev S2048x512 : Shape := ⟨2, ![2048, 512]⟩
abbrev S64x512 : Shape := ⟨2, ![64, 512]⟩
abbrev S1x64x512 : Shape := ⟨3, ![1, 64, 512]⟩
abbrev S8x1 : Shape := ⟨2, ![8, 1]⟩
abbrev S512x512 : Shape := ⟨2, ![512, 512]⟩
abbrev S1x1x512 : Shape := ⟨3, ![1, 1, 512]⟩
abbrev S1x512 : Shape := ⟨2, ![1, 512]⟩
abbrev S8x512 : Shape := ⟨2, ![8, 512]⟩
abbrev S504x512 : Shape := ⟨2, ![504, 512]⟩
abbrev S1x1x3x512 : Shape := ⟨4, ![1, 1, 3, 512]⟩
abbrev S3x512 : Shape := ⟨2, ![3, 512]⟩
abbrev S512x128 : Shape := ⟨2, ![512, 128]⟩
abbrev S1x512x128 : Shape := ⟨3, ![1, 512, 128]⟩
abbrev S8 : Shape := ⟨1, ![8]⟩

abbrev nBuf : Space → Nat
  | .hbm => 63
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2x2048, .f32⟩
  | .hbm, ⟨3, _⟩ => ⟨S2x2048x11264, .f32⟩
  | .hbm, ⟨4, _⟩ => ⟨S2x3x11264, .f32⟩
  | .hbm, ⟨5, _⟩ => ⟨S2x5632x2048, .f32⟩
  | .hbm, ⟨6, _⟩ => ⟨S2048, .f32⟩
  | .hbm, ⟨7, _⟩ => ⟨S64, .i32⟩
  | .hbm, ⟨8, _⟩ => ⟨S2x1x2048, .f32⟩
  | .hbm, ⟨9, _⟩ => ⟨S2x2048x11264, .bf16⟩
  | .hbm, ⟨10, _⟩ => ⟨S2x5632x2048, .bf16⟩
  | .hbm, ⟨11, _⟩ => ⟨S16384x2048, .f32⟩
  | .hbm, ⟨12, _⟩ => ⟨S16384x2048, .f32⟩
  | .hbm, ⟨13, _⟩ => ⟨S1x2048, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S1, .i32⟩
  | .hbm, ⟨23, _⟩ => ⟨S_, .i32⟩
  | .hbm, ⟨24, _⟩ => ⟨S64x1, .i32⟩
  | .hbm, ⟨25, _⟩ => ⟨S64x1, .i1⟩
  | .hbm, ⟨26, _⟩ => ⟨S1x1, .i32⟩
  | .hbm, ⟨27, _⟩ => ⟨S64x1, .i32⟩
  | .hbm, ⟨28, _⟩ => ⟨S64x1, .i1⟩
  | .hbm, ⟨29, _⟩ => ⟨S64x1, .i1⟩
  | .hbm, ⟨30, _⟩ => ⟨S_, .i1⟩
  | .hbm, ⟨31, _⟩ => ⟨S64, .i1⟩
  | .hbm, ⟨32, _⟩ => ⟨S64x2048, .f32⟩
  | .hbm, ⟨33, _⟩ => ⟨S64x2048, .i1⟩
  | .hbm, ⟨34, _⟩ => ⟨S_, .f32⟩
  | .hbm, ⟨35, _⟩ => ⟨S64x2048, .f32⟩
  | .hbm, ⟨36, _⟩ => ⟨S64x2048, .f32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S1, .i32⟩
  | .hbm, ⟨46, _⟩ => ⟨S_, .i32⟩
  | .hbm, ⟨47, _⟩ => ⟨S64x1, .i32⟩
  | .hbm, ⟨48, _⟩ => ⟨S64x1, .i1⟩
  | .hbm, ⟨49, _⟩ => ⟨S1x1, .i32⟩
  | .hbm, ⟨50, _⟩ => ⟨S64x1, .i32⟩
  | .hbm, ⟨51, _⟩ => ⟨S64x1, .i1⟩
  | .hbm, ⟨52, _⟩ => ⟨S64x1, .i1⟩
  | .hbm, ⟨53, _⟩ => ⟨S_, .i1⟩
  | .hbm, ⟨54, _⟩ => ⟨S64, .i1⟩
  | .hbm, ⟨55, _⟩ => ⟨S64x2048, .f32⟩
  | .hbm, ⟨56, _⟩ => ⟨S64x2048, .i1⟩
  | .hbm, ⟨57, _⟩ => ⟨S_, .f32⟩
  | .hbm, ⟨58, _⟩ => ⟨S64x2048, .f32⟩
  | .hbm, ⟨59, _⟩ => ⟨S64x2048, .f32⟩
  | .hbm, ⟨60, _⟩ => ⟨S2x3x22x512, .f32⟩
  | .hbm, ⟨61, _⟩ => ⟨S2x22x3x512, .f32⟩
  | .hbm, ⟨62, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S64x2048, .f32⟩
  | .local _ .vmem, ⟨5, _⟩ => ⟨S64x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x22x3x512, .f32⟩
  | .local _ .vmem, ⟨12, _⟩ => ⟨S1x512x2048, .bf16⟩
  | .local _ .vmem, ⟨13, _⟩ => ⟨S1x512x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .f32⟩
  | .local _ .vmem, ⟨19, _⟩ => ⟨S16x576x128, .f32⟩
  | .local _ .vmem, ⟨20, _⟩ => ⟨S64x2048, .bf16⟩
  | .local _ .vmem, ⟨21, _⟩ => ⟨S11x64x512, .f32⟩
  | .local _ .vmem, ⟨22, _⟩ => ⟨S11x64x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v6 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_932 : BitVec 32 := 0#32
  let c64_i32 : BitVec 32 := 64#32
  let v1183 : BitVec 32 := Scalar.addi c0_i32_932 c64_i32
  let c1_i32_933 : BitVec 32 := 1#32
  ⟨c0_i32_932, v1183, c1_i32_933⟩
def k0_off1 (k0_t1 : Fin k0_t1_loop.trips) : Fin 3 → Nat :=
  let c0_945 : Index := 0#32
  let c0_i32_932 : BitVec 32 := 0#32
  let c1_i32_933 : BitVec 32 := 1#32
  let arg19 : BitVec 32 := Scf.iv c0_i32_932 c1_i32_933 k0_t1
  let v1203 : Index := Scalar.indexCast arg19
  let c0_946 : Index := 0#32
  ![0, v1203.toNat, 0]
def k0_off2 (k0_t1 : Fin k0_t1_loop.trips) : Fin 3 → Nat :=
  let c1_947 : Index := 1#32
  let c0_i32_932 : BitVec 32 := 0#32
  let c1_i32_933 : BitVec 32 := 1#32
  let arg19 : BitVec 32 := Scf.iv c0_i32_932 c1_i32_933 k0_t1
  let v1206 : Index := Scalar.indexCast arg19
  let c0_948 : Index := 0#32
  ![1, v1206.toNat, 0]
def k0_off3 (k0_t1 : Fin k0_t1_loop.trips) : Fin 3 → Nat :=
  let c2_949 : Index := 2#32
  let c0_i32_932 : BitVec 32 := 0#32
  let c1_i32_933 : BitVec 32 := 1#32
  let arg19 : BitVec 32 := Scf.iv c0_i32_932 c1_i32_933 k0_t1
  let v1209 : Index := Scalar.indexCast arg19
  let c0_950 : Index := 0#32
  ![2, v1209.toNat, 0]
def k0_off4 (k0_t1 : Fin k0_t1_loop.trips) : Fin 3 → Nat :=
  let c3_951 : Index := 3#32
  let c0_i32_932 : BitVec 32 := 0#32
  let c1_i32_933 : BitVec 32 := 1#32
  let arg19 : BitVec 32 := Scf.iv c0_i32_932 c1_i32_933 k0_t1
  let v1212 : Index := Scalar.indexCast arg19
  let c0_952 : Index := 0#32
  ![3, v1212.toNat, 0]
def k0_off5 (k0_t1 : Fin k0_t1_loop.trips) : Fin 3 → Nat :=
  let c4_953 : Index := 4#32
  let c0_i32_932 : BitVec 32 := 0#32
  let c1_i32_933 : BitVec 32 := 1#32
  let arg19 : BitVec 32 := Scf.iv c0_i32_932 c1_i32_933 k0_t1
  let v1215 : Index := Scalar.indexCast arg19
  let c0_954 : Index := 0#32
  ![4, v1215.toNat, 0]
def k0_off6 (k0_t1 : Fin k0_t1_loop.trips) : Fin 3 → Nat :=
  let c5_955 : Index := 5#32
  let c0_i32_932 : BitVec 32 := 0#32
  let c1_i32_933 : BitVec 32 := 1#32
  let arg19 : BitVec 32 := Scf.iv c0_i32_932 c1_i32_933 k0_t1
  let v1218 : Index := Scalar.indexCast arg19
  let c0_956 : Index := 0#32
  ![5, v1218.toNat, 0]
def k0_off7 (k0_t1 : Fin k0_t1_loop.trips) : Fin 3 → Nat :=
  let c6_957 : Index := 6#32
  let c0_i32_932 : BitVec 32 := 0#32
  let c1_i32_933 : BitVec 32 := 1#32
  let arg19 : BitVec 32 := Scf.iv c0_i32_932 c1_i32_933 k0_t1
  let v1221 : Index := Scalar.indexCast arg19
  let c0_958 : Index := 0#32
  ![6, v1221.toNat, 0]
def k0_off8 (k0_t1 : Fin k0_t1_loop.trips) : Fin 3 → Nat :=
  let c7_959 : Index := 7#32
  let c0_i32_932 : BitVec 32 := 0#32
  let c1_i32_933 : BitVec 32 := 1#32
  let arg19 : BitVec 32 := Scf.iv c0_i32_932 c1_i32_933 k0_t1
  let v1224 : Index := Scalar.indexCast arg19
  let c0_960 : Index := 0#32
  ![7, v1224.toNat, 0]
def k0_off9 (k0_t1 : Fin k0_t1_loop.trips) : Fin 3 → Nat :=
  let c8_961 : Index := 8#32
  let c0_i32_932 : BitVec 32 := 0#32
  let c1_i32_933 : BitVec 32 := 1#32
  let arg19 : BitVec 32 := Scf.iv c0_i32_932 c1_i32_933 k0_t1
  let v1227 : Index := Scalar.indexCast arg19
  let c0_962 : Index := 0#32
  ![8, v1227.toNat, 0]
def k0_off10 (k0_t1 : Fin k0_t1_loop.trips) : Fin 3 → Nat :=
  let c9_963 : Index := 9#32
  let c0_i32_932 : BitVec 32 := 0#32
  let c1_i32_933 : BitVec 32 := 1#32
  let arg19 : BitVec 32 := Scf.iv c0_i32_932 c1_i32_933 k0_t1
  let v1230 : Index := Scalar.indexCast arg19
  let c0_964 : Index := 0#32
  ![9, v1230.toNat, 0]
def k0_off11 (k0_t1 : Fin k0_t1_loop.trips) : Fin 3 → Nat :=
  let c10_965 : Index := 10#32
  let c0_i32_932 : BitVec 32 := 0#32
  let c1_i32_933 : BitVec 32 := 1#32
  let arg19 : BitVec 32 := Scf.iv c0_i32_932 c1_i32_933 k0_t1
  let v1233 : Index := Scalar.indexCast arg19
  let c0_966 : Index := 0#32
  ![10, v1233.toNat, 0]
def k0_off12 (k0_t1 : Fin k0_t1_loop.trips) : Fin 3 → Nat :=
  let c11_967 : Index := 11#32
  let c0_i32_932 : BitVec 32 := 0#32
  let c1_i32_933 : BitVec 32 := 1#32
  let arg19 : BitVec 32 := Scf.iv c0_i32_932 c1_i32_933 k0_t1
  let v1236 : Index := Scalar.indexCast arg19
  let c0_968 : Index := 0#32
  ![11, v1236.toNat, 0]
def k0_off13 (k0_t1 : Fin k0_t1_loop.trips) : Fin 3 → Nat :=
  let c12_969 : Index := 12#32
  let c0_i32_932 : BitVec 32 := 0#32
  let c1_i32_933 : BitVec 32 := 1#32
  let arg19 : BitVec 32 := Scf.iv c0_i32_932 c1_i32_933 k0_t1
  let v1239 : Index := Scalar.indexCast arg19
  let c0_970 : Index := 0#32
  ![12, v1239.toNat, 0]
def k0_off14 (k0_t1 : Fin k0_t1_loop.trips) : Fin 3 → Nat :=
  let c13_971 : Index := 13#32
  let c0_i32_932 : BitVec 32 := 0#32
  let c1_i32_933 : BitVec 32 := 1#32
  let arg19 : BitVec 32 := Scf.iv c0_i32_932 c1_i32_933 k0_t1
  let v1242 : Index := Scalar.indexCast arg19
  let c0_972 : Index := 0#32
  ![13, v1242.toNat, 0]
def k0_off15 (k0_t1 : Fin k0_t1_loop.trips) : Fin 3 → Nat :=
  let c14_973 : Index := 14#32
  let c0_i32_932 : BitVec 32 := 0#32
  let c1_i32_933 : BitVec 32 := 1#32
  let arg19 : BitVec 32 := Scf.iv c0_i32_932 c1_i32_933 k0_t1
  let v1245 : Index := Scalar.indexCast arg19
  let c0_974 : Index := 0#32
  ![14, v1245.toNat, 0]
def k0_off16 (k0_t1 : Fin k0_t1_loop.trips) : Fin 3 → Nat :=
  let c15_975 : Index := 15#32
  let c0_i32_932 : BitVec 32 := 0#32
  let c1_i32_933 : BitVec 32 := 1#32
  let arg19 : BitVec 32 := Scf.iv c0_i32_932 c1_i32_933 k0_t1
  let v1248 : Index := Scalar.indexCast arg19
  let c0_976 : Index := 0#32
  ![15, v1248.toNat, 0]
def k0_mult1 (k0_t1 : Fin k0_t1_loop.trips) : BitVec 32 :=
  let c8_i32_977 : BitVec 32 := 8#32
  let c0_i32_932 : BitVec 32 := 0#32
  let c1_i32_933 : BitVec 32 := 1#32
  let arg19 : BitVec 32 := Scf.iv c0_i32_932 c1_i32_933 k0_t1
  let v1252 : BitVec 32 := Scalar.muli c8_i32_977 arg19
  v1252
def k0_off17 (k0_t1 : Fin k0_t1_loop.trips) : Fin 2 → Nat :=
  let c8_i32_977 : BitVec 32 := 8#32
  let c0_i32_932 : BitVec 32 := 0#32
  let c1_i32_933 : BitVec 32 := 1#32
  let arg19 : BitVec 32 := Scf.iv c0_i32_932 c1_i32_933 k0_t1
  let v1252 : BitVec 32 := Scalar.muli c8_i32_977 arg19
  let v1253 : BitVec 32 := v1252
  let v1254 : Index := Scalar.indexCast v1253
  let c0_978 : Index := 0#32
  ![v1254.toNat, 0]
def k0_cond3 (i : grid0.Coords) : BitVec 1 :=
  let arg0 : BitVec 32 := BitVec.ofNat 32 (i 0).val
  let c0_i32_8 : BitVec 32 := 0#32
  let v18 : BitVec 1 := Scalar.cmpi .eq arg0 c0_i32_8
  let v19 : BitVec 32 := Scalar.extui v18
  let c0_i32_9 : BitVec 32 := 0#32
  let v20 : BitVec 1 := Scalar.cmpi .ne v19 c0_i32_9
  v20

def k0_off18 (i : grid0.Coords) : Fin 3 → Nat :=
  let arg1 : BitVec 32 := BitVec.ofNat 32 (i 1).val
  let v163 : Index := Scalar.indexCast arg1
  let c0_81 : Index := 0#32
  let c0_82 : Index := 0#32
  ![v163.toNat, 0, 0]
def k0_off19 (i : grid0.Coords) : Fin 3 → Nat :=
  let arg1 : BitVec 32 := BitVec.ofNat 32 (i 1).val
  let v27 : Index := Scalar.indexCast arg1
  let arg0 : BitVec 32 := BitVec.ofNat 32 (i 0).val
  let v28 : Index := Scalar.indexCast arg0
  let c0_15 : Index := 0#32
  ![v27.toNat, v28.toNat, 0]
def k0_off20 (i : grid0.Coords) : Fin 3 → Nat :=
  let arg1 : BitVec 32 := BitVec.ofNat 32 (i 1).val
  let v35 : Index := Scalar.indexCast arg1
  let c32_i32 : BitVec 32 := 32#32
  let arg0 : BitVec 32 := BitVec.ofNat 32 (i 0).val
  let v34 : BitVec 32 := Scalar.addi c32_i32 arg0
  let v36 : Index := Scalar.indexCast v34
  let c0_17 : Index := 0#32
  ![v35.toNat, v36.toNat, 0]
def k0_off21 (i : grid0.Coords) : Fin 4 → Nat :=
  let c0_i32_23 : BitVec 32 := 0#32
  let arg1 : BitVec 32 := BitVec.ofNat 32 (i 1).val
  let c0_i32_24 : BitVec 32 := 0#32
  let c0_i32_25 : BitVec 32 := 0#32
  ![0, arg1.toNat, 0, 0]
def k0_off22 (i : grid0.Coords) : Fin 4 → Nat :=
  let c0_i32_51 : BitVec 32 := 0#32
  let c11_i32 : BitVec 32 := 11#32
  let arg1 : BitVec 32 := BitVec.ofNat 32 (i 1).val
  let v86 : BitVec 32 := Scalar.addi c11_i32 arg1
  let c0_i32_52 : BitVec 32 := 0#32
  let c0_i32_53 : BitVec 32 := 0#32
  ![0, v86.toNat, 0, 0]
def k0_cond4 (i : grid0.Coords) : BitVec 1 :=
  let arg1 : BitVec 32 := BitVec.ofNat 32 (i 1).val
  let c10_i32 : BitVec 32 := 10#32
  let v156 : BitVec 1 := Scalar.cmpi .eq arg1 c10_i32
  let v157 : BitVec 32 := Scalar.extui v156
  let c0_i32_74 : BitVec 32 := 0#32
  let v158 : BitVec 1 := Scalar.cmpi .ne v157 c0_i32_74
  v158

@[reducible] def k0_t2_loop : Scf.Loop 32 :=
  let c0_i32_127 : BitVec 32 := 0#32
  let c64_i32 : BitVec 32 := 64#32
  let v223 : BitVec 32 := Scalar.addi c0_i32_127 c64_i32
  let c1_i32_128 : BitVec 32 := 1#32
  ⟨c0_i32_127, v223, c1_i32_128⟩
def k0_off23 (k0_t2 : Fin k0_t2_loop.trips) : Fin 3 → Nat :=
  let c0_144 : Index := 0#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v253 : Index := Scalar.indexCast v252
  let c0_145 : Index := 0#32
  ![0, v253.toNat, 0]
def k0_off24 (k0_t2 : Fin k0_t2_loop.trips) : Fin 3 → Nat :=
  let c1_146 : Index := 1#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v256 : Index := Scalar.indexCast v252
  let c0_147 : Index := 0#32
  ![1, v256.toNat, 0]
def k0_off25 (k0_t2 : Fin k0_t2_loop.trips) : Fin 3 → Nat :=
  let c2_148 : Index := 2#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v259 : Index := Scalar.indexCast v252
  let c0_149 : Index := 0#32
  ![2, v259.toNat, 0]
def k0_off26 (k0_t2 : Fin k0_t2_loop.trips) : Fin 3 → Nat :=
  let c3_150 : Index := 3#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v262 : Index := Scalar.indexCast v252
  let c0_151 : Index := 0#32
  ![3, v262.toNat, 0]
def k0_off27 (k0_t2 : Fin k0_t2_loop.trips) : Fin 3 → Nat :=
  let c4_152 : Index := 4#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v265 : Index := Scalar.indexCast v252
  let c0_153 : Index := 0#32
  ![4, v265.toNat, 0]
def k0_off28 (k0_t2 : Fin k0_t2_loop.trips) : Fin 3 → Nat :=
  let c5_154 : Index := 5#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v268 : Index := Scalar.indexCast v252
  let c0_155 : Index := 0#32
  ![5, v268.toNat, 0]
def k0_off29 (k0_t2 : Fin k0_t2_loop.trips) : Fin 3 → Nat :=
  let c6_156 : Index := 6#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v271 : Index := Scalar.indexCast v252
  let c0_157 : Index := 0#32
  ![6, v271.toNat, 0]
def k0_off30 (k0_t2 : Fin k0_t2_loop.trips) : Fin 3 → Nat :=
  let c7_158 : Index := 7#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v274 : Index := Scalar.indexCast v252
  let c0_159 : Index := 0#32
  ![7, v274.toNat, 0]
def k0_off31 (k0_t2 : Fin k0_t2_loop.trips) : Fin 3 → Nat :=
  let c8_160 : Index := 8#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v277 : Index := Scalar.indexCast v252
  let c0_161 : Index := 0#32
  ![8, v277.toNat, 0]
def k0_off32 (k0_t2 : Fin k0_t2_loop.trips) : Fin 3 → Nat :=
  let c9_162 : Index := 9#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v280 : Index := Scalar.indexCast v252
  let c0_163 : Index := 0#32
  ![9, v280.toNat, 0]
def k0_off33 (k0_t2 : Fin k0_t2_loop.trips) : Fin 3 → Nat :=
  let c10_164 : Index := 10#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v283 : Index := Scalar.indexCast v252
  let c0_165 : Index := 0#32
  ![10, v283.toNat, 0]
def k0_off34 (k0_t2 : Fin k0_t2_loop.trips) : Fin 3 → Nat :=
  let c11_166 : Index := 11#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v286 : Index := Scalar.indexCast v252
  let c0_167 : Index := 0#32
  ![11, v286.toNat, 0]
def k0_off35 (k0_t2 : Fin k0_t2_loop.trips) : Fin 3 → Nat :=
  let c12_168 : Index := 12#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v289 : Index := Scalar.indexCast v252
  let c0_169 : Index := 0#32
  ![12, v289.toNat, 0]
def k0_off36 (k0_t2 : Fin k0_t2_loop.trips) : Fin 3 → Nat :=
  let c13_170 : Index := 13#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v292 : Index := Scalar.indexCast v252
  let c0_171 : Index := 0#32
  ![13, v292.toNat, 0]
def k0_off37 (k0_t2 : Fin k0_t2_loop.trips) : Fin 3 → Nat :=
  let c14_172 : Index := 14#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v295 : Index := Scalar.indexCast v252
  let c0_173 : Index := 0#32
  ![14, v295.toNat, 0]
def k0_off38 (k0_t2 : Fin k0_t2_loop.trips) : Fin 3 → Nat :=
  let c15_174 : Index := 15#32
  let c64_i32_136 : BitVec 32 := 64#32
  let c0_i32_127 : BitVec 32 := 0#32
  let c1_i32_128 : BitVec 32 := 1#32
  let arg19 : BitVec 32 := Scf.iv c0_i32_127 c1_i32_128 k0_t2
  let c8_i32_130 : BitVec 32 := 8#32
  let c0_i32_131 : BitVec 32 := 0#32
  let v224 : BitVec 1 := Scalar.cmpi .eq c8_i32_130 c0_i32_131
  let c1_i32_132 : BitVec 32 := 1#32
  let v225 : BitVec 32 := Scalar.select v224 c1_i32_132 c8_i32_130
  let v226 : BitVec 32 := Scalar.remsi arg19 v225
  let c0_i32_134 : BitVec 32 := 0#32
  let v228 : BitVec 1 := Scalar.cmpi .slt v226 c0_i32_134
  let c0_i32_135 : BitVec 32 := 0#32
  let v229 : BitVec 1 := Scalar.cmpi .slt v225 c0_i32_135
  let v230 : BitVec 1 := Scalar.xori v228 v229
  let c0_i32_133 : BitVec 32 := 0#32
  let v227 : BitVec 1 := Scalar.cmpi .ne v226 c0_i32_133
  let v231 : BitVec 1 := Scalar.andi v230 v227
  let v232 : BitVec 32 := Scalar.addi v226 v225
  let v233 : BitVec 32 := Scalar.select v231 v232 v226
  let v234 : BitVec 32 := Scalar.muli c64_i32_136 v233
  let c0_i32_138 : BitVec 32 := 0#32
  let v236 : BitVec 1 := Scalar.cmpi .sgt arg19 c0_i32_138
  let v237 : BitVec 32 := Scalar.extui v236
  let c0_i32_139 : BitVec 32 := 0#32
  let v238 : BitVec 1 := Scalar.cmpi .slt arg19 c0_i32_139
  let v239 : BitVec 32 := Scalar.extui v238
  let v240 : BitVec 32 := Scalar.subi v237 v239
  let c8_i32_137 : BitVec 32 := 8#32
  let c0_i32_140 : BitVec 32 := 0#32
  let v241 : BitVec 1 := Scalar.cmpi .sgt c8_i32_137 c0_i32_140
  let v242 : BitVec 32 := Scalar.extui v241
  let c0_i32_141 : BitVec 32 := 0#32
  let v243 : BitVec 1 := Scalar.cmpi .slt c8_i32_137 c0_i32_141
  let v244 : BitVec 32 := Scalar.extui v243
  let v245 : BitVec 32 := Scalar.subi v242 v244
  let v246 : BitVec 1 := Scalar.cmpi .ne v240 v245
  let v247 : BitVec 32 := Scalar.remsi arg19 c8_i32_137
  let c0_i32_142 : BitVec 32 := 0#32
  let v248 : BitVec 1 := Scalar.cmpi .ne v247 c0_i32_142
  let v249 : BitVec 1 := Scalar.andi v246 v248
  let v235 : BitVec 32 := Scalar.divsi arg19 c8_i32_137
  let c1_i32_143 : BitVec 32 := 1#32
  let v250 : BitVec 32 := Scalar.subi v235 c1_i32_143
  let v251 : BitVec 32 := Scalar.select v249 v250 v235
  let v252 : BitVec 32 := Scalar.addi v234 v251
  let v298 : Index := Scalar.indexCast v252
  let c0_175 : Index := 0#32
  ![15, v298.toNat, 0]
def k0_mult2 (k0_t2 : Fin k0_t2_loop.trips) : BitVec 32 :=
  let c8_i32_181 : BitVec 32 := 8#32
  let c0_i32_127 : BitVec 32 := 0#32
  let c1_i32_128 : BitVec 32 := 1#32
  let arg19 : BitVec 32 := Scf.iv c0_i32_127 c1_i32_128 k0_t2
  let v316 : BitVec 32 := Scalar.muli c8_i32_181 arg19
  v316
def k0_off39 (k0_t2 : Fin k0_t2_loop.trips) : Fin 2 → Nat :=
  let c8_i32_181 : BitVec 32 := 8#32
  let c0_i32_127 : BitVec 32 := 0#32
  let c1_i32_128 : BitVec 32 := 1#32
  let arg19 : BitVec 32 := Scf.iv c0_i32_127 c1_i32_128 k0_t2
  let v316 : BitVec 32 := Scalar.muli c8_i32_181 arg19
  let v317 : BitVec 32 := v316
  let v318 : Index := Scalar.indexCast v317
  let c0_182 : Index := 0#32
  ![v318.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x22x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S4x4096x2048 : Shape := ⟨3, ![4, 4096, 2048]⟩
abbrev S2x2048 : Shape := ⟨2, ![2, 2048]⟩
abbrev S2x2048x11264 : Shape := ⟨3, ![2, 2048, 11264]⟩
abbrev S2x3x11264 : Shape := ⟨3, ![2, 3, 11264]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x3x11264 : Shape := ⟨3, ![1, 3, 11264]⟩
abbrev S3x11264 : Shape := ⟨2, ![3, 11264]⟩
abbrev S1x5632x2048 : Shape := ⟨3, ![1, 5632, 2048]⟩
abbrev S5632x2048 : Shape := ⟨2, ![5632, 2048]⟩
abbrev S4x4096x11264 : Shape := ⟨3, ![4, 4096, 11264]⟩
abbrev S4x4098x11264 : Shape := ⟨3, ![4, 4098, 11264]⟩
abbrev S1x11264 : Shape := ⟨2, ![1, 11264]⟩
abbrev S11264 : Shape := ⟨1, ![11264]⟩
abbrev S1x1x11264 : Shape := ⟨3, ![1, 1, 11264]⟩
abbrev S4x4096x5632 : Shape := ⟨3, ![4, 4096, 5632]⟩
abbrev S16384x2048 : Shape := ⟨2, ![16384, 2048]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2x2048, .f32⟩
  | .hbm, ⟨3, _⟩ => ⟨S2x2048x11264, .f32⟩
  | .hbm, ⟨4, _⟩ => ⟨S2x3x11264, .f32⟩
  | .hbm, ⟨5, _⟩ => ⟨S2x5632x2048, .f32⟩
  | .hbm, ⟨6, _⟩ => ⟨S2048, .f32⟩
  | .hbm, ⟨7, _⟩ => ⟨S4x4096x2048, .f32⟩
  | .hbm, ⟨8, _⟩ => ⟨S1x2048, .f32⟩
  | .hbm, ⟨9, _⟩ => ⟨S2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S1x2048x11264, .f32⟩
  | .hbm, ⟨27, _⟩ => ⟨S2048x11264, .f32⟩
  | .hbm, ⟨28, _⟩ => ⟨S1x3x11264, .f32⟩
  | .hbm, ⟨29, _⟩ => ⟨S3x11264, .f32⟩
  | .hbm, ⟨30, _⟩ => ⟨S1x5632x2048, .f32⟩
  | .hbm, ⟨31, _⟩ => ⟨S5632x2048, .f32⟩
  | .hbm, ⟨32, _⟩ => ⟨S4x4096x11264, .f32⟩
  | .hbm, ⟨33, _⟩ => ⟨S_, .i32⟩
  | .hbm, ⟨34, _⟩ => ⟨S_, .f32⟩
  | .hbm, ⟨35, _⟩ => ⟨S4x4098x11264, .f32⟩
  | .hbm, ⟨36, _⟩ => ⟨S4x4096x11264, .f32⟩
  | .hbm, ⟨37, _⟩ => ⟨S1x11264, .f32⟩
  | .hbm, ⟨38, _⟩ => ⟨S11264, .f32⟩
  | .hbm, ⟨39, _⟩ => ⟨S1x1x11264, .f32⟩
  | .hbm, ⟨40, _⟩ => ⟨S4x4096x11264, .f32⟩
  | .hbm, ⟨41, _⟩ => ⟨S4x4096x11264, .f32⟩
  | .hbm, ⟨42, _⟩ => ⟨S4x4096x11264, .f32⟩
  | .hbm, ⟨43, _⟩ => ⟨S1x11264, .f32⟩
  | .hbm, ⟨44, _⟩ => ⟨S11264, .f32⟩
  | .hbm, ⟨45, _⟩ => ⟨S1x1x11264, .f32⟩
  | .hbm, ⟨46, _⟩ => ⟨S4x4096x11264, .f32⟩
  | .hbm, ⟨47, _⟩ => ⟨S4x4096x11264, .f32⟩
  | .hbm, ⟨48, _⟩ => ⟨S4x4096x11264, .f32⟩
  | .hbm, ⟨49, _⟩ => ⟨S4x4096x11264, .f32⟩
  | .hbm, ⟨50, _⟩ => ⟨S1x11264, .f32⟩
  | .hbm, ⟨51, _⟩ => ⟨S11264, .f32⟩
  | .hbm, ⟨52, _⟩ => ⟨S1x1x11264, .f32⟩
  | .hbm, ⟨53, _⟩ => ⟨S4x4096x11264, .f32⟩
  | .hbm, ⟨54, _⟩ => ⟨S4x4096x11264, .f32⟩
  | .hbm, ⟨55, _⟩ => ⟨S4x4096x11264, .f32⟩
  | .hbm, ⟨56, _⟩ => ⟨S4x4096x5632, .f32⟩
  | .hbm, ⟨57, _⟩ => ⟨S4x4096x5632, .f32⟩
  | .hbm, ⟨58, _⟩ => ⟨S4x4096x5632, .f32⟩
  | .hbm, ⟨59, _⟩ => ⟨S4x4096x5632, .f32⟩
  | .hbm, ⟨60, _⟩ => ⟨S_, .f32⟩
  | .hbm, ⟨61, _⟩ => ⟨S4x4096x5632, .f32⟩
  | .hbm, ⟨62, _⟩ => ⟨S4x4096x5632, .f32⟩
  | .hbm, ⟨63, _⟩ => ⟨S_, .f32⟩
  | .hbm, ⟨64, _⟩ => ⟨S4x4096x5632, .f32⟩
  | .hbm, ⟨65, _⟩ => ⟨S4x4096x5632, .f32⟩
  | .hbm, ⟨66, _⟩ => ⟨S4x4096x5632, .f32⟩
  | .hbm, ⟨67, _⟩ => ⟨S4x4096x5632, .f32⟩
  | .hbm, ⟨68, _⟩ => ⟨S4x4096x2048, .f32⟩
  | .hbm, ⟨69, _⟩ => ⟨S4x4096x2048, .f32⟩
  | .hbm, ⟨70, _⟩ => ⟨S4x4096x2048, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S4x4096x1, .f32⟩
  | .hbm, ⟨81, _⟩ => ⟨S4x4096x2048, .f32⟩
  | .hbm, ⟨82, _⟩ => ⟨S4x4096x2048, .f32⟩
  | .hbm, ⟨83, _⟩ => ⟨S1x1x2048, .f32⟩
  | .hbm, ⟨84, _⟩ => ⟨S4x4096x2048, .f32⟩
  | .hbm, ⟨85, _⟩ => ⟨S4x4096x2048, .f32⟩
  | .hbm, ⟨86, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_2 : Ref sig .tc := ⟨.hbm, 71, rfl⟩
abbrev main_v51 : Ref sig .tc := ⟨.hbm, 72, rfl⟩
abbrev main_v52 : Ref sig .tc := ⟨.hbm, 73, rfl⟩
abbrev main_cst_3 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Proof.MixSpec.lean ====
/- The token mixers' inputs and outputs as plain functions on the extended reals, at coordinates: the
   normalised activations, their projection, the pooled windows, the gated spatial mix and the
   short convolution.  Both the reference and the kernel are shown to compute these. -/
module

public import Idealize.ShloMosaic.Lib.Pipeline.ValueKit
public import Idealize.ShloMosaic.Lib.Pointwise

@[expose] public section

set_option maxRecDepth 16384

noncomputable section

namespace Cert.MixSpec

open Idealize.ShloMosaic Idealize.ShloMosaic.TcCoe

/-- the argument arrays of the layer stack that the mixers read -/
@[ext] structure Args where
  x : FVec Ideal ⟨3, ![4, 4096, 2048]⟩ .f32
  g1 : FVec Ideal ⟨2, ![2, 2048]⟩ .f32
  wIn : FVec Ideal ⟨3, ![2, 2048, 12288]⟩ .f32
  wPool : FVec Ideal ⟨4, ![2, 4, 256, 256]⟩ .f32
  pScale : FVec Ideal ⟨2, ![2, 1024]⟩ .f32
  sguG : FVec Ideal ⟨2, ![2, 1024]⟩ .f32
  sguW : FVec Ideal ⟨4, ![2, 8, 128, 128]⟩ .f32
  sguB : FVec Ideal ⟨3, ![2, 128, 8]⟩ .f32
  convW : FVec Ideal ⟨3, ![2, 3, 1024]⟩ .f32

/-- a value divided by the root mean square of its row of `n` (written as the constant `cn`), scaled by `g` -/
def rms {n : ℕ} (cn : EReal) (row : Fin n → EReal) (g : EReal) (k : Fin n) : EReal :=
  row k * Ideal.rsqrt (Ideal.div (∑ i, row i * row i) cn + Ideal.ofBits .f32 0x358637BD#32) * g

/-- the normalised activation of the first layer -/
def hN (A : Args) (b : Fin 4) (l : Fin 4096) (k : Fin 2048) : EReal :=
  rms (Ideal.ofBits .f32 0x45000000#32) (fun k => A.x (ix3 b l k)) (A.g1 (ix2 0 k)) k

/-- the same, at the row `e = l + 16` of a sequence padded by 16 zero rows before it and zero rows after it -/
def hE (A : Args) (b : Fin 4) (e : ℕ) (k : Fin 2048) : EReal :=
  if h : 16 ≤ e ∧ e < 4112 then hN A b ⟨e - 16, by omega⟩ k else 0

/-- the projection of the padded sequence's row `e` onto column `c` -/
def projE (A : Args) (b : Fin 4) (e : ℕ) (c : Fin 12288) : EReal :=
  ∑ k : Fin 2048, hE A b e k * A.wIn (ix3 0 k c)

/-- the projection of position `l` onto column `c` -/
def proj (A : Args) (b : Fin 4) (l : Fin 4096) (c : Fin 12288) : EReal :=
  ∑ k : Fin 2048, hN A b l k * A.wIn (ix3 0 k c)

theorem hE_in (A : Args) (b : Fin 4) (l : Fin 4096) (k : Fin 2048) (e : ℕ) (he : e = l.val + 16) :
    hE A b e k = hN A b l k := by
  subst he
  unfold hE
  rw [dif_pos ⟨by omega, by omega⟩]
  congr 1

theorem projE_in (A : Args) (b : Fin 4) (l : Fin 4096) (c : Fin 12288) (e : ℕ) (he : e = l.val + 16) :
    projE A b e c = proj A b l c := by
  unfold projE proj
  exact Finset.sum_congr rfl fun k _ => by rw [hE_in A b l k e he]

theorem projE_out (A : Args) (b : Fin 4) (e : ℕ) (c : Fin 12288) (he : ¬(16 ≤ e ∧ e < 4112)) :
    projE A b e c = 0 := by
  unfold projE
  refine Finset.sum_eq_zero fun k _ => ?_
  unfold hE
  rw [dif_neg he, zero_mul]

/-- the number of positions of the window `l - s … l + s - 1` that lie in the sequence, as a 32-bit word -/
def cntW (s : ℕ) (l : ℕ) : BitVec 32 := BitVec.ofNat 32 (min (l + (s - 1)) 4095 - (l - s) + 1)

/-- window mean minus the value, for one position and column of the pooling branch: half-width `s` -/
def pooled (A : Args) (s : ℕ) (b : Fin 4) (l : Fin 4096) (c : Fin 12288) : EReal :=
  Ideal.div (∑ d : Fin (2 * s), projE A b (l.val + 16 - s + d.val) c)
    (FloatOps.sitofp (F := Ideal) .f32 (cntW s l.val)) - proj A b l c

/-- the half-width of pooling group `g` -/
def half (g : Fin 4) : ℕ := 2 ^ g.val

/-- the pooling branch: group `g`, column `d` of the group -/
def poolY (A : Args) (b : Fin 4) (l : Fin 4096) (g : Fin 4) (d : Fin 256) : EReal :=
  (∑ c : Fin 256, A.wPool (ix4 0 g c d) * pooled A (half g) b l ⟨256 * g.val + c.val, by omega⟩)
    * A.pScale (ix2 0 ⟨256 * g.val + d.val, by omega⟩)

/-- the tanh form of gelu -/
def gelu (v : EReal) : EReal :=
  v * (Ideal.ofBits .f32 0x3F000000#32 *
    (1 + Ideal.tanh (Ideal.ofBits .f32 0x3F4C422A#32 * (v + Ideal.ofBits .f32 0x3D372713#32 * (v * (v * v))))))

/-- the gate's input: gelu of its columns, normalised -/
def vN (A : Args) (b : Fin 4) (l : Fin 4096) (c : Fin 1024) : EReal :=
  rms (Ideal.ofBits .f32 0x44800000#32) (fun c : Fin 1024 => gelu (proj A b l ⟨2048 + c.val, by omega⟩)) (A.sguG (ix2 0 c)) c

/-- the spatial mix in chunks of 128 positions: chunk `n`, position `p` in it, group `g`, column `c` of the group -/
def sguZ (A : Args) (b : Fin 4) (n : Fin 32) (p : Fin 128) (g : Fin 8) (c : Fin 128) : EReal :=
  (∑ q : Fin 128, A.sguW (ix4 0 g p q) * vN A b ⟨128 * n.val + q.val, by omega⟩ ⟨128 * g.val + c.val, by omega⟩)
    + A.sguB (ix3 0 p g)

/-- the gating branch -/
def sguY (A : Args) (b : Fin 4) (l : Fin 4096) (c : Fin 1024) : EReal :=
  gelu (proj A b l ⟨1024 + c.val, by omega⟩)
    * sguZ A b ⟨l.val / 128, by omega⟩ ⟨l.val % 128, by omega⟩ ⟨c.val / 128, by omega⟩ ⟨c.val % 128, by omega⟩

/-- the convolution's input on the padded sequence -/
def bxE (A : Args) (b : Fin 4) (e : ℕ) (c : Fin 1024) : EReal :=
  projE A b e ⟨5120 + c.val, by omega⟩ * projE A b e ⟨3072 + c.val, by omega⟩

/-- the convolution branch -/
def convY (A : Args) (b : Fin 4) (l : Fin 4096) (c : Fin 1024) : EReal :=
  proj A b l ⟨4096 + c.val, by omega⟩ *
    (bxE A b (l.val + 15) c * A.convW (ix3 0 0 c) + bxE A b (l.val + 16) c * A.convW (ix3 0 1 c)
      + bxE A b (l.val + 17) c * A.convW (ix3 0 2 c))

/-- the three branches side by side -/
def mixY (A : Args) (b : Fin 4) (l : Fin 4096) (j : Fin 3072) : EReal :=
  if h : j.val < 1024 then poolY A b l ⟨j.val / 256, by omega⟩ ⟨j.val % 256, by omega⟩
  else if h' : j.val < 2048 then sguY A b l ⟨j.val - 1024, by omega⟩
  else convY A b l ⟨j.val - 2048, by omega⟩

/-- the mixers' output as an array of rows: row `4096 b + l` is position `l` of sequence `b` -/
def mixArr (A : Args) : FVec Ideal ⟨2, ![16384, 3072]⟩ .bf16 := fun i =>
  mixY A ⟨(i 0).val / 4096, by have := (i 0).isLt; simp at this; omega⟩ ⟨(i 0).val % 4096, by omega⟩ (i 1)

/-- the normalised activations as an array of rows -/
def actArr (A : Args) : FVec Ideal ⟨2, ![16384, 2048]⟩ .bf16 := fun i =>
  hN A ⟨(i 0).val / 4096, by have := (i 0).isLt; simp at this; omega⟩ ⟨(i 0).val % 4096, by omega⟩ (i 1)

theorem mixY_pool (A : Args) (b : Fin 4) (l : Fin 4096) (j : Fin 3072) (g : Fin 4) (d : Fin 256) (h : j.val = 256 * g.val + d.val) :
    mixY A b l j = poolY A b l g d := by
  unfold mixY
  rw [dif_pos (by omega)]
  exact congr_arg₂ (poolY A b l) (Fin.ext (by simp only; omega)) (Fin.ext (by simp only; omega))

theorem mixY_gate (A : Args) (b : Fin 4) (l : Fin 4096) (j : Fin 3072) (c : Fin 1024) (h : j.val = 1024 + c.val) :
    mixY A b l j = sguY A b l c := by
  unfold mixY
  rw [dif_neg (by omega), dif_pos (by omega)]
  exact congrArg (sguY A b l) (Fin.ext (by simp only; omega))

theorem mixY_conv (A : Args) (b : Fin 4) (l : Fin 4096) (j : Fin 3072) (c : Fin 1024) (h : j.val = 2048 + c.val) :
    mixY A b l j = convY A b l c := by
  unfold mixY
  rw [dif_neg (by omega), dif_neg (by omega)]
  exact congrArg (convY A b l) (Fin.ext (by simp only; omega))

end Cert.MixSpec

end
-- ==== Proof.MixBlocks.lean ====
/- What the mixers' kernel finds in its input blocks at grid point `t`: the argument arrays, read at the
   positions of row tile `t`.  The activations come in three blocks: the tile's own 512 rows, and 16 rows each
   before and after them. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixSpec

@[expose] public section

set_option maxRecDepth 16384

noncomputable section

namespace Cert.KernelIdeal.MixV

open Cert.KernelIdeal Cert.KernelIdeal.Gen Cert.MixSpec
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![t.val, 0] ∧ win0_1.index t = ![t.val * 32 - 1, 0] ∧ win0_2.index t = ![min (t.val * 32 + 32) 1023, 0]
    ∧ win0_3.index t = ![0, 0, 0] ∧ win0_4.index t = ![0, 0, 0] ∧ win0_5.index t = ![0, 0, 0, 0] ∧ win0_6.index t = ![0, 0, 0]
    ∧ win0_7.index t = ![0, 0, 0] ∧ win0_8.index t = ![0, 0, 0, 0] ∧ win0_9.index t = ![0, 0, 0, 0] ∧ win0_10.index t = ![0, 0, 0]
    ∧ win0_11.index t = ![t.val, 0] ∧ win0_12.index t = ![t.val, 0] ∧ (grid0.coords t 0).val = t.val :=
  (by decide +kernel : ∀ t : Fin grid0.N, _)

/-- the argument arrays on device `c` -/
def args (c : Dev nD) : Args where
  x := m ((c : Thread nD τ).loc main_arg0)
  g1 := m ((c : Thread nD τ).loc main_arg1)
  wIn := m ((c : Thread nD τ).loc main_arg2)
  wPool := m ((c : Thread nD τ).loc main_arg3)
  pScale := m ((c : Thread nD τ).loc main_arg4)
  sguG := m ((c : Thread nD τ).loc main_arg5)
  sguW := m ((c : Thread nD τ).loc main_arg6)
  sguB := m ((c : Thread nD τ).loc main_arg7)
  convW := m ((c : Thread nD τ).loc main_arg8)

/-- the tile itself -/
theorem xblk (c : Dev nD) (t : Fin cfg0.N) (r : Fin 512) (k : Fin 2048) (b : Fin 4) (l : Fin 4096)
    (h : t.val * 512 + r.val = b.val * 4096 + l.val) : iblk m c 0 t (ix2 r k) = (args m c).x (ix3 b l k) := by
  blk_simp [iblk, idx t]
  entry_read
  pointwise
  blk_point [args, idx t]

/-- the 16 rows before the tile -/
theorem pblk (c : Dev nD) (t : Fin cfg0.N) (r : Fin 16) (k : Fin 2048) (b : Fin 4) (l : Fin 4096)
    (h : (t.val * 32 - 1) * 16 + r.val = b.val * 4096 + l.val) : iblk m c 1 t (ix2 r k) = (args m c).x (ix3 b l k) := by
  blk_simp [iblk, idx t]
  entry_read
  pointwise
  blk_point [args, idx t]

/-- the 16 rows after the tile -/
theorem nblk (c : Dev nD) (t : Fin cfg0.N) (r : Fin 16) (k : Fin 2048) (b : Fin 4) (l : Fin 4096)
    (h : min (t.val * 32 + 32) 1023 * 16 + r.val = b.val * 4096 + l.val) : iblk m c 2 t (ix2 r k) = (args m c).x (ix3 b l k) := by
  blk_simp [iblk, idx t]
  entry_read
  pointwise
  blk_point [args, idx t]

/-- the first norm's weights -/
theorem gblk (c : Dev nD) (t : Fin cfg0.N) (k : Fin 2048) : iblk m c 3 t (ix3 0 0 k) = (args m c).g1 (ix2 0 k) := by
  blk_simp [iblk, idx t]
  entry_read
  pointwise
  blk_point [args, idx t]

/-- the projection's weights -/
theorem wblk (c : Dev nD) (t : Fin cfg0.N) (k : Fin 2048) (j : Fin 6144) : iblk m c 4 t (ix3 0 k j) = (args m c).wIn (ix3 0 k ⟨j.val, by omega⟩) := by
  blk_simp [iblk, idx t]
  entry_read
  pointwise
  blk_point [args, idx t]

/-- the pooling weights -/
theorem wpblk (c : Dev nD) (t : Fin cfg0.N) (g : Fin 4) (k j : Fin 256) : iblk m c 5 t (ix4 0 g k j) = (args m c).wPool (ix4 0 g k j) := by
  blk_simp [iblk, idx t]
  entry_read
  pointwise
  blk_point [args, idx t]

/-- the pooling scale -/
theorem psblk (c : Dev nD) (t : Fin cfg0.N) (j : Fin 1024) : iblk m c 6 t (ix3 0 0 j) = (args m c).pScale (ix2 0 j) := by
  blk_simp [iblk, idx t]
  entry_read
  pointwise
  blk_point [args, idx t]

/-- the gate norm's weights -/
theorem sgblk (c : Dev nD) (t : Fin cfg0.N) (j : Fin 1024) : iblk m c 7 t (ix3 0 0 j) = (args m c).sguG (ix2 0 j) := by
  blk_simp [iblk, idx t]
  entry_read
  pointwise
  blk_point [args, idx t]

/-- the spatial mix's weights -/
theorem swblk (c : Dev nD) (t : Fin cfg0.N) (g : Fin 8) (p q : Fin 128) : iblk m c 8 t (ix4 0 g p q) = (args m c).sguW (ix4 0 g p q) := by
  blk_simp [iblk, idx t]
  entry_read
  pointwise
  blk_point [args, idx t]

/-- the spatial mix's bias, the same in every column of a group -/
theorem sbblk (c : Dev nD) (t : Fin cfg0.N) (g : Fin 8) (p q : Fin 128) : iblk m c 9 t (ix4 0 g p q) = (args m c).sguB (ix3 0 p g) := by
  blk_simp [iblk, idx t]
  entry_read
  pointwise
  blk_point [args, idx t]

/-- the convolution's weights -/
theorem cwblk (c : Dev nD) (t : Fin cfg0.N) (d : Fin 3) (j : Fin 1024) : iblk m c 10 t (ix3 0 d j) = (args m c).convW (ix3 0 d j) := by
  blk_simp [iblk, idx t]
  entry_read
  pointwise
  blk_point [args, idx t]

end Cert.KernelIdeal.MixV

end
-- ==== Proof.MixRows.lean ====
/- The normalised rows that the mixers' kernel keeps in its scratch buffer: three stores (the tile's own rows and
   its two halos, the halos zeroed where they leave the sequence) fill it with rows of the padded sequence. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixBlocks

@[expose] public section

set_option maxRecDepth 16384

noncomputable section

namespace Cert.KernelIdeal.MixV

open Cert.KernelIdeal Cert.KernelIdeal.Gen Cert.MixSpec
open Idealize.ShloMosaic Idealize.ShloMosaic.TcCoe Idealize.SL.Sem
open Idealize.ShloMosaic.Pipeline (Dat)

variable (m : (ℓ : Loc nD τ sig) → Buf (Elt Ideal) ℓ)

/-- the sequence that grid point `t` works on -/
def bOf (t : Fin cfg0.N) : Fin 4 := ⟨t.val / 8, by have := lt_of_lt_of_eq t.isLt N_0; omega⟩

/-- the normalised rows of the tile and its two halos: row `r` is row `t % 8 * 512 + r` of the padded sequence -/
def hT (c : Dev nD) (t : Fin cfg0.N) : FVec Ideal S544x2048 .bf16 := fun y =>
  hE (args m c) (bOf t) (t.val % 8 * 512 + (y 0).val) (y 1)

theorem pay6_at (X : FVec Ideal S512x2048 .f32) (G : FVec Ideal S1x1x2048 .f32) (r : Fin 512) (k : Fin 2048) :
    k0_pay6 (F := Ideal) (k0_pay1 X) (k0_pay3 G) (ix2 r k) = rms (Ideal.ofBits .f32 0x45000000#32) (fun k => X (ix2 r k)) (G (ix3 0 0 k)) k := by
  pointwise [k0_pay6, k0_pay1, k0_pay3, rms]

theorem pay7_at (w : BitVec 1) (X : FVec Ideal S16x2048 .f32) (G : FVec Ideal S1x1x2048 .f32) (r : Fin 16) (k : Fin 2048) :
    k0_pay7 (F := Ideal) (k0_pay2 X) (k0_pay3 G) w (ix2 r k)
      = Scalar.select w (rms (Ideal.ofBits .f32 0x45000000#32) (fun k => X (ix2 r k)) (G (ix3 0 0 k)) k) 0 := by
  pointwise [k0_pay7, k0_pay2, k0_pay3, rms]

/-- the word that says "not the first tile of its sequence" -/
def wPrev (i : BitVec 32) : BitVec 1 :=
  Scalar.cmpi .sgt (Scalar.select (Scalar.andi (Scalar.xori (Scalar.cmpi .slt (Scalar.remsi i (Scalar.select (Scalar.cmpi .eq 8#32 0#32) 1#32 8#32)) 0#32)
    (Scalar.cmpi .slt (Scalar.select (Scalar.cmpi .eq 8#32 0#32) 1#32 8#32) 0#32))
    (Scalar.cmpi .ne (Scalar.remsi i (Scalar.select (Scalar.cmpi .eq 8#32 0#32) 1#32 8#32)) 0#32))
    (Scalar.addi (Scalar.remsi i (Scalar.select (Scalar.cmpi .eq 8#32 0#32) 1#32 8#32)) (Scalar.select (Scalar.cmpi .eq 8#32 0#32) 1#32 8#32))
    (Scalar.remsi i (Scalar.select (Scalar.cmpi .eq 8#32 0#32) 1#32 8#32))) 0#32

theorem wPrev_eq : ∀ t : Fin cfg0.N, wPrev (BitVec.ofNat 32 (grid0.coords t 0).val) = if t.val % 8 = 0 then 0#1 else 1#1 :=
  (by decide +kernel : ∀ t : Fin grid0.N, _)

theorem pay5_at (i : grid0.Coords) (X : FVec Ideal S16x2048 .f32) (G : FVec Ideal S1x1x2048 .f32) (r : Fin 16) (k : Fin 2048) :
    k0_pay5 (F := Ideal) (k0_pay4 i X G) (ix2 r k) = Scalar.select (wPrev (BitVec.ofNat 32 (i 0).val))
      (rms (Ideal.ofBits .f32 0x45000000#32) (fun k => X (ix2 r k)) (G (ix3 0 0 k)) k) 0 := by
  pointwise [k0_pay5, k0_pay4, k0_pay3, rms, wPrev]

/-- the word that says "not the last tile of its sequence" -/
theorem wNext_eq : ∀ t : Fin cfg0.N, (Scalar.cmpi CmpIPredicate.slt
              (Scalar.select
                (Scalar.andi
                  (Scalar.xori
                    (Scalar.cmpi CmpIPredicate.slt (Scalar.remsi (BitVec.ofNat 32 ↑(grid0.coords t 0)) 8#32) 0#32) 0#1)
                  (Scalar.cmpi CmpIPredicate.ne (Scalar.remsi (BitVec.ofNat 32 ↑(grid0.coords t 0)) 8#32) 0#32))
                (Scalar.addi (Scalar.remsi (BitVec.ofNat 32 ↑(grid0.coords t 0)) 8#32) 8#32)
                (Scalar.remsi (BitVec.ofNat 32 ↑(grid0.coords t 0)) 8#32))
              7#32) = if t.val % 8 = 7 then 0#1 else 1#1 :=
  (by decide +kernel : ∀ t : Fin grid0.N, _)

/-- the row of the tile itself -/
theorem main_row (c : Dev nD) (t : Fin cfg0.N) (r : Fin 512) (k : Fin 2048) (e : ℕ) (he : e = t.val % 8 * 512 + (16 + r.val)) :
    k0_pay6 (F := Ideal) (k0_pay1 (iblk m c 0 t)) (k0_pay3 (iblk m c 3 t)) (ix2 r k) = hE (args m c) (bOf t) e k := by
  have ht := lt_of_lt_of_eq t.isLt N_0
  rw [pay6_at, gblk, hE_in (args m c) (bOf t) ⟨t.val % 8 * 512 + r.val, by omega⟩ k e (by simp only []; omega), hN]
  exact congrArg (fun f => rms _ f _ k) (funext fun k => xblk m c t r k (bOf t) _ (by simp only [bOf]; omega))

/-- a row before the tile: zero when the tile is its sequence's first -/
theorem prev_row (c : Dev nD) (t : Fin cfg0.N) (r : Fin 16) (k : Fin 2048) (e : ℕ) (he : e = t.val % 8 * 512 + r.val) :
    k0_pay5 (F := Ideal) (k0_pay4 (grid0.coords t) (iblk m c 1 t) (iblk m c 3 t)) (ix2 r k) = hE (args m c) (bOf t) e k := by
  have ht := lt_of_lt_of_eq t.isLt N_0
  rw [pay5_at, gblk, wPrev_eq]
  by_cases h : t.val % 8 = 0
  · rw [if_pos h, Scalar.select, if_neg (by decide), hE, dif_neg (by omega)]
  · rw [if_neg h, Scalar.select, if_pos (by decide), hE_in (args m c) (bOf t) ⟨e - 16, by omega⟩ k e (by simp only []; omega), hN]
    exact congrArg (fun f => rms _ f _ k) (funext fun k => pblk m c t r k (bOf t) _ (by simp only [bOf]; omega))

/-- a row after the tile: zero when the tile is its sequence's last -/
theorem next_row (c : Dev nD) (t : Fin cfg0.N) (r : Fin 16) (k : Fin 2048) (e : ℕ) (he : e = t.val % 8 * 512 + (528 + r.val)) :
    k0_pay7 (F := Ideal) (k0_pay2 (iblk m c 2 t)) (k0_pay3 (iblk m c 3 t)) (if t.val % 8 = 7 then 0#1 else 1#1) (ix2 r k)
      = hE (args m c) (bOf t) e k := by
  have ht := lt_of_lt_of_eq t.isLt N_0
  rw [pay7_at, gblk]
  by_cases h : t.val % 8 = 7
  · rw [if_pos h, Scalar.select, if_neg (by decide), hE, dif_neg (by omega)]
  · rw [if_neg h, Scalar.select, if_pos (by decide), hE_in (args m c) (bOf t) ⟨e - 16, by omega⟩ k e (by simp only []; omega), hN]
    exact congrArg (fun f => rms _ f _ k) (funext fun k => nblk m c t r k (bOf t) _ (by simp only [bOf]; omega))

/-- `hT` at an index given by its coordinates' values -/
theorem hT_at (c : Dev nD) (t : Fin cfg0.N) (y : S544x2048.Idx) (e : ℕ) (k : Fin 2048)
    (he : e = t.val % 8 * 512 + (y 0).val) (hk : (y 1).val = k.val) : hT m c t y = hE (args m c) (bOf t) e k := by
  subst he
  exact congrArg (hE (args m c) (bOf t) _) (Fin.ext hk)

/-- the tile's own rows -/
def hM (c : Dev nD) (t : Fin cfg0.N) : FVec Ideal S512x2048 .bf16 := fun y =>
  hE (args m c) (bOf t) (t.val % 8 * 512 + (16 + (y 0).val)) (y 1)

/-- Every read of the rows' buffer, after the three stores that fill it, is a read of `hT`. -/
theorem hS_read (c : Dev nD) (t : Fin cfg0.N) (R : Rect S544x2048) : (View.whole cc0_scratch0).readCov (Val := Elt Ideal)
      [⟨Rect.unit ![528, 0] ![16, 2048] inb_S544x2048_S16x2048_528_0,
          k0_pay7 (F := Ideal) (k0_pay2 (iblk m c 2 t)) (k0_pay3 (iblk m c 3 t)) (if t.val % 8 = 7 then 0#1 else 1#1)⟩,
        ⟨Rect.unit ![16, 0] ![512, 2048] inb_S544x2048_S512x2048_16_0,
          k0_pay6 (F := Ideal) (k0_pay1 (iblk m c 0 t)) (k0_pay3 (iblk m c 3 t))⟩,
        ⟨Rect.unit ![0, 0] ![16, 2048] inb_S544x2048_S16x2048_0_0,
          k0_pay5 (F := Ideal) (k0_pay4 (grid0.coords t) (iblk m c 1 t) (iblk m c 3 t))⟩] R.toLoadRect
      = View.ld (Val := Elt Ideal) (hT m c t) R := by
  rw [View.readCov_eq_canon']
  funext j
  refine Eq.trans (b := hT m c t (R.toLoadRect.idx j)) ?_ rfl
  generalize R.toLoadRect.idx j = y
  canon_tiles x h using (View.cover_of_tiledBy _ ![16, 2048] (by sl_kernel_rfl) y)
  · rw [eq_ix2 x]
    exact (next_row m c t (x 0) (x 1) _ rfl).trans (hT_at m c t y _ (x 1) (by rw [h0]) h1).symm
  · rw [eq_ix2 x]
    exact (main_row m c t (x 0) (x 1) _ rfl).trans (hT_at m c t y _ (x 1) (by rw [h0]) h1).symm
  · rw [eq_ix2 x]
    exact (prev_row m c t (x 0) (x 1) _ rfl).trans (hT_at m c t y _ (x 1) (by rw [h0]) h1).symm

/-- The whole buffer read back. -/
theorem hS_all (c : Dev nD) (t : Fin cfg0.N) : (View.whole cc0_scratch0).readCov (Val := Elt Ideal)
      [⟨Rect.unit ![528, 0] ![16, 2048] inb_S544x2048_S16x2048_528_0,
          k0_pay7 (F := Ideal) (k0_pay2 (iblk m c 2 t)) (k0_pay3 (iblk m c 3 t)) (if t.val % 8 = 7 then 0#1 else 1#1)⟩,
        ⟨Rect.unit ![16, 0] ![512, 2048] inb_S544x2048_S512x2048_16_0,
          k0_pay6 (F := Ideal) (k0_pay1 (iblk m c 0 t)) (k0_pay3 (iblk m c 3 t))⟩,
        ⟨Rect.unit ![0, 0] ![16, 2048] inb_S544x2048_S16x2048_0_0,
          k0_pay5 (F := Ideal) (k0_pay4 (grid0.coords t) (iblk m c 1 t) (iblk m c 3 t))⟩] (Rect.unit ![0, 0] ![544, 2048] inb_S544x2048_S544x2048_0_0).toLoadRect
      = hT m c t := by
  rw [hS_read]
  exact View.ld_unit_lit' _ _ (by decide)

/-- The tile's own rows read back. -/
theorem hS_tile (c : Dev nD) (t : Fin cfg0.N) : (View.whole cc0_scratch0).readCov (Val := Elt Ideal)
      [⟨Rect.unit ![528, 0] ![16, 2048] inb_S544x2048_S16x2048_528_0,
          k0_pay7 (F := Ideal) (k0_pay2 (iblk m c 2 t)) (k0_pay3 (iblk m c 3 t)) (if t.val % 8 = 7 then 0#1 else 1#1)⟩,
        ⟨Rect.unit ![16, 0] ![512, 2048] inb_S544x2048_S512x2048_16_0,
          k0_pay6 (F := Ideal) (k0_pay1 (iblk m c 0 t)) (k0_pay3 (iblk m c 3 t))⟩,
        ⟨Rect.unit ![0, 0] ![16, 2048] inb_S544x2048_S16x2048_0_0,
          k0_pay5 (F := Ideal) (k0_pay4 (grid0.coords t) (iblk m c 1 t) (iblk m c 3 t))⟩] (Rect.unit ![16, 0] ![512, 2048] inb_S544x2048_S512x2048_16_0).toLoadRect
      = hM m c t := by
  rw [hS_read]
  funext y
  pointwise
  rw [eq_ix2 y]
  exact hT_at m c t _ _ (y 1) rfl rfl

/-- the tile's number in its sequence, as the kernel's word -/
theorem wTile_eq : ∀ t : Fin cfg0.N, Scalar.select
            (Scalar.andi
              (Scalar.xori
                (Scalar.cmpi CmpIPredicate.slt (Scalar.remsi (BitVec.ofNat 32 ↑(grid0.coords t 0)) 8#32) 0#32) 0#1)
              (Scalar.cmpi CmpIPredicate.ne (Scalar.remsi (BitVec.ofNat 32 ↑(grid0.coords t 0)) 8#32) 0#32))
            (Scalar.addi (Scalar.remsi (BitVec.ofNat 32 ↑(grid0.coords t 0)) 8#32) 8#32)
            (Scalar.remsi (BitVec.ofNat 32 ↑(grid0.coords t 0)) 8#32) = BitVec.ofNat 32 (t.val % 8) :=
  (by decide +kernel : ∀ t : Fin grid0.N, _)

end Cert.KernelIdeal.MixV

end
-- ==== Proof.MixPool.lean ====
/- The pooling branch of the kernel: each group's windows of the projected rows, and what is stored of them. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixRows

@[expose] public section

set_option maxRecDepth 16384

noncomputable section

namespace Cert.KernelIdeal.MixV

open Cert.KernelIdeal Cert.KernelIdeal.Gen Cert.MixSpec
open Idealize.ShloMosaic Idealize.ShloMosaic.TcCoe Idealize.SL.Sem
open Idealize.ShloMosaic.Pipeline (Dat)

variable (m : (ℓ : Loc nD τ sig) → Buf (Elt Ideal) ℓ)

/-- the pooling columns of the projection's weights -/
abbrev wA (c : Dev nD) (t : Fin cfg0.N) : FVec Ideal S1x2048x1024 .bf16 :=
  View.ld (iblk m c 4 t) (Rect.unit ![0, 0, 0] ![1, 2048, 1024] inb_S1x2048x6144_S1x2048x1024_0_0_0)

theorem projA (c : Dev nD) (t : Fin cfg0.N) (r : Fin 544) (j : Fin 1024) :
    k0_pay8 (F := Ideal) (hT m c t) (wA m c t) (ix2 r j) = projE (args m c) (bOf t) (t.val % 8 * 512 + r.val) ⟨j.val, by omega⟩ := by
  pointwise [k0_pay8, wA]
  unfold projE
  refine Finset.sum_congr rfl fun k _ => ?_
  exact congr_arg₂ (· * ·) (hT_at m c t _ _ k rfl rfl) (wblk m c t k _)

/-- the projection onto the pooling columns -/
abbrev aA (c : Dev nD) (t : Fin cfg0.N) : FVec Ideal S544x1024 .f32 := k0_pay8 (hT m c t) (wA m c t)

/-- a rotation by one row short of the whole (or two, or four) reads the next row (or the second, or the fourth) -/
theorem roll_up (a k : ℕ) (hk : k ≤ 544) (h : a + (544 - k) < 544) : (a + 544 - k) % 544 = a + (544 - k) := by omega

/-- one doubling of a window sum: a value plus the value `k` rows below, cyclically -/
theorem stage_at (k : ℕ) (X : FVec Ideal S544x256 .f32) (f : ℕ → EReal) (j : Fin 256) (w : BitVec 32) (hw : w.toNat % 544 = k)
    (hX : ∀ (n : ℕ) (h : n < 544), X (ix2 ⟨n, h⟩ j) = f n) (n : ℕ) (h : n < 544) :
    addf X (dynamicRotate 0 w none X rotates_S544x256_d0) (ix2 ⟨n, h⟩ j) = f n + f ((n + 544 - k) % 544) := by
  subst hw
  pointwise
  rw [hX, hX]

/-- the tile's rows of a padded tile -/
theorem rows_at (X : FVec Ideal S544x256 .f32) (r : Fin 512) (j : Fin 256) :
    extractStridedSlice S512x256 ![16, 0] X slices_S544x256_o16_0_S512x256 (ix2 r j) = X (ix2 ⟨16 + r.val, by omega⟩ j) := by
  pointwise

/-- the windows of 2 positions around the tile's rows -/
theorem win0 (X : FVec Ideal S544x256 .f32) (f : ℕ → EReal) (j : Fin 256)
    (hX : ∀ (n : ℕ) (h : n < 544), X (ix2 ⟨n, h⟩ j) = f n) (r : Fin 512) :
    extractStridedSlice S512x256 ![16, 0] (addf X (dynamicRotate 0 1#32 none X rotates_S544x256_d0))
      slices_S544x256_o16_0_S512x256 (ix2 r j) = ∑ e : Fin 2, f (r.val + 15 + e.val) := by
  refine (rows_at _ r j).trans ((stage_at 1 _ _ j 1#32 rfl hX _ _).trans ?_)
  simp only [show 16 + r.val = r.val + 15 + 1 by omega, show (r.val + 15 + 1 + 544 - 1) % 544 = r.val + 15 by omega]
  simp only [Fin.sum_univ_succ, Fin.sum_univ_zero]
  simp only [Nat.add_assoc, Fin.val_zero, Fin.val_succ, Nat.reduceAdd, Nat.reduceSub, add_zero]
  ac_rfl

/-- the windows of 4 positions around the tile's rows -/
theorem win1 (X : FVec Ideal S544x256 .f32) (f : ℕ → EReal) (j : Fin 256)
    (hX : ∀ (n : ℕ) (h : n < 544), X (ix2 ⟨n, h⟩ j) = f n) (r : Fin 512) :
    extractStridedSlice S512x256 ![16, 0] (addf (addf X (dynamicRotate 0 543#32 none X rotates_S544x256_d0)) (dynamicRotate 0 2#32 none (addf X (dynamicRotate 0 543#32 none X rotates_S544x256_d0)) rotates_S544x256_d0))
      slices_S544x256_o16_0_S512x256 (ix2 r j) = ∑ e : Fin 4, f (r.val + 14 + e.val) := by
  refine (rows_at _ r j).trans ((stage_at 2 _ _ j 2#32 rfl (stage_at 543 _ _ j 543#32 rfl hX) _ _).trans ?_)
  simp only [show 16 + r.val = r.val + 14 + 2 by omega, show (r.val + 14 + 2 + 544 - 2) % 544 = r.val + 14 by omega]
  simp (disch := omega) only [roll_up]
  simp only [Fin.sum_univ_succ, Fin.sum_univ_zero]
  simp only [Nat.add_assoc, Fin.val_zero, Fin.val_succ, Nat.reduceAdd, Nat.reduceSub, add_zero]
  ac_rfl

/-- the windows of 8 positions around the tile's rows -/
theorem win2 (X : FVec Ideal S544x256 .f32) (f : ℕ → EReal) (j : Fin 256)
    (hX : ∀ (n : ℕ) (h : n < 544), X (ix2 ⟨n, h⟩ j) = f n) (r : Fin 512) :
    extractStridedSlice S512x256 ![16, 0] (addf (addf (addf X (dynamicRotate 0 543#32 none X rotates_S544x256_d0)) (dynamicRotate 0 542#32 none (addf X (dynamicRotate 0 543#32 none X rotates_S544x256_d0)) rotates_S544x256_d0)) (dynamicRotate 0 4#32 none (addf (addf X (dynamicRotate 0 543#32 none X rotates_S544x256_d0)) (dynamicRotate 0 542#32 none (addf X (dynamicRotate 0 543#32 none X rotates_S544x256_d0)) rotates_S544x256_d0)) rotates_S544x256_d0))
      slices_S544x256_o16_0_S512x256 (ix2 r j) = ∑ e : Fin 8, f (r.val + 12 + e.val) := by
  refine (rows_at _ r j).trans ((stage_at 4 _ _ j 4#32 rfl (stage_at 542 _ _ j 542#32 rfl (stage_at 543 _ _ j 543#32 rfl hX)) _ _).trans ?_)
  simp only [show 16 + r.val = r.val + 12 + 4 by omega, show (r.val + 12 + 4 + 544 - 4) % 544 = r.val + 12 by omega]
  simp (disch := omega) only [roll_up]
  simp only [Fin.sum_univ_succ, Fin.sum_univ_zero]
  simp only [Nat.add_assoc, Fin.val_zero, Fin.val_succ, Nat.reduceAdd, Nat.reduceSub, add_zero]
  ac_rfl

/-- the windows of 16 positions around the tile's rows -/
theorem win3 (X : FVec Ideal S544x256 .f32) (f : ℕ → EReal) (j : Fin 256)
    (hX : ∀ (n : ℕ) (h : n < 544), X (ix2 ⟨n, h⟩ j) = f n) (r : Fin 512) :
    extractStridedSlice S512x256 ![16, 0] (addf (addf (addf (addf X (dynamicRotate 0 543#32 none X rotates_S544x256_d0)) (dynamicRotate 0 542#32 none (addf X (dynamicRotate 0 543#32 none X rotates_S544x256_d0)) rotates_S544x256_d0)) (dynamicRotate 0 540#32 none (addf (addf X (dynamicRotate 0 543#32 none X rotates_S544x256_d0)) (dynamicRotate 0 542#32 none (addf X (dynamicRotate 0 543#32 none X rotates_S544x256_d0)) rotates_S544x256_d0)) rotates_S544x256_d0)) (dynamicRotate 0 8#32 none (addf (addf (addf X (dynamicRotate 0 543#32 none X rotates_S544x256_d0)) (dynamicRotate 0 542#32 none (addf X (dynamicRotate 0 543#32 none X rotates_S544x256_d0)) rotates_S544x256_d0)) (dynamicRotate 0 540#32 none (addf (addf X (dynamicRotate 0 543#32 none X rotates_S544x256_d0)) (dynamicRotate 0 542#32 none (addf X (dynamicRotate 0 543#32 none X rotates_S544x256_d0)) rotates_S544x256_d0)) rotates_S544x256_d0)) rotates_S544x256_d0))
      slices_S544x256_o16_0_S512x256 (ix2 r j) = ∑ e : Fin 16, f (r.val + 8 + e.val) := by
  refine (rows_at _ r j).trans ((stage_at 8 _ _ j 8#32 rfl (stage_at 540 _ _ j 540#32 rfl (stage_at 542 _ _ j 542#32 rfl (stage_at 543 _ _ j 543#32 rfl hX))) _ _).trans ?_)
  simp only [show 16 + r.val = r.val + 8 + 8 by omega, show (r.val + 8 + 8 + 544 - 8) % 544 = r.val + 8 by omega]
  simp (disch := omega) only [roll_up]
  simp only [Fin.sum_univ_succ, Fin.sum_univ_zero]
  simp only [Nat.add_assoc, Fin.val_zero, Fin.val_succ, Nat.reduceAdd, Nat.reduceSub, add_zero]
  ac_rfl

/-- the position of a tile's row in its sequence, as a word -/
theorem pos_at (t : Fin cfg0.N) (r : Fin 512) (j : Fin 256) :
    k0_pay9 (BitVec.ofNat 32 (t.val % 8)) (ix2 r j) = BitVec.ofNat 32 (t.val % 8 * 512 + r.val) := by
  pointwise [k0_pay9]
  apply BitVec.eq_of_toNat_eq
  simp [IntOp.addi, IntOp.muli, Scalar.muli]

/-- the number of positions of a window of 2 in the sequence -/
theorem cnt0 : ∀ l : Fin 4096, IntOp.addi (IntOp.subi (IntOp.minsi (IntOp.addi (BitVec.ofNat 32 l.val) 0#32) 4095#32)
      (IntOp.maxsi (IntOp.subi (BitVec.ofNat 32 l.val) 1#32) 0#32)) 1#32 = cntW 1 l.val := by
  decide +kernel

/-- the number of positions of a window of 4 in the sequence -/
theorem cnt1 : ∀ l : Fin 4096, IntOp.addi (IntOp.subi (IntOp.minsi (IntOp.addi (BitVec.ofNat 32 l.val) 1#32) 4095#32)
      (IntOp.maxsi (IntOp.subi (BitVec.ofNat 32 l.val) 2#32) 0#32)) 1#32 = cntW 2 l.val := by
  decide +kernel

/-- the number of positions of a window of 8 in the sequence -/
theorem cnt2 : ∀ l : Fin 4096, IntOp.addi (IntOp.subi (IntOp.minsi (IntOp.addi (BitVec.ofNat 32 l.val) 3#32) 4095#32)
      (IntOp.maxsi (IntOp.subi (BitVec.ofNat 32 l.val) 4#32) 0#32)) 1#32 = cntW 4 l.val := by
  decide +kernel

/-- the number of positions of a window of 16 in the sequence -/
theorem cnt3 : ∀ l : Fin 4096, IntOp.addi (IntOp.subi (IntOp.minsi (IntOp.addi (BitVec.ofNat 32 l.val) 7#32) 4095#32)
      (IntOp.maxsi (IntOp.subi (BitVec.ofNat 32 l.val) 8#32) 0#32)) 1#32 = cntW 8 l.val := by
  decide +kernel

/-- what a group stores, from its windows and its own columns -/
theorem pool_at (c : Dev nD) (t : Fin cfg0.N) (g : Fin 4) (r : Fin 512) (d : Fin 256) (l : Fin 4096) (hl : l.val = t.val % 8 * 512 + r.val)
    (q : Fin 256 → EReal) (s : EReal) (hs : s = (args m c).pScale (ix2 0 ⟨256 * g.val + d.val, by omega⟩))
    (hq : ∀ k, q k = pooled (args m c) (half g) (bOf t) l ⟨256 * g.val + k.val, by omega⟩) :
    (∑ k : Fin 256, q k * iblk m c 5 t (ix4 0 g k d)) * s = poolY (args m c) (bOf t) l g d := by
  unfold poolY
  rw [hs]
  refine congrArg (· * _) (Finset.sum_congr rfl fun k _ => ?_)
  rw [hq k, wpblk]
  exact mul_comm _ _

/-- the projected columns of a group, at the rows of the padded tile -/
def fA (c : Dev nD) (t : Fin cfg0.N) (j : Fin 1024) (n : ℕ) : EReal :=
  projE (args m c) (bOf t) (t.val % 8 * 512 + n) ⟨j.val, by omega⟩

theorem pooled_of (c : Dev nD) (t : Fin cfg0.N) (s : ℕ) (hs : s ≤ 16) (l : Fin 4096) (r : Fin 512) (hl : l.val = t.val % 8 * 512 + r.val)
    (j : Fin 1024) (w : BitVec 32) (hw : w = cntW s l.val) :
    Ideal.div (∑ e : Fin (2 * s), fA m c t j (r.val + (16 - s) + e.val)) (FloatOps.sitofp (F := Ideal) .f32 w)
      - fA m c t j (16 + r.val) = pooled (args m c) s (bOf t) l ⟨j.val, by omega⟩ := by
  subst hw
  unfold pooled fA
  rw [projE_in _ _ l _ _ (by omega)]
  refine congrArg (fun z => Ideal.div z _ - _) (Finset.sum_congr rfl fun e _ => ?_)
  congr 1
  omega

/-- the columns of group 0, as the kernel takes them -/
abbrev aA0 (c : Dev nD) (t : Fin cfg0.N) : FVec Ideal S544x256 .f32 :=
  extractStridedSlice S544x256 ![0, 0] (aA m c t) slices_S544x1024_o0_0_S544x256

/-- the columns of group 0 -/
theorem cols0 (c : Dev nD) (t : Fin cfg0.N) (x : Fin 256) (n : ℕ) (h : n < 544) :
    (aA0 m c t) (ix2 ⟨n, h⟩ x) = fA m c t ⟨x.val, by omega⟩ n := by
  pointwise
  exact projA m c t ⟨n, h⟩ _

/-- what the kernel stores of group 0 -/
theorem pool0 (c : Dev nD) (t : Fin cfg0.N) (r : Fin 512) (d : Fin 256) :
    k0_pay10 (BitVec.ofNat 32 (t.val % 8)) (hT m c t) (wA m c t)
        (View.ld (iblk m c 5 t) (Rect.unit ![0, 0, 0, 0] ![1, 1, 256, 256] inb_S1x4x256x256_S1x1x256x256_0_0_0_0))
        (View.ld (iblk m c 6 t) (Rect.unit ![0, 0, 0] ![1, 1, 256] inb_S1x1x1024_S1x1x256_0_0_0)) (ix2 r d)
      = poolY (args m c) (bOf t) ⟨t.val % 8 * 512 + r.val, by omega⟩ 0 d := by
  unfold k0_pay10
  refine Eq.trans ?_ (pool_at m c t 0 r d _ rfl _ _ ((psblk m c t _)) fun k =>
    (pooled_of m c t 1 (by omega) _ r rfl ⟨k.val, by omega⟩ _ (cnt0 _)).trans
      (congrArg (pooled _ _ _ _) (Fin.ext (by simp))))
  pointwise
  refine congrArg (· * _) (Finset.sum_congr rfl fun x _ => congrArg (· * _)
    (congr_arg₂ (· - ·) (congr_arg₂ Ideal.div ?_ ?_) ?_))
  · refine Eq.trans ?_ (win0 (aA0 m c t) _ x (cols0 m c t x) r)
    pointwise
  · rw [pos_at]
  · rw [← cols0 m c t x _ (by omega)]
    pointwise

/-- the columns of group 1 -/
theorem cols1 (c : Dev nD) (t : Fin cfg0.N) (x : Fin 256) (n : ℕ) (h : n < 544) :
    (k0_pay11 (F := Ideal) (hT m c t) (wA m c t)) (ix2 ⟨n, h⟩ x) = fA m c t ⟨256 + x.val, by omega⟩ n := by
  pointwise [k0_pay11]
  exact projA m c t ⟨n, h⟩ _

/-- what the kernel stores of group 1 -/
theorem pool1 (c : Dev nD) (t : Fin cfg0.N) (r : Fin 512) (d : Fin 256) :
    k0_pay12 (k0_pay9 (BitVec.ofNat 32 (t.val % 8))) (k0_pay11 (hT m c t) (wA m c t))
        (View.ld (iblk m c 5 t) (Rect.unit ![0, 1, 0, 0] ![1, 1, 256, 256] inb_S1x4x256x256_S1x1x256x256_0_1_0_0))
        (View.ld (iblk m c 6 t) (Rect.unit ![0, 0, 256] ![1, 1, 256] inb_S1x1x1024_S1x1x256_0_0_256)) (ix2 r d)
      = poolY (args m c) (bOf t) ⟨t.val % 8 * 512 + r.val, by omega⟩ 1 d := by
  unfold k0_pay12
  refine Eq.trans ?_ (pool_at m c t 1 r d _ rfl _ _ ((psblk m c t _)) fun k =>
    pooled_of m c t 2 (by omega) _ r rfl ⟨256 + k.val, by omega⟩ _ (cnt1 _))
  pointwise
  refine congrArg (· * _) (Finset.sum_congr rfl fun x _ => congrArg (· * _)
    (congr_arg₂ (· - ·) (congr_arg₂ Ideal.div ?_ ?_) ?_))
  · refine Eq.trans ?_ (win1 (k0_pay11 (F := Ideal) (hT m c t) (wA m c t)) _ x (cols1 m c t x) r)
    pointwise
  · rw [pos_at]
  · exact cols1 m c t x _ _

/-- the columns of group 2 -/
theorem cols2 (c : Dev nD) (t : Fin cfg0.N) (x : Fin 256) (n : ℕ) (h : n < 544) :
    (k0_pay13 (F := Ideal) (aA m c t)) (ix2 ⟨n, h⟩ x) = fA m c t ⟨512 + x.val, by omega⟩ n := by
  pointwise [k0_pay13]
  exact projA m c t ⟨n, h⟩ _

/-- what the kernel stores of group 2 -/
theorem pool2 (c : Dev nD) (t : Fin cfg0.N) (r : Fin 512) (d : Fin 256) :
    k0_pay15 (k0_pay9 (BitVec.ofNat 32 (t.val % 8))) (k0_pay13 (k0_pay8 (hT m c t) (wA m c t))) (k0_pay14 (k0_pay8 (hT m c t) (wA m c t))) 4#32
        (View.ld (iblk m c 5 t) (Rect.unit ![0, 2, 0, 0] ![1, 1, 256, 256] inb_S1x4x256x256_S1x1x256x256_0_2_0_0))
        (View.ld (iblk m c 6 t) (Rect.unit ![0, 0, 512] ![1, 1, 256] inb_S1x1x1024_S1x1x256_0_0_512)) (ix2 r d)
      = poolY (args m c) (bOf t) ⟨t.val % 8 * 512 + r.val, by omega⟩ 2 d := by
  unfold k0_pay15
  refine Eq.trans ?_ (pool_at m c t 2 r d _ rfl _ _ ((psblk m c t _)) fun k =>
    pooled_of m c t 4 (by omega) _ r rfl ⟨512 + k.val, by omega⟩ _ (cnt2 _))
  pointwise
  refine congrArg (· * _) (Finset.sum_congr rfl fun x _ => congrArg (· * _)
    (congr_arg₂ (· - ·) (congr_arg₂ Ideal.div ?_ ?_) ?_))
  · exact win2 (k0_pay13 (F := Ideal) (aA m c t)) _ x (cols2 m c t x) r
  · rw [pos_at]
  · exact cols2 m c t x _ _

/-- the columns of group 3 -/
theorem cols3 (c : Dev nD) (t : Fin cfg0.N) (x : Fin 256) (n : ℕ) (h : n < 544) :
    (k0_pay16 (F := Ideal) (aA m c t)) (ix2 ⟨n, h⟩ x) = fA m c t ⟨768 + x.val, by omega⟩ n := by
  pointwise [k0_pay16]
  exact projA m c t ⟨n, h⟩ _

/-- what the kernel stores of group 3 -/
theorem pool3 (c : Dev nD) (t : Fin cfg0.N) (r : Fin 512) (d : Fin 256) :
    k0_pay19 (k0_pay9 (BitVec.ofNat 32 (t.val % 8))) (k0_pay16 (k0_pay8 (hT m c t) (wA m c t))) (k0_pay17 (k0_pay8 (hT m c t) (wA m c t)))
        (k0_pay18 (k0_pay9 (BitVec.ofNat 32 (t.val % 8))))
        (View.ld (iblk m c 5 t) (Rect.unit ![0, 3, 0, 0] ![1, 1, 256, 256] inb_S1x4x256x256_S1x1x256x256_0_3_0_0))
        (View.ld (iblk m c 6 t) (Rect.unit ![0, 0, 768] ![1, 1, 256] inb_S1x1x1024_S1x1x256_0_0_768)) (ix2 r d)
      = poolY (args m c) (bOf t) ⟨t.val % 8 * 512 + r.val, by omega⟩ 3 d := by
  unfold k0_pay19
  refine Eq.trans ?_ (pool_at m c t 3 r d _ rfl _ _ ((psblk m c t _)) fun k =>
    pooled_of m c t 8 (by omega) _ r rfl ⟨768 + k.val, by omega⟩ _ (cnt3 _))
  pointwise [k0_pay18]
  refine congrArg (· * _) (Finset.sum_congr rfl fun x _ => congrArg (· * _)
    (congr_arg₂ (· - ·) (congr_arg₂ Ideal.div ?_ ?_) ?_))
  · exact win3 (k0_pay16 (F := Ideal) (aA m c t)) _ x (cols3 m c t x) r
  · rw [pos_at]
  · exact cols3 m c t x _ _

end Cert.KernelIdeal.MixV

end
-- ==== Proof.MixGate.lean ====
/- The gating branch of the kernel: the normalised gate, its spatial mix chunk by chunk, and the product. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixRows

@[expose] public section

set_option maxRecDepth 16384

noncomputable section

namespace Cert.KernelIdeal.MixV

open Cert.KernelIdeal Cert.KernelIdeal.Gen Cert.MixSpec
open Idealize.ShloMosaic Idealize.ShloMosaic.TcCoe Idealize.SL.Sem
open Idealize.ShloMosaic.Pipeline (Dat)

variable (m : (ℓ : Loc nD τ sig) → Buf (Elt Ideal) ℓ)

theorem hM_at (c : Dev nD) (t : Fin cfg0.N) (y : S512x2048.Idx) (l : Fin 4096) (k : Fin 2048)
    (hl : l.val = t.val % 8 * 512 + (y 0).val) (hk : (y 1).val = k.val) : hM m c t y = hN (args m c) (bOf t) l k :=
  (congrArg (hE (args m c) (bOf t) _) (Fin.ext hk)).trans (hE_in _ _ l k _ (by omega))

/-- the position of a tile's row in its sequence -/
abbrev lOf (t : Fin cfg0.N) (r : Fin 512) : Fin 4096 := ⟨t.val % 8 * 512 + r.val, by omega⟩

/-- the gate's columns of the projection's weights -/
abbrev wV (c : Dev nD) (t : Fin cfg0.N) : FVec Ideal S1x2048x1024 .bf16 :=
  View.ld (iblk m c 4 t) (Rect.unit ![0, 0, 2048] ![1, 2048, 1024] inb_S1x2048x6144_S1x2048x1024_0_0_2048)

/-- the gated columns of the projection's weights -/
abbrev wU (c : Dev nD) (t : Fin cfg0.N) : FVec Ideal S1x2048x1024 .bf16 :=
  View.ld (iblk m c 4 t) (Rect.unit ![0, 0, 1024] ![1, 2048, 1024] inb_S1x2048x6144_S1x2048x1024_0_0_1024)

theorem projV (c : Dev nD) (t : Fin cfg0.N) (r : Fin 512) (j : Fin 1024) :
    k0_pay20 (F := Ideal) (hM m c t) (wV m c t) (ix2 r j) = proj (args m c) (bOf t) (lOf t r) ⟨2048 + j.val, by omega⟩ := by
  pointwise [k0_pay20, wV]
  unfold proj
  refine Finset.sum_congr rfl fun k _ => ?_
  exact congr_arg₂ (· * ·) (hM_at m c t _ _ k rfl rfl) (wblk m c t k _)

theorem projU (c : Dev nD) (t : Fin cfg0.N) (r : Fin 512) (j : Fin 1024) :
    k0_pay72 (F := Ideal) (hM m c t) (wU m c t) (ix2 r j) = proj (args m c) (bOf t) (lOf t r) ⟨1024 + j.val, by omega⟩ := by
  pointwise [k0_pay72, wU]
  unfold proj
  refine Finset.sum_congr rfl fun k _ => ?_
  exact congr_arg₂ (· * ·) (hM_at m c t _ _ k rfl rfl) (wblk m c t k _)

/-- the normalised gate of the tile -/
abbrev vT (c : Dev nD) (t : Fin cfg0.N) : FVec Ideal S512x1024 .bf16 :=
  k0_pay23 (k0_pay20 (hM m c t) (wV m c t)) (k0_pay21 (hM m c t) (wV m c t)) k0_pay22 (iblk m c 7 t)

theorem vT_at (c : Dev nD) (t : Fin cfg0.N) (r : Fin 512) (j : Fin 1024) :
    vT m c t (ix2 r j) = vN (args m c) (bOf t) (lOf t r) j := by
  unfold vT
  pointwise [k0_pay23, k0_pay21, k0_pay22]
  simp only [projV, sgblk]
  rfl

/-- the spatial mix of the tile -/
def zT (c : Dev nD) (t : Fin cfg0.N) : FVec Ideal S512x1024 .f32 := fun y =>
  sguZ (args m c) (bOf t) ⟨(t.val % 8 * 512 + (y 0).val) / 128, by have : (y 0).val < 512 := (y 0).isLt; omega⟩
    ⟨(t.val % 8 * 512 + (y 0).val) % 128, by omega⟩
    ⟨(y 1).val / 128, by have : (y 1).val < 1024 := (y 1).isLt; omega⟩ ⟨(y 1).val % 128, by omega⟩

/-- one chunk and group of the spatial mix, from its products and bias -/
theorem z_at (c : Dev nD) (t : Fin cfg0.N) (y : S512x1024.Idx) (g : Fin 8) (p q : Fin 128) (R : Fin 128 → Fin 512) (C : Fin 1024)
    (a v : Fin 128 → EReal) (b : EReal) (ha : ∀ x, a x = (args m c).sguW (ix4 0 g p x))
    (hv : ∀ x, v x = vN (args m c) (bOf t) (lOf t (R x)) C) (hb : b = (args m c).sguB (ix3 0 p g))
    (h0 : (y 0).val / 128 * 128 + p.val = (y 0).val) (h1 : g.val * 128 + q.val = (y 1).val) (hC : C.val = (y 1).val)
    (hR : ∀ x, (R x).val = (y 0).val / 128 * 128 + x.val) :
    (∑ x, a x * v x) + b
      = zT m c t y := by
  have y0 : (y 0).val < 512 := (y 0).isLt
  have y1 : (y 1).val < 1024 := (y 1).isLt
  unfold zT sguZ
  rw [show (⟨(y 1).val / 128, by omega⟩ : Fin 8) = g from Fin.ext (by simp only; omega),
    show (⟨(t.val % 8 * 512 + (y 0).val) % 128, by omega⟩ : Fin 128) = p from Fin.ext (by simp only; omega)]
  refine congr_arg₂ (· + ·) (Finset.sum_congr rfl fun x _ => congr_arg₂ (· * ·) (ha x) ((hv x).trans ?_)) hb
  refine (congr_arg₂ (vN _ _) (Fin.ext ?_) (Fin.ext ?_))
  · have := hR x
    simp only
    omega
  · simp only
    omega

theorem u_at (c : Dev nD) (t : Fin cfg0.N) (r : Fin 512) (j : Fin 1024) (z : FVec Ideal S512x1024 .f32) :
    k0_pay74 (F := Ideal) (k0_pay72 (hM m c t) (wU m c t)) (k0_pay73 (hM m c t) (wU m c t)) z (ix2 r j)
      = gelu (proj (args m c) (bOf t) (lOf t r) ⟨1024 + j.val, by omega⟩) * z (ix2 r j) := by
  pointwise [k0_pay74, k0_pay73]
  simp only [projU]
  rfl
end Cert.KernelIdeal.MixV

end
-- ==== Proof.MixConv.lean ====
/- The convolution branch of the kernel. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixGate

@[expose] public section

set_option maxRecDepth 16384

noncomputable section

namespace Cert.KernelIdeal.MixV

open Cert.KernelIdeal Cert.KernelIdeal.Gen Cert.MixSpec
open Idealize.ShloMosaic Idealize.ShloMosaic.TcCoe Idealize.SL.Sem
open Idealize.ShloMosaic.Pipeline (Dat)

variable (m : (ℓ : Loc nD τ sig) → Buf (Elt Ideal) ℓ)

/-- the three blocks of columns the convolution reads of the projection's weights -/
abbrev wX (c : Dev nD) (t : Fin cfg0.N) : FVec Ideal S1x2048x1024 .bf16 :=
  View.ld (iblk m c 4 t) (Rect.unit ![0, 0, 3072] ![1, 2048, 1024] inb_S1x2048x6144_S1x2048x1024_0_0_3072)
abbrev wC (c : Dev nD) (t : Fin cfg0.N) : FVec Ideal S1x2048x1024 .bf16 :=
  View.ld (iblk m c 4 t) (Rect.unit ![0, 0, 5120] ![1, 2048, 1024] inb_S1x2048x6144_S1x2048x1024_0_0_5120)
abbrev wB (c : Dev nD) (t : Fin cfg0.N) : FVec Ideal S1x2048x1024 .bf16 :=
  View.ld (iblk m c 4 t) (Rect.unit ![0, 0, 4096] ![1, 2048, 1024] inb_S1x2048x6144_S1x2048x1024_0_0_4096)

theorem cx_at (c : Dev nD) (t : Fin cfg0.N) (r : Fin 544) (j : Fin 1024) :
    k0_pay76 (F := Ideal) (k0_pay75 (F := Ideal) (hT m c t) (wX m c t)) (hT m c t) (wC m c t) (ix2 r j)
      = bxE (args m c) (bOf t) (t.val % 8 * 512 + r.val) j := by
  pointwise [k0_pay76, k0_pay75, wX, wC]
  unfold bxE projE
  rw [mul_comm]
  refine congr_arg₂ (· * ·) (Finset.sum_congr rfl fun k _ => ?_) (Finset.sum_congr rfl fun k _ => ?_)
  · exact congr_arg₂ (· * ·) (hT_at m c t _ _ k rfl rfl) (wblk m c t k _)
  · exact congr_arg₂ (· * ·) (hT_at m c t _ _ k rfl rfl) (wblk m c t k _)

/-- what the kernel stores of the convolution branch -/
theorem conv_at (c : Dev nD) (t : Fin cfg0.N) (r : Fin 512) (j : Fin 1024) (X : FVec Ideal S544x1024 .f32)
    (hX : ∀ r j, X (ix2 r j) = bxE (args m c) (bOf t) (t.val % 8 * 512 + r.val) j) :
    k0_pay77 (F := Ideal) X
      (View.ld (iblk m c 10 t) (Rect.unit ![0, 0, 0] ![1, 1, 1024] inb_S1x3x1024_S1x1x1024_0_0_0))
      (View.ld (iblk m c 10 t) (Rect.unit ![0, 1, 0] ![1, 1, 1024] inb_S1x3x1024_S1x1x1024_0_1_0))
      (View.ld (iblk m c 10 t) (Rect.unit ![0, 2, 0] ![1, 1, 1024] inb_S1x3x1024_S1x1x1024_0_2_0)) (hM m c t)
      (wB m c t) (ix2 r j)
      = convY (args m c) (bOf t) (lOf t r) j := by
  pointwise [k0_pay77, wB]
  unfold convY proj
  simp only [cwblk, hX]
  have e1 : t.val % 8 * 512 + (16 + r.val + 544 - 1) % 544 = t.val % 8 * 512 + r.val + 15 := by omega
  have e2 : t.val % 8 * 512 + (16 + r.val) = t.val % 8 * 512 + r.val + 16 := by omega
  have e3 : t.val % 8 * 512 + (16 + r.val + 544 - 543) % 544 = t.val % 8 * 512 + r.val + 17 := by omega
  simp only [e1, e2, e3]
  refine congr_arg₂ (· * ·) (Finset.sum_congr rfl fun k _ => ?_) ?_
  · exact congr_arg₂ (· * ·) (hM_at m c t _ _ k rfl rfl) (wblk m c t k _)
  · exact congr_arg₂ (· + ·) (congr_arg₂ (· + ·) (mul_comm _ _) (mul_comm _ _)) (mul_comm _ _)

end Cert.KernelIdeal.MixV

end
-- ==== Proof.MixPoint.lean ====
/- What one grid point of the mixers' kernel leaves in its two output blocks, and what the two output arrays
   hold after the run. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixPool
public import proofs.«01_k».proof.Proof.MixConv

@[expose] public section

set_option maxRecDepth 16384

noncomputable section

namespace Cert.KernelIdeal.MixV

open Cert.KernelIdeal Cert.KernelIdeal.Gen Cert.MixSpec
open Idealize.ShloMosaic Idealize.ShloMosaic.TcCoe Idealize.SL.Sem
open Idealize.ShloMosaic.Pipeline (Dat)

variable (m : (ℓ : Loc nD τ sig) → Buf (Elt Ideal) ℓ)

set_option maxHeartbeats 4000000 in
/-- What a grid point leaves in the block of the mixers' output: `mixY` at the tile's rows. -/
theorem point_mix (c : Dev nD) (t : Fin cfg0.N) (y : S512x3072.Idx) : (outsAt0 m c t).1 y =
    mixY (args m c) (bOf t) (lOf t (y 0)) (y 1) := by
  unfold Gen.outsAt0; frame_out
  simp only [wNext_eq]
  rw [hS_all, hS_tile]
  simp only [wTile_eq]
  simp (disch := decide) only [View.readCov_fill, View.ld_unit_lit']
  have hV := vT_at m c t
  unfold vT at hV
  generalize k0_pay23 (F := Ideal) (k0_pay20 (hM m c t) (wV m c t)) (k0_pay21 (hM m c t) (wV m c t)) k0_pay22 (iblk m c 7 t) = V at hV ⊢
  canon_tiles x h using (View.cover_of_tiledBy _ ![512, 256] (by sl_kernel_rfl) y)
  all_goals rw [eq_ix2 x]
  · rw [mixY_conv _ _ _ _ (x 1) h1, show y 0 = x 0 from Fin.ext h0]
    exact conv_at m c t (x 0) (x 1) _ (cx_at m c t)
  · refine (u_at m c t (x 0) (x 1) _).trans ?_
    rw [mixY_gate _ _ _ _ (x 1) h1, show y 0 = x 0 from Fin.ext h0]
    unfold sguY
    refine congrArg (gelu _ * ·) ?_
    rw [View.readCov_eq_canon']
    refine Eq.trans (congrFun (g := zT m c t) ?_ _) ?_
    · funext w
      canon_tiles v k
      all_goals
        obtain ⟨p, q, hv⟩ : ∃ p q : Fin 128, v = ix2 p q := ⟨v 0, v 1, eq_ix2 v⟩
        have hp : (v 0).val = p.val := congrArg (fun u : S128x128.Idx => (u 0).val) hv
        have hq : (v 1).val = q.val := congrArg (fun u : S128x128.Idx => (u 1).val) hv
        rw [hv]
        pointwise [k0_pay71, k0_pay70, k0_pay69, k0_pay68, k0_pay67, k0_pay66, k0_pay65, k0_pay64, k0_pay63, k0_pay62, k0_pay61,
          k0_pay60, k0_pay59, k0_pay58, k0_pay57, k0_pay56, k0_pay55, k0_pay54, k0_pay53, k0_pay52, k0_pay51, k0_pay50, k0_pay49,
          k0_pay48, k0_pay47, k0_pay46, k0_pay45, k0_pay44, k0_pay43, k0_pay42, k0_pay41, k0_pay40, k0_pay39, k0_pay38, k0_pay37,
          k0_pay36, k0_pay35, k0_pay34, k0_pay33, k0_pay32, k0_pay31, k0_pay30, k0_pay29, k0_pay28, k0_pay27, k0_pay26, k0_pay25, k0_pay24]
        try simp (disch := omega) only [dif_pos, dif_neg]
        refine z_at m c t w ⟨(w 1).val / 128, by omega⟩ p q (fun x => ⟨(w 0).val / 128 * 128 + x.val, by omega⟩) ⟨(w 1).val, by omega⟩
          _ _ _ (fun x => ?_) (fun x => ?_) ?_ (by omega) (by simp only; omega) rfl fun x => rfl
        · exact (swblk m c t _ p x).trans (congrArg (fun g => (args m c).sguW (ix4 0 g p x)) (Fin.ext (by simp <;> omega)))
        · exact (hV _ _).trans (congr_arg₂ (fun r j => vN (args m c) (bOf t) (lOf t r) j) (Fin.ext (by simp only; omega)) (Fin.ext (by simp only; omega)))
        · exact (sbblk m c t _ p q).trans (congrArg (fun g => (args m c).sguB (ix3 0 p g)) (Fin.ext (by simp <;> omega)))
    · unfold zT
      congr 1 <;> apply Fin.ext <;> simp
  · rw [mixY_pool _ _ _ _ 3 (x 1) h1, show y 0 = x 0 from Fin.ext h0]
    exact pool3 m c t (x 0) (x 1)
  · rw [mixY_pool _ _ _ _ 2 (x 1) h1, show y 0 = x 0 from Fin.ext h0]
    exact pool2 m c t (x 0) (x 1)
  · rw [mixY_pool _ _ _ _ 1 (x 1) h1, show y 0 = x 0 from Fin.ext h0]
    exact pool1 m c t (x 0) (x 1)
  · rw [mixY_pool _ _ _ _ 0 (x 1) (h1.trans (by simp)), show y 0 = x 0 from Fin.ext h0]
    exact pool0 m c t (x 0) (x 1)

/-- What a grid point leaves in the block of the activations' output: the tile's normalised rows. -/
theorem point_act (c : Dev nD) (t : Fin cfg0.N) (y : S512x2048.Idx) : (outsAt0 m c t).2 y =
    hN (args m c) (bOf t) (lOf t (y 0)) (y 1) := by
  unfold Gen.outsAt0; frame_out
  simp only [wNext_eq]
  rw [hS_tile]
  exact hM_at m c t y _ _ rfl rfl

theorem tile11 : ∀ t : Fin cfg0.N, win0_11.index t 0 = t.val ∧ win0_11.index t 1 = 0 := (by decide +kernel : ∀ t : Fin grid0.N, _)

theorem tile12 : ∀ t : Fin cfg0.N, win0_12.index t 0 = t.val ∧ win0_12.index t 1 = 0 := (by decide +kernel : ∀ t : Fin grid0.N, _)

/-- the mixers' output array: its row `4096 b + l` is position `l` of sequence `b` -/
theorem final_mix (c : Dev nD) : (dats m 0 c).arrAt 11 cfg0.N = mixArr (args m c) := by
  refine (dats m 0 c).arrAt_eq_of_covers 11 (mixArr (args m c)) (by decide +kernel) fun t _ y => ?_
  blk_simp [mixArr]
  rw [after0_11, point_mix]
  obtain ⟨e0, e1⟩ := tile11 t
  have hy : (y 0).val < 512 := (y 0).isLt
  refine congr (congr (congrArg (mixY (args m c)) (Fin.ext ?_)) (Fin.ext ?_)) (Fin.ext ?_)
  · show t.val / 8 = (win0_11.index t 0 * 512 + (y 0).val) / 4096
    omega
  · show t.val % 8 * 512 + (y 0).val = (win0_11.index t 0 * 512 + (y 0).val) % 4096
    omega
  · blk_simp
    omega

/-- the activations' output array: its row `4096 b + l` is position `l` of sequence `b` -/
theorem final_act (c : Dev nD) : (dats m 0 c).arrAt 12 cfg0.N = actArr (args m c) := by
  refine (dats m 0 c).arrAt_eq_of_covers 12 (actArr (args m c)) (by decide +kernel) fun t _ y => ?_
  blk_simp [actArr]
  rw [after0_12, point_act]
  obtain ⟨e0, e1⟩ := tile12 t
  have hy : (y 0).val < 512 := (y 0).isLt
  refine congr (congr (congrArg (hN (args m c)) (Fin.ext ?_)) (Fin.ext ?_)) (Fin.ext ?_)
  · show t.val / 8 = (win0_12.index t 0 * 512 + (y 0).val) / 4096
    omega
  · show t.val % 8 * 512 + (y 0).val = (win0_12.index t 0 * 512 + (y 0).val) % 4096
    omega
  · blk_simp
    omega

end Cert.KernelIdeal.MixV
end
-- ==== Proof.RefRows.lean ====
/- The reference's arrays at coordinates: the normalised activations, their projection and its zero-padded columns. -/
module

public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.MixSpec

@[expose] public section

set_option maxRecDepth 16384

noncomputable section

namespace Cert.ReferenceIdeal.MixR

open Cert.ReferenceIdeal Cert.MixSpec
open Idealize.ShloMosaic Idealize.ShloMosaic.TcCoe Idealize.SL.Sem

variable (A : Args)

/-- the reference's normalised activations -/
theorem act_at (b : Fin 4) (l : Fin 4096) (k : Fin 2048) :
    Read.val_main_v14 (F := Ideal) A.x A.g1 (ix3 b l k) = hN A b l k := by
  pointwise [Read.val_main_v14, Read.val_main_v13, Read.val_main_v12, Read.val_main_v11, Read.val_main_v10, Read.val_main_v9,
    Read.val_main_v8, Read.val_main_v7, Read.val_main_v6, Read.val_main_v5, Read.val_main_v4, Read.val_main_v3, Read.val_main_v2,
    Read.val_main_v1, Read.val_main_v0, Read.val_main_cst, Read.val_main_cst_0, Read.val_main_cst_1, hN, rms]

/-- the reference's projection -/
theorem proj_at (b : Fin 4) (l : Fin 4096) (c : Fin 6144) :
    Read.val_main_v18 (F := Ideal) A.x A.g1 A.wIn (ix3 b l c) = proj A b l ⟨c.val, by omega⟩ := by
  pointwise [Read.val_main_v18, Read.val_main_v17, Read.val_main_v16, Read.val_main_v15]
  exact Finset.sum_congr rfl fun k _ => by rw [act_at]

/-- columns of the projection padded by `s` zero rows are those of the padded sequence -/
theorem padE_of (b : Fin 4) (c : Fin 12288) (s e e' : ℕ) (he : e' = e + 16 - s) (hs : s ≤ 16)
    (f : s ≤ e ∧ e - s < 4096 → EReal) (hf : ∀ h, f h = proj A b ⟨e - s, h.2⟩ c) :
    (if h : s ≤ e ∧ e - s < 4096 then f h else 0) = projE A b e' c := by
  subst he
  by_cases h : s ≤ e ∧ e - s < 4096
  · rw [dif_pos h, hf h, projE_in A b ⟨e - s, h.2⟩ c _ (by simp only; omega)]
  · rw [dif_neg h, projE_out A b _ c (by omega)]

/-- the mean over the window of half-width `s` around position `l` -/
def meanY (A : Args) (s : ℕ) (b : Fin 4) (l : Fin 4096) (c : Fin 12288) : EReal :=
  Ideal.div (∑ d : Fin (2 * s), projE A b (l.val + 16 - s + d.val) c) (FloatOps.sitofp (F := Ideal) .f32 (cntW s l.val))

end Cert.ReferenceIdeal.MixR
end
-- ==== Proof.RefPool.lean ====
/- The reference's pooling branch: the window means of the four groups, side by side, less the value, times each group's matrix. -/
module

public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.RefRows

@[expose] public section

set_option maxRecDepth 16384

noncomputable section

namespace Cert.ReferenceIdeal.MixR

open Cert.ReferenceIdeal Cert.MixSpec
open Idealize.ShloMosaic Idealize.ShloMosaic.TcCoe Idealize.SL.Sem

variable (A : Args)

/-- the padded columns of the group of half-width 1 -/
theorem pad0_at (b : Fin 4) (e : Fin 4097) (c : Fin 256) :
    Read.val_main_v32 (F := Ideal) A.x A.g1 A.wIn (ix3 b e c) = projE A b (15 + e.val) ⟨c.val, by omega⟩ := by
  pointwise [Read.val_main_v32, Read.val_main_v31, Read.val_main_v19, Read.val_main_call2_v0, Read.val_main_c_7]
  rw [show FloatOps.sitofp (F := Ideal) FTy.f32 0#32 = (0 : EReal) from by simp [FloatOps.sitofp]]
  exact padE_of A b ⟨c.val, by omega⟩ 1 e.val (15 + e.val) (by omega) (by omega) _ fun h => proj_at A b ⟨e.val - 1, h.2⟩ ⟨c.val, by omega⟩

/-- the number of positions in its windows -/
theorem cnt0_at (l : Fin 4096) : Read.val_main_v40 (F := Ideal) (ix1 l) = cntW 1 l.val := by
  revert l
  pointwise [Read.val_main_v40, Read.val_main_v39, Read.val_main_v38, Read.val_main_v30, Read.val_main_v27, Read.val_main_v24,
    Read.val_main_v25, Read.val_main_v26, Read.val_main_v28, Read.val_main_v29, Read.val_main_call0_v0, Read.val_main_call0_v1,
    Read.val_main_call0_v2, Read.val_main_call0_v3, Read.val_main_call0_v4, Read.val_main_call1_v0, Read.val_main_call1_v1,
    Read.val_main_call1_v2, Read.val_main_call1_v3, Read.val_main_call1_v4, Read.val_main_c, Read.val_main_c_2, Read.val_main_c_3,
    Read.val_main_c_4, Read.val_main_c_5, Read.val_main_c_6, Read.val_main_c_9]
  decide +kernel

/-- its window means -/
theorem mean0_at (b : Fin 4) (l : Fin 4096) (c : Fin 256) :
    Read.val_main_v44 (F := Ideal) A.x A.g1 A.wIn (ix3 b l c) = meanY A 1 b l ⟨c.val, by omega⟩ := by
  pointwise [Read.val_main_v44, Read.val_main_v43, Read.val_main_v42, Read.val_main_v41, Read.val_main_v37, Read.val_main_v36,
    Read.val_main_v35, Read.val_main_v34, Read.val_main_v33, Read.val_main_cst_8]
  rw [cnt0_at]
  simp only [pad0_at]
  refine congrArg (Ideal.div · _) ?_
  rw [show l.val + 16 - 1 = l.val + 15 from by omega]
  simp [Fin.sum_univ_castSucc]
  simp only [Nat.add_comm, Nat.add_left_comm]

/-- the padded columns of the group of half-width 2 -/
theorem pad1_at (b : Fin 4) (e : Fin 4099) (c : Fin 256) :
    Read.val_main_v52 (F := Ideal) A.x A.g1 A.wIn (ix3 b e c) = projE A b (14 + e.val) ⟨256 + c.val, by omega⟩ := by
  pointwise [Read.val_main_v52, Read.val_main_v51, Read.val_main_v19, Read.val_main_call5_v0, Read.val_main_c_16]
  rw [show FloatOps.sitofp (F := Ideal) FTy.f32 0#32 = (0 : EReal) from by simp [FloatOps.sitofp]]
  exact padE_of A b ⟨256 + c.val, by omega⟩ 2 e.val (14 + e.val) (by omega) (by omega) _ fun h => proj_at A b ⟨e.val - 2, h.2⟩ ⟨256 + c.val, by omega⟩

/-- the number of positions in its windows -/
theorem cnt1_at (l : Fin 4096) : Read.val_main_v64 (F := Ideal) (ix1 l) = cntW 2 l.val := by
  revert l
  pointwise [Read.val_main_v64, Read.val_main_v63, Read.val_main_v62, Read.val_main_v50, Read.val_main_v49, Read.val_main_v48,
    Read.val_main_v47, Read.val_main_v46, Read.val_main_v45, Read.val_main_v24, Read.val_main_call3_v0, Read.val_main_call3_v1,
    Read.val_main_call3_v2, Read.val_main_call3_v3, Read.val_main_call3_v4, Read.val_main_call4_v0, Read.val_main_call4_v1,
    Read.val_main_call4_v2, Read.val_main_call4_v3, Read.val_main_call4_v4, Read.val_main_c_10, Read.val_main_c_11, Read.val_main_c_12,
    Read.val_main_c_13, Read.val_main_c_14, Read.val_main_c_15, Read.val_main_c_18]
  decide +kernel

/-- its window means -/
theorem mean1_at (b : Fin 4) (l : Fin 4096) (c : Fin 256) :
    Read.val_main_v68 (F := Ideal) A.x A.g1 A.wIn (ix3 b l c) = meanY A 2 b l ⟨256 + c.val, by omega⟩ := by
  pointwise [Read.val_main_v68, Read.val_main_v67, Read.val_main_v66, Read.val_main_v65, Read.val_main_v61, Read.val_main_v60,
    Read.val_main_v59, Read.val_main_v58, Read.val_main_v57, Read.val_main_v56, Read.val_main_v55, Read.val_main_v54, Read.val_main_v53,
    Read.val_main_cst_17]
  rw [cnt1_at]
  simp only [pad1_at]
  refine congrArg (Ideal.div · _) ?_
  rw [show l.val + 16 - 2 = l.val + 14 from by omega]
  simp [Fin.sum_univ_castSucc]
  simp only [Nat.add_comm, Nat.add_left_comm]

/-- the padded columns of the group of half-width 4 -/
theorem pad2_at (b : Fin 4) (e : Fin 4103) (c : Fin 256) :
    Read.val_main_v76 (F := Ideal) A.x A.g1 A.wIn (ix3 b e c) = projE A b (12 + e.val) ⟨512 + c.val, by omega⟩ := by
  pointwise [Read.val_main_v76, Read.val_main_v75, Read.val_main_v19, Read.val_main_call8_v0, Read.val_main_c_25]
  rw [show FloatOps.sitofp (F := Ideal) FTy.f32 0#32 = (0 : EReal) from by simp [FloatOps.sitofp]]
  exact padE_of A b ⟨512 + c.val, by omega⟩ 4 e.val (12 + e.val) (by omega) (by omega) _ fun h => proj_at A b ⟨e.val - 4, h.2⟩ ⟨512 + c.val, by omega⟩

/-- the number of positions in its windows -/
theorem cnt2_at (l : Fin 4096) : Read.val_main_v96 (F := Ideal) (ix1 l) = cntW 4 l.val := by
  revert l
  pointwise [Read.val_main_v96, Read.val_main_v95, Read.val_main_v94, Read.val_main_v74, Read.val_main_v73, Read.val_main_v72,
    Read.val_main_v71, Read.val_main_v70, Read.val_main_v69, Read.val_main_v24, Read.val_main_call6_v0, Read.val_main_call6_v1,
    Read.val_main_call6_v2, Read.val_main_call6_v3, Read.val_main_call6_v4, Read.val_main_call7_v0, Read.val_main_call7_v1,
    Read.val_main_call7_v2, Read.val_main_call7_v3, Read.val_main_call7_v4, Read.val_main_c_19, Read.val_main_c_20, Read.val_main_c_21,
    Read.val_main_c_22, Read.val_main_c_23, Read.val_main_c_24, Read.val_main_c_27]
  decide +kernel

/-- its window means -/
theorem mean2_at (b : Fin 4) (l : Fin 4096) (c : Fin 256) :
    Read.val_main_v100 (F := Ideal) A.x A.g1 A.wIn (ix3 b l c) = meanY A 4 b l ⟨512 + c.val, by omega⟩ := by
  pointwise [Read.val_main_v100, Read.val_main_v99, Read.val_main_v98, Read.val_main_v97, Read.val_main_v93, Read.val_main_v92,
    Read.val_main_v91, Read.val_main_v90, Read.val_main_v89, Read.val_main_v88, Read.val_main_v87, Read.val_main_v86, Read.val_main_v85,
    Read.val_main_v84, Read.val_main_v83, Read.val_main_v82, Read.val_main_v81, Read.val_main_v80, Read.val_main_v79, Read.val_main_v78,
    Read.val_main_v77, Read.val_main_cst_26]
  rw [cnt2_at]
  simp only [pad2_at]
  refine congrArg (Ideal.div · _) ?_
  rw [show l.val + 16 - 4 = l.val + 12 from by omega]
  simp [Fin.sum_univ_castSucc]
  simp only [Nat.add_comm, Nat.add_left_comm]

/-- the padded columns of the group of half-width 8 -/
theorem pad3_at (b : Fin 4) (e : Fin 4111) (c : Fin 256) :
    Read.val_main_v108 (F := Ideal) A.x A.g1 A.wIn (ix3 b e c) = projE A b (8 + e.val) ⟨768 + c.val, by omega⟩ := by
  pointwise [Read.val_main_v108, Read.val_main_v107, Read.val_main_v19, Read.val_main_call11_v0, Read.val_main_c_34]
  rw [show FloatOps.sitofp (F := Ideal) FTy.f32 0#32 = (0 : EReal) from by simp [FloatOps.sitofp]]
  exact padE_of A b ⟨768 + c.val, by omega⟩ 8 e.val (8 + e.val) (by omega) (by omega) _ fun h => proj_at A b ⟨e.val - 8, h.2⟩ ⟨768 + c.val, by omega⟩

/-- the number of positions in its windows -/
theorem cnt3_at (l : Fin 4096) : Read.val_main_v144 (F := Ideal) (ix1 l) = cntW 8 l.val := by
  revert l
  pointwise [Read.val_main_v144, Read.val_main_v143, Read.val_main_v142, Read.val_main_v106, Read.val_main_v105, Read.val_main_v104,
    Read.val_main_v103, Read.val_main_v102, Read.val_main_v101, Read.val_main_v24, Read.val_main_call9_v0, Read.val_main_call9_v1,
    Read.val_main_call9_v2, Read.val_main_call9_v3, Read.val_main_call9_v4, Read.val_main_call10_v0, Read.val_main_call10_v1,
    Read.val_main_call10_v2, Read.val_main_call10_v3, Read.val_main_call10_v4, Read.val_main_c_28, Read.val_main_c_29, Read.val_main_c_30,
    Read.val_main_c_31, Read.val_main_c_32, Read.val_main_c_33, Read.val_main_c_36]
  decide +kernel

/-- its window means -/
theorem mean3_at (b : Fin 4) (l : Fin 4096) (c : Fin 256) :
    Read.val_main_v148 (F := Ideal) A.x A.g1 A.wIn (ix3 b l c) = meanY A 8 b l ⟨768 + c.val, by omega⟩ := by
  pointwise [Read.val_main_v148, Read.val_main_v147, Read.val_main_v146, Read.val_main_v145, Read.val_main_v141, Read.val_main_v140,
    Read.val_main_v139, Read.val_main_v138, Read.val_main_v137, Read.val_main_v136, Read.val_main_v135, Read.val_main_v134,
    Read.val_main_v133, Read.val_main_v132, Read.val_main_v131, Read.val_main_v130, Read.val_main_v129, Read.val_main_v128,
    Read.val_main_v127, Read.val_main_v126, Read.val_main_v125, Read.val_main_v124, Read.val_main_v123, Read.val_main_v122,
    Read.val_main_v121, Read.val_main_v120, Read.val_main_v119, Read.val_main_v118, Read.val_main_v117, Read.val_main_v116,
    Read.val_main_v115, Read.val_main_v114, Read.val_main_v113, Read.val_main_v112, Read.val_main_v111, Read.val_main_v110,
    Read.val_main_v109, Read.val_main_cst_35]
  rw [cnt3_at]
  simp only [pad3_at]
  refine congrArg (Ideal.div · _) ?_
  rw [show l.val + 16 - 8 = l.val + 8 from by omega]
  simp [Fin.sum_univ_castSucc]
  simp only [Nat.add_comm, Nat.add_left_comm]

/-- the four groups' means side by side -/
theorem means_at (b : Fin 4) (l : Fin 4096) (g : Fin 4) (c : Fin 256) (j : Fin 1024) (hj : j.val = 256 * g.val + c.val) :
    Read.val_main_v149 (F := Ideal) A.x A.g1 A.wIn (ix3 b l j) = meanY A (half g) b l ⟨j.val, by omega⟩ := by
  pointwise [Read.val_main_v149]
  have hc := c.isLt
  match g, hj with
  | 0, hj =>
    replace hj : j.val = 0 + c.val := hj
    rw [dif_pos (by omega)]
    exact (mean0_at A b l _).trans (congrArg (meanY A 1 b l) (Fin.ext (by simp only)))
  | 1, hj =>
    replace hj : j.val = 256 + c.val := hj
    rw [dif_neg (by omega), dif_pos (by omega)]
    exact (mean1_at A b l _).trans (congrArg (meanY A 2 b l) (Fin.ext (by simp only; omega)))
  | 2, hj =>
    replace hj : j.val = 512 + c.val := hj
    rw [dif_neg (by omega), dif_neg (by omega), dif_pos (by omega)]
    exact (mean2_at A b l _).trans (congrArg (meanY A 4 b l) (Fin.ext (by simp only; omega)))
  | 3, hj =>
    replace hj : j.val = 768 + c.val := hj
    rw [dif_neg (by omega), dif_neg (by omega), dif_neg (by omega)]
    exact (mean3_at A b l _).trans (congrArg (meanY A 8 b l) (Fin.ext (by simp only; omega)))

/-- the reference's pooling branch -/
theorem pool_at (b : Fin 4) (l : Fin 4096) (j : Fin 1024) :
    Read.val_main_v157 (F := Ideal) A.x A.g1 A.wIn A.wPool A.pScale (ix3 b l j)
      = poolY A b l ⟨j.val / 256, by omega⟩ ⟨j.val % 256, by omega⟩ := by
  pointwise [Read.val_main_v157, Read.val_main_v156, Read.val_main_v155, Read.val_main_v154, Read.val_main_v153, Read.val_main_v152,
    Read.val_main_v151, Read.val_main_v150, Read.val_main_v23, Read.val_main_v22, Read.val_main_v21, Read.val_main_v20, Read.val_main_v19]
  unfold poolY
  refine congr_arg₂ (· * ·) (Finset.sum_congr rfl fun c _ => congrArg (_ * ·) ?_) (congrArg (fun k => A.pScale (ix2 0 k)) (Fin.ext ?_))
  · rw [means_at A b l ⟨j.val / 256, by omega⟩ c _ (by simp only; omega), proj_at]
    unfold pooled meanY
    have h : j.val / 256 * 256 + c.val = 256 * (j.val / 256) + c.val := by omega
    simp only [h]
  · simp only; omega

end Cert.ReferenceIdeal.MixR
end
-- ==== Proof.RefMix.lean ====
/- The reference's gating and convolution branches. -/
module

public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.RefRows

@[expose] public section

set_option maxRecDepth 16384

noncomputable section

namespace Cert.ReferenceIdeal.MixR

open Cert.ReferenceIdeal Cert.MixSpec
open Idealize.ShloMosaic Idealize.ShloMosaic.TcCoe Idealize.SL.Sem

variable (A : Args)

/-- gelu of the gate's columns -/
theorem gelu_at (b : Fin 4) (l : Fin 4096) (j : Fin 2048) :
    Read.val_main_v177 (F := Ideal) A.x A.g1 A.wIn (ix3 b l j) = gelu (proj A b l ⟨1024 + j.val, by omega⟩) := by
  pointwise [Read.val_main_v177, Read.val_main_v176, Read.val_main_v175, Read.val_main_v174, Read.val_main_v173, Read.val_main_v172,
    Read.val_main_v171, Read.val_main_v170, Read.val_main_v169, Read.val_main_v168, Read.val_main_v167, Read.val_main_v166,
    Read.val_main_v165, Read.val_main_v158, Read.val_main_cst_37, Read.val_main_cst_38, Read.val_main_cst_39, Read.val_main_cst_40]
  rw [proj_at]
  unfold gelu
  simp only [mul_assoc]

/-- the gate's normalised input -/
theorem vn_at (b : Fin 4) (l : Fin 4096) (j : Fin 1024) :
    Read.val_main_v192 (F := Ideal) A.x A.g1 A.wIn A.sguG (ix3 b l j) = vN A b l j := by
  pointwise [Read.val_main_v192, Read.val_main_v191, Read.val_main_v190, Read.val_main_v189, Read.val_main_v188, Read.val_main_v187,
    Read.val_main_v186, Read.val_main_v185, Read.val_main_v184, Read.val_main_v183, Read.val_main_v182, Read.val_main_v181,
    Read.val_main_v180, Read.val_main_v179, Read.val_main_v160, Read.val_main_v159, Read.val_main_cst_41, Read.val_main_cst_42,
    Read.val_main_cst_43]
  simp only [gelu_at]
  unfold vN rms
  simp only [← Nat.add_assoc, Nat.reduceAdd]

/-- the gating branch -/
theorem gate_at (b : Fin 4) (l : Fin 4096) (j : Fin 1024) :
    Read.val_main_v200 (F := Ideal) A.x A.g1 A.wIn A.sguG A.sguW A.sguB (ix3 b l j) = sguY A b l j := by
  pointwise [Read.val_main_v200, Read.val_main_v199, Read.val_main_v198, Read.val_main_v197, Read.val_main_v196, Read.val_main_v195,
    Read.val_main_v194, Read.val_main_v193, Read.val_main_v164, Read.val_main_v163, Read.val_main_v162, Read.val_main_v161,
    Read.val_main_v178]
  simp only [gelu_at, vn_at]
  unfold sguY sguZ
  refine congrArg (gelu _ * ·) (congrArg (· + _) (Finset.sum_congr rfl fun q _ => ?_))
  rw [mul_comm]
  exact congrArg (_ * ·) (congr_arg₂ (vN A b) (Fin.ext (by simp only; omega)) (Fin.ext (by simp only; omega)))

/-- the convolution's padded input -/
theorem bx_at (b : Fin 4) (e : Fin 4098) (j : Fin 1024) :
    Read.val_main_v208 (F := Ideal) A.x A.g1 A.wIn (ix3 b e j) = bxE A b (15 + e.val) j := by
  pointwise [Read.val_main_v208, Read.val_main_v207, Read.val_main_v206, Read.val_main_v204, Read.val_main_v201, Read.val_main_call12_v0,
    Read.val_main_c_44]
  rw [show FloatOps.sitofp (F := Ideal) FTy.f32 0#32 = (0 : EReal) from by simp [FloatOps.sitofp]]
  unfold bxE
  by_cases h : 1 ≤ e.val ∧ e.val - 1 < 4096
  · rw [dif_pos h, proj_at, proj_at, projE_in A b ⟨e.val - 1, h.2⟩ _ _ (by simp only; omega),
      projE_in A b ⟨e.val - 1, h.2⟩ _ _ (by simp only; omega)]
    exact congrArg (fun c => proj A b _ c * _) (Fin.ext (by simp only; omega))
  · rw [dif_neg h, projE_out A b _ _ (by omega), zero_mul]

/-- the convolution branch -/
theorem conv_at (b : Fin 4) (l : Fin 4096) (j : Fin 1024) :
    Read.val_main_v229 (F := Ideal) A.x A.g1 A.wIn A.convW (ix3 b l j) = convY A b l j := by
  pointwise [Read.val_main_v229, Read.val_main_v228, Read.val_main_v227, Read.val_main_v226, Read.val_main_v225, Read.val_main_v224,
    Read.val_main_v223, Read.val_main_v222, Read.val_main_v221, Read.val_main_v220, Read.val_main_v219, Read.val_main_v218,
    Read.val_main_v217, Read.val_main_v216, Read.val_main_v215, Read.val_main_v214, Read.val_main_v213, Read.val_main_v212,
    Read.val_main_v211, Read.val_main_v210, Read.val_main_v209, Read.val_main_v205, Read.val_main_v203, Read.val_main_v202,
    Read.val_main_v201]
  rw [proj_at, bx_at, bx_at, bx_at]
  unfold convY
  have h1 : 15 + l.val = l.val + 15 := by omega
  have h2 : 15 + (1 + l.val) = l.val + 16 := by omega
  have h3 : 15 + (2 + l.val) = l.val + 17 := by omega
  simp only [h1, h2, h3]
  exact congrArg (fun c => proj A b l c * _) (Fin.ext (by simp only; omega))

end Cert.ReferenceIdeal.MixR
end
-- ==== Proof.RefOut.lean ====
/- The reference's two results, as arrays of the arguments. -/
module

public import proofs.«01_k».proof.Proof.Gen.ReferenceIdeal.Read
public import Idealize.ShloMosaic.Lib.Pipeline.ValueKit
public import Idealize.ShloMosaic.Lib.Pointwise
public import Idealize.ShloMosaic.Lib.Claim
public import proofs.«01_k».proof.Proof.RefPool
public import proofs.«01_k».proof.Proof.RefMix
public import proofs.«01_k».proof.Proof.Gen.ReferenceIdeal.Run

@[expose] public section

set_option maxRecDepth 16384

noncomputable section

namespace Cert.ReferenceIdeal.MixR

open Cert.ReferenceIdeal Cert.MixSpec
open Idealize.ShloMosaic Idealize.ShloMosaic.TcCoe Idealize.SL.Sem

variable (A : Args)

/-- the three branches side by side -/
theorem mix_at (b : Fin 4) (l : Fin 4096) (j : Fin 3072) :
    Read.val_main_v230 (F := Ideal) A.x A.g1 A.wIn A.wPool A.pScale A.sguG A.sguW A.sguB A.convW (ix3 b l j) = mixY A b l j := by
  pointwise [Read.val_main_v230]
  unfold mixY
  by_cases h : j.val < 1024
  · rw [dif_pos h, dif_pos h]
    exact pool_at A b l ⟨j.val, h⟩
  · rw [dif_neg h, dif_neg h]
    by_cases h' : j.val < 2048
    · rw [dif_pos (by omega), dif_pos h']
      exact gate_at A b l ⟨j.val - 1024, by omega⟩
    · rw [dif_neg (by omega), dif_neg h']
      exact (conv_at A b l _).trans (congrArg (convY A b l) (Fin.ext (by simp only; omega)))

/-- the reference's first result -/
theorem mix_result : Read.val_main_v232 (F := Ideal) A.x A.g1 A.wIn A.wPool A.pScale A.sguG A.sguW A.sguB A.convW = mixArr A := by
  funext i
  obtain ⟨r, j, rfl⟩ : ∃ (r : Fin 16384) (j : Fin 3072), i = ix2 r j := ⟨i 0, i 1, eq_ix2 i⟩
  pointwise [Read.val_main_v232, Read.val_main_v231]
  exact mix_at A _ _ j

/-- the reference's second result -/
theorem act_result : Read.val_main_v234 (F := Ideal) A.x A.g1 = actArr A := by
  funext i
  obtain ⟨r, j, rfl⟩ : ∃ (r : Fin 16384) (j : Fin 2048), i = ix2 r j := ⟨i 0, i 1, eq_ix2 i⟩
  pointwise [Read.val_main_v234, Read.val_main_v233]
  exact act_at A _ _ j

/-- the argument arrays on device `c` -/
def args (m : (ℓ : Loc nD τ sig) → Buf (Elt Ideal) ℓ) (c : Dev nD) : Args where
  x := m ((c : Thread nD τ).loc main_arg0)
  g1 := m ((c : Thread nD τ).loc main_arg1)
  wIn := m ((c : Thread nD τ).loc main_arg2)
  wPool := m ((c : Thread nD τ).loc main_arg3)
  pScale := m ((c : Thread nD τ).loc main_arg4)
  sguG := m ((c : Thread nD τ).loc main_arg5)
  sguW := m ((c : Thread nD τ).loc main_arg6)
  sguB := m ((c : Thread nD τ).loc main_arg7)
  convW := m ((c : Thread nD τ).loc main_arg8)

/-- The reference runs, ends with the two arrays and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v232) = mixArr (args m c)
      ∧ r.2.mem ((c.tc : Thread nD τ).loc main_v234) = actArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((Read.val_main_v232_eq _).trans (mix_result (args m c))),
    (h c).2.1.trans ((Read.val_main_v234_eq _).trans (act_result (args m c))), (h c).2.2⟩) (Value.run m ρ)

end Cert.ReferenceIdeal.MixR
end
-- ==== Proof.OutSpec.lean ====
/- The output projection as plain functions on the extended reals, at coordinates: the gated sum of the three
   projected branches, and its product with the output weights.  Both the reference and the kernel are shown to
   compute these. -/
module

public import Idealize.ShloMosaic.Lib.Pipeline.ValueKit
public import Idealize.ShloMosaic.Lib.Pointwise

@[expose] public section

set_option maxRecDepth 16384

noncomputable section

namespace Cert.OutSpec

open Idealize.ShloMosaic Idealize.ShloMosaic.TcCoe

/-- the argument arrays: the activations, the mixers' outputs side by side, and the weights -/
@[ext] structure Args where
  h : FVec Ideal ⟨2, ![16384, 2048]⟩ .bf16
  y : FVec Ideal ⟨2, ![16384, 3072]⟩ .bf16
  wIn : FVec Ideal ⟨3, ![2, 2048, 12288]⟩ .f32
  wA : FVec Ideal ⟨3, ![2, 1024, 2048]⟩ .f32
  wB : FVec Ideal ⟨3, ![2, 1024, 2048]⟩ .f32
  wC : FVec Ideal ⟨3, ![2, 1024, 2048]⟩ .f32
  wO : FVec Ideal ⟨3, ![2, 2048, 2048]⟩ .f32

variable (A : Args)

/-- a branch's gate: the logistic function of the projection onto one of the last 6144 columns -/
def gate (r : Fin 16384) (c : Fin 6144) : EReal :=
  Ideal.logistic (∑ k : Fin 2048, A.h (ix2 r k) * A.wIn (ix3 0 k ⟨6144 + c.val, by omega⟩))

/-- a branch's output projected: the branch's 1024 columns of the mixers' outputs begin at `o` -/
def branch (w : FVec Ideal ⟨3, ![2, 1024, 2048]⟩ .f32) (o : ℕ) (ho : o ≤ 2048) (r : Fin 16384) (j : Fin 2048) : EReal :=
  ∑ k : Fin 1024, A.y (ix2 r ⟨o + k.val, by omega⟩) * w (ix3 0 k j)

/-- the gated sum of the three branches -/
def mg (r : Fin 16384) (j : Fin 2048) : EReal :=
  gate A r ⟨j.val, by omega⟩ * branch A A.wA 0 (by omega) r j
    + gate A r ⟨2048 + j.val, by omega⟩ * branch A A.wB 1024 (by omega) r j
    + gate A r ⟨4096 + j.val, by omega⟩ * branch A A.wC 2048 (by omega) r j

/-- the projected sum -/
def out (r : Fin 16384) (n : Fin 2048) : EReal := ∑ k : Fin 2048, mg A r k * A.wO (ix3 0 k n)

/-- one half of the projection's sum, over the 1024 merged columns from `o` on -/
def half (o : ℕ) (ho : o ≤ 1024) (r : Fin 16384) (n : Fin 2048) : EReal :=
  ∑ k : Fin 1024, mg A r ⟨o + k.val, by omega⟩ * A.wO (ix3 0 ⟨o + k.val, by omega⟩ n)

theorem out_halves (r : Fin 16384) (n : Fin 2048) : out A r n = half A 0 (by omega) r n + half A 1024 (by omega) r n := by
  unfold out half
  rw [show (∑ k : Fin 2048, mg A r k * A.wO (ix3 0 k n)) = ∑ k : Fin (1024 + 1024), mg A r k * A.wO (ix3 0 k n) from rfl,
    Fin.sum_univ_add]
  refine congr_arg₂ (· + ·) (Finset.sum_congr rfl fun k _ => ?_) (Finset.sum_congr rfl fun k _ => rfl)
  have e : (Fin.castAdd 1024 k : Fin 2048) = ⟨0 + k.val, by omega⟩ := Fin.ext (Nat.zero_add _).symm
  exact congrArg (fun q : Fin 2048 => mg A r q * A.wO (ix3 0 q n)) e

/-- the result array -/
def outArr : FVec Ideal ⟨2, ![16384, 2048]⟩ .f32 := fun i => out A (i 0) (i 1)

end Cert.OutSpec
end
-- ==== Proof.OutPark.lean ====
/- The output projection's kernel at the grid points that only park a block of merged columns: what such a
   point computes, and what its stores leave in the scratch buffer, over any float type. -/
module

public import proofs.«01_k».proof.Proof.Gen.Kernel2Ideal.Frame
public import proofs.«01_k».proof.Proof.Gen.Kernel2Ideal.Skeleton
public import Idealize.ShloMosaic.Lib.WritesUnit
public import Idealize.ShloMosaic.Lib.Pipeline.ValueKit

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The block of merged columns -/

/-- One tile of 512 rows: the three branches, each projected and multiplied by its gate, summed and rounded. -/
def tile (h : Vec F S512x2048 .bf16) (y0 y1 y2 : Vec F S512x1024 .bf16) (ga gb gc : Vec F S1x2048x256 .bf16)
    (wa wb wc : Vec F S1x1024x256 .bf16) : Vec F S1x512x256 .bf16 :=
  k0_pay9 (k0_pay6 h ga y0 wa gb y1 wb) (k0_pay7 h gc) (k0_pay8 y2 wc)

/-! The kernel's own texts of the tile, slot by slot and half by half, are the same computation. -/
section
variable (h : Vec F S512x2048 .bf16) (y0 y1 y2 : Vec F S512x1024 .bf16) (ga gb gc : Vec F S1x2048x256 .bf16)
    (wa wb wc : Vec F S1x1024x256 .bf16)

theorem tile_hi0 : k0_pay58 (k0_pay10 h ga y0 wa gb y1 wb) (k0_pay11 h gc) y2 wc = tile h y0 y1 y2 ga gb gc wa wb wc := rfl
theorem tile_lo1 : k0_pay15 (k0_pay12 h ga y0 wa gb y1 wb) (k0_pay13 h gc) (k0_pay14 y2 wc) = tile h y0 y1 y2 ga gb gc wa wb wc := rfl
theorem tile_hi1 : k0_pay59 (k0_pay16 h ga y0 wa gb y1 wb) (k0_pay17 h gc) y2 wc = tile h y0 y1 y2 ga gb gc wa wb wc := rfl
theorem tile_lo2 : k0_pay21 (k0_pay18 h ga y0 wa gb y1 wb) (k0_pay19 h gc) (k0_pay20 y2 wc) = tile h y0 y1 y2 ga gb gc wa wb wc := rfl
theorem tile_hi2 : k0_pay1 (k0_pay22 h ga y0 wa gb y1 wb) (k0_pay23 h gc) y2 wc = tile h y0 y1 y2 ga gb gc wa wb wc := rfl
end

/-- a gate's weights, read through the rectangle of the whole block -/
abbrev whole (x : Vec F S1x2048x256 .bf16) : Vec F S1x2048x256 .bf16 :=
  View.ld x (Rect.unit (s := S1x2048x256) ![0, 0, 0] S1x2048x256.size inb_S1x2048x256_S1x2048x256_0_0_0)

/-- a branch's weights, read through the rectangle of the whole block -/
abbrev wholeW (x : Vec F S1x1024x256 .bf16) : Vec F S1x1024x256 .bf16 :=
  View.ld x (Rect.unit (s := S1x1024x256) ![0, 0, 0] S1x1024x256.size inb_S1x1024x256_S1x1024x256_0_0_0)

/-- the tile of the first 512 rows of a block -/
def tileLo (x0 : Vec F S1024x2048 .bf16) (x1 : Vec F S1024x3072 .bf16) (x2 x3 x4 : Vec F S1x2048x256 .bf16)
    (x5 x6 x7 : Vec F S1x1024x256 .bf16) : Vec F S1x512x256 .bf16 :=
  tile (View.ld x0 (Rect.unit (s := S1024x2048) ![0, 0] S512x2048.size inb_S1024x2048_S512x2048_0_0))
    (View.ld x1 (Rect.unit (s := S1024x3072) ![0, 0] S512x1024.size inb_S1024x3072_S512x1024_0_0))
    (View.ld x1 (Rect.unit (s := S1024x3072) ![0, 1024] S512x1024.size inb_S1024x3072_S512x1024_0_1024))
    (View.ld x1 (Rect.unit (s := S1024x3072) ![0, 2048] S512x1024.size inb_S1024x3072_S512x1024_0_2048))
    (whole x2) (whole x3) (whole x4) (wholeW x5) (wholeW x6) (wholeW x7)

/-- the tile of the last 512 rows of a block -/
def tileHi (x0 : Vec F S1024x2048 .bf16) (x1 : Vec F S1024x3072 .bf16) (x2 x3 x4 : Vec F S1x2048x256 .bf16)
    (x5 x6 x7 : Vec F S1x1024x256 .bf16) : Vec F S1x512x256 .bf16 :=
  tile (View.ld x0 (Rect.unit (s := S1024x2048) ![512, 0] S512x2048.size inb_S1024x2048_S512x2048_512_0))
    (View.ld x1 (Rect.unit (s := S1024x3072) ![512, 0] S512x1024.size inb_S1024x3072_S512x1024_512_0))
    (View.ld x1 (Rect.unit (s := S1024x3072) ![512, 1024] S512x1024.size inb_S1024x3072_S512x1024_512_1024))
    (View.ld x1 (Rect.unit (s := S1024x3072) ![512, 2048] S512x1024.size inb_S1024x3072_S512x1024_512_2048))
    (whole x2) (whole x3) (whole x4) (wholeW x5) (wholeW x6) (wholeW x7)

/-- the block at a row and a column, the tiles one above the other -/
def stack (p0 p1 : Vec F S1x512x256 .bf16) (r : Fin 1024) (j : Fin 256) : Elt F .bf16 :=
  if h : r.val < 512 then p0 (ix3 0 ⟨r.val, h⟩ j) else p1 (ix3 0 ⟨r.val - 512, by have := r.isLt; omega⟩ j)

/-- The scratch buffer with slot `k` replaced by the two tiles. -/
def parked (xs : Vec F S3x1024x256 .bf16) (k : Fin 3) (p0 p1 : Vec F S1x512x256 .bf16) : Vec F S3x1024x256 .bf16 :=
  fun y => if (y 0).val = k.val then stack p0 p1 (y 1) (y 2) else xs y

/-- Storing two tiles one above the other into slot `k` leaves `parked`. -/
theorem read_park (v : View sig .tc .vmem S3x1024x256 .bf16) (f : v.ty.Contents (Elt F)) (k : Fin 3)
    (i1 : ∀ a, (![k.val, 512, 0] : Fin 3 → ℕ) a + S1x512x256.size a ≤ S3x1024x256.size a)
    (i0 : ∀ a, (![k.val, 0, 0] : Fin 3 → ℕ) a + S1x512x256.size a ≤ S3x1024x256.size a)
    (p0 p1 : Vec F S1x512x256 .bf16) :
    v.read (Elt F) (v.writes (Elt F) f [⟨Rect.unit (s := S3x1024x256) ![k.val, 512, 0] S1x512x256.size i1, p1⟩,
      ⟨Rect.unit (s := S3x1024x256) ![k.val, 0, 0] S1x512x256.size i0, p0⟩]) = parked (v.read (Elt F) f) k p0 p1 := by
  funext y
  have h1 : (y 1).val < 1024 := (y 1).isLt
  unfold parked
  by_cases hk : (y 0).val = k.val
  · rw [if_pos hk]; unfold stack
    by_cases h : (y 1).val < 512
    · rw [dif_pos h, View.read_writes_cons_unit_of_not_mem v f i1 p1 _ y rfl 1 (Or.inl h)]
      refine View.read_writes_cons_unit_of_mem v f i0 p0 _ y (ix3 0 ⟨(y 1).val, h⟩ (y 2)) rfl fun a => ?_
      match a with
      | 0 => exact hk
      | 1 => exact (Nat.zero_add _).symm
      | 2 => exact (Nat.zero_add _).symm
    · rw [dif_neg h]
      refine View.read_writes_cons_unit_of_mem v f i1 p1 _ y (ix3 0 ⟨(y 1).val - 512, by omega⟩ (y 2)) rfl fun a => ?_
      match a with
      | 0 => exact hk
      | 1 => exact (Nat.add_sub_cancel' (not_lt.mp h)).symm
      | 2 => exact (Nat.zero_add _).symm
  · have hne : (y 0).val < k.val ∨ k.val + 1 ≤ (y 0).val := by
      rcases lt_trichotomy (y 0).val k.val with h | h | h
      · exact Or.inl h
      · exact absurd h hk
      · exact Or.inr h
    rw [if_neg hk, View.read_writes_cons_unit_of_not_mem v f i1 p1 _ y rfl 0 hne,
      View.read_writes_cons_unit_of_not_mem v f i0 p0 _ y rfl 0 hne]
    rfl

/-! ## The branches -/

/-- the word the kernel tests before parking into slot `k`: whether the column block's number leaves `k` modulo 4 -/
abbrev slotWord (k : BitVec 32) (a : BitVec 32) : BitVec 1 :=
  let n : BitVec 32 := Scalar.select (Scalar.cmpi .eq 4#32 0#32) 1#32 4#32
  let r : BitVec 32 := Scalar.remsi a n
  let b : BitVec 1 := Scalar.andi (Scalar.xori (Scalar.cmpi .slt r 0#32) (Scalar.cmpi .slt n 0#32)) (Scalar.cmpi .ne r 0#32)
  Scalar.cmpi .ne (Scalar.extui (Scalar.cmpi .eq (Scalar.select b (Scalar.addi r n) r) k) : BitVec 32) 0#32

/-- the test for slot `k`, decided at every column block -/
theorem slotWord_iff : ∀ (k : Fin 4) (s : Fin 8),
    slotWord (BitVec.ofNat 32 k.val) (BitVec.ofNat 32 s.val) = 1#1 ↔ s.val % 4 = k.val := by decide +kernel

/-- the test for the first product: the fourth column block -/
theorem cond4_iff (i : grid0.Coords) : k0_cond4 i = 1#1 ↔ (i 1).val = 3 :=
  (show ∀ s : Fin 8, Scalar.cmpi .ne (Scalar.extui (Scalar.cmpi .eq (BitVec.ofNat 32 s.val) 3#32) : BitVec 32) 0#32 = 1#1 ↔ s.val = 3
    from by decide +kernel) (i 1)

/-- the test for the later products: slot 3 of a later group of four -/
theorem cond5_iff (i : grid0.Coords) : k0_cond5 i = 1#1 ↔ (i 1).val = 7 :=
  (show ∀ s : Fin 8, (let a : BitVec 32 := BitVec.ofNat 32 s.val
      let n : BitVec 32 := Scalar.select (Scalar.cmpi .eq 4#32 0#32) 1#32 4#32
      let r : BitVec 32 := Scalar.remsi a n
      let b : BitVec 1 := Scalar.andi (Scalar.xori (Scalar.cmpi .slt r 0#32) (Scalar.cmpi .slt n 0#32)) (Scalar.cmpi .ne r 0#32)
      Scalar.cmpi .ne (Scalar.extui (Scalar.andi (Scalar.cmpi .eq (Scalar.select b (Scalar.addi r n) r) 3#32) (Scalar.cmpi .sge a 4#32)) : BitVec 32) 0#32) = 1#1
        ↔ s.val = 7 from by decide +kernel) (i 1)

variable (i : grid0.Coords)
  (arg2 : Memref sig .tc .vmem S1024x2048 .bf16) (harg2 : arg2.IsWhole) (arg3 : Memref sig .tc .vmem S1024x3072 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg7 : Memref sig .tc .vmem S1x1024x256 .bf16) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x1024x2048 .bf16) (harg10 : arg10.IsWhole) (arg11 : Memref sig .tc .vmem S1024x2048 .f32) (harg11 : arg11.IsWhole)
  (arg12 : Memref sig .tc .vmem S3x1024x256 .bf16) (harg12 : arg12.IsWhole)
  (x0 : Vec F S1024x2048 .bf16) (x1 : Vec F S1024x3072 .bf16) (x2 x3 x4 : Vec F S1x2048x256 .bf16)
  (x5 x6 x7 : Vec F S1x1024x256 .bf16)

set_option maxHeartbeats 2000000 in
/-- A point of slot `k` parks its merged block: with its inputs staged and the scratch at `xs`, the body leaves the
    inputs as they were and the scratch with slot `k` replaced. -/
theorem run_park (c : Dev nD) (k : Fin 3) (hk : (i 1).val % 4 = k.val)
    (xs : Vec F S3x1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg12 fullShare (parked xs k (tileLo x0 x1 x2 x3 x4 x5 x6 x7) (tileHi x0 x1 x2 x3 x4 x5 x6 x7))) -∗ K ⟨⟩))
      ⊢ wp frame (wpE (defs₀ (F := F)) Variants.none c none) E (cc0_mixer_out i arg2 harg2 arg3 harg3 arg4 harg4 arg5 harg5 arg6 harg6 arg7 harg7 arg8 harg8 arg9 harg9 arg10 harg10 arg11 harg11 arg12 harg12) K := by
  simp only [cc0_mixer_out_eq_skeleton]; unfold cc0_mixer_out_skel
  simp only [k0_part15_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0 hf1 hf2 hf3 hf4 hf5 hf6 hf7 hfs
  have h4 : ¬ k0_cond4 i = 1#1 := fun h => by have := (cond4_iff i).mp h; have := k.isLt; omega
  have h5 : ¬ k0_cond5 i = 1#1 := fun h => by have := (cond5_iff i).mp h; have := k.isLt; omega
  have hw : ∀ n : Fin 4, n.val = k.val → slotWord (BitVec.ofNat 32 n.val) (BitVec.ofNat 32 (i 1).val) = 1#1 :=
    fun n hn => (slotWord_iff n (i 1)).mpr (hk.trans hn.symm)
  have hn : ∀ n : Fin 4, n.val ≠ k.val → ¬ slotWord (BitVec.ofNat 32 n.val) (BitVec.ofNat 32 (i 1).val) = 1#1 :=
    fun n hn h => hn (((slotWord_iff n (i 1)).mp h).symm.trans hk)
  obtain rfl | rfl | rfl : k = 0 ∨ k = 1 ∨ k = 2 := by clear hk h4 h5 hw hn; revert k; decide
  case' inl =>
    have w0 : slotWord 0#32 (BitVec.ofNat 32 (i 1).val) = 1#1 := hw 0 rfl
    have w1 : ¬ slotWord 1#32 (BitVec.ofNat 32 (i 1).val) = 1#1 := hn 1 (by decide)
    have w2 : ¬ slotWord 2#32 (BitVec.ofNat 32 (i 1).val) = 1#1 := hn 2 (by decide)
  case' inr.inl =>
    have w0 : ¬ slotWord 0#32 (BitVec.ofNat 32 (i 1).val) = 1#1 := hn 0 (by decide)
    have w1 : slotWord 1#32 (BitVec.ofNat 32 (i 1).val) = 1#1 := hw 1 rfl
    have w2 : ¬ slotWord 2#32 (BitVec.ofNat 32 (i 1).val) = 1#1 := hn 2 (by decide)
  case' inr.inr =>
    have w0 : ¬ slotWord 0#32 (BitVec.ofNat 32 (i 1).val) = 1#1 := hn 0 (by decide)
    have w1 : ¬ slotWord 1#32 (BitVec.ofNat 32 (i 1).val) = 1#1 := hn 1 (by decide)
    have w2 : slotWord 2#32 (BitVec.ofNat 32 (i 1).val) = 1#1 := hw 2 rfl
  all_goals
    sl_exec (disch := first | sl_exact h4 | sl_exact h5 | sl_exact w0 | sl_exact w1 | sl_exact w2)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    iexists _; isplitr; swap; · iexact HS
    ipureintro
  · exact read_park arg12.view fs 2 inb_S3x1024x256_S1x512x256_2_512_0 inb_S3x1024x256_S1x512x256_2_0_0 _ _
  · exact read_park arg12.view fs 1 inb_S3x1024x256_S1x512x256_1_512_0 inb_S3x1024x256_S1x512x256_1_0_0 _ _
  · exact read_park arg12.view fs 0 inb_S3x1024x256_S1x512x256_0_512_0 inb_S3x1024x256_S1x512x256_0_0_0 _ _

end Cert.Kernel2Ideal.Out

end
-- ==== Proof.OutFirst.lean ====
/- The output projection's kernel at the grid points that multiply four merged blocks by a block of rows of the
   output weights: what such a point leaves in the block of the result, over any float type. -/
module

public import proofs.«01_k».proof.Proof.OutPark

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The products -/

/-- 512 rows of four merged blocks side by side: three from the scratch's slots, the point's own last -/
def rows (s0 s1 s2 : Vec F S1x512x256 .bf16) (h : Vec F S512x2048 .bf16) (y0 y1 y2 : Vec F S512x1024 .bf16)
    (ga gb gc : Vec F S1x2048x256 .bf16) (wa wb wc : Vec F S1x1024x256 .bf16) : FVec F S512x1024 .bf16 :=
  k0_pay28 (k0_pay24 s0) (k0_pay25 s1) (k0_pay26 s2) h (k0_pay27 h ga y0 wa gb y1 wb) gc y2 wc

/-- the rows of the four merged blocks, the first 512 and the last 512 of a block -/
def mRows (x0 : Vec F S1024x2048 .bf16) (x1 : Vec F S1024x3072 .bf16) (x2 x3 x4 : Vec F S1x2048x256 .bf16)
    (x5 x6 x7 : Vec F S1x1024x256 .bf16) (xs : Vec F S3x1024x256 .bf16) : Fin 2 → FVec F S512x1024 .bf16
  | 0 => rows (View.ld xs (Rect.unit (s := S3x1024x256) ![0, 0, 0] S1x512x256.size inb_S3x1024x256_S1x512x256_0_0_0))
      (View.ld xs (Rect.unit (s := S3x1024x256) ![1, 0, 0] S1x512x256.size inb_S3x1024x256_S1x512x256_1_0_0))
      (View.ld xs (Rect.unit (s := S3x1024x256) ![2, 0, 0] S1x512x256.size inb_S3x1024x256_S1x512x256_2_0_0))
      (View.ld x0 (Rect.unit (s := S1024x2048) ![0, 0] S512x2048.size inb_S1024x2048_S512x2048_0_0))
      (View.ld x1 (Rect.unit (s := S1024x3072) ![0, 0] S512x1024.size inb_S1024x3072_S512x1024_0_0))
      (View.ld x1 (Rect.unit (s := S1024x3072) ![0, 1024] S512x1024.size inb_S1024x3072_S512x1024_0_1024))
      (View.ld x1 (Rect.unit (s := S1024x3072) ![0, 2048] S512x1024.size inb_S1024x3072_S512x1024_0_2048))
      (whole x2) (whole x3) (whole x4) (wholeW x5) (wholeW x6) (wholeW x7)
  | 1 => rows (View.ld xs (Rect.unit (s := S3x1024x256) ![0, 512, 0] S1x512x256.size inb_S3x1024x256_S1x512x256_0_512_0))
      (View.ld xs (Rect.unit (s := S3x1024x256) ![1, 512, 0] S1x512x256.size inb_S3x1024x256_S1x512x256_1_512_0))
      (View.ld xs (Rect.unit (s := S3x1024x256) ![2, 512, 0] S1x512x256.size inb_S3x1024x256_S1x512x256_2_512_0))
      (View.ld x0 (Rect.unit (s := S1024x2048) ![512, 0] S512x2048.size inb_S1024x2048_S512x2048_512_0))
      (View.ld x1 (Rect.unit (s := S1024x3072) ![512, 0] S512x1024.size inb_S1024x3072_S512x1024_512_0))
      (View.ld x1 (Rect.unit (s := S1024x3072) ![512, 1024] S512x1024.size inb_S1024x3072_S512x1024_512_1024))
      (View.ld x1 (Rect.unit (s := S1024x3072) ![512, 2048] S512x1024.size inb_S1024x3072_S512x1024_512_2048))
      (whole x2) (whole x3) (whole x4) (wholeW x5) (wholeW x6) (wholeW x7)

/-- 512 columns of the block of rows of the output weights -/
def wCols (x8 : Vec F S1x1024x2048 .bf16) : Fin 4 → Vec F S1x1024x512 .bf16
  | 0 => View.ld x8 (Rect.unit (s := S1x1024x2048) ![0, 0, 0] S1x1024x512.size inb_S1x1024x2048_S1x1024x512_0_0_0)
  | 1 => View.ld x8 (Rect.unit (s := S1x1024x2048) ![0, 0, 512] S1x1024x512.size inb_S1x1024x2048_S1x1024x512_0_0_512)
  | 2 => View.ld x8 (Rect.unit (s := S1x1024x2048) ![0, 0, 1024] S1x1024x512.size inb_S1x1024x2048_S1x1024x512_0_0_1024)
  | 3 => View.ld x8 (Rect.unit (s := S1x1024x2048) ![0, 0, 1536] S1x1024x512.size inb_S1x1024x2048_S1x1024x512_0_0_1536)

/-- a result block put together from its eight tiles of 512 rows and 512 columns -/
def tiles (P : Fin 2 → Fin 4 → FVec F S512x512 .f32) : Vec F S1024x2048 .f32 := fun y =>
  P ⟨(y 0).val / 512, by have : (y 0).val < 1024 := (y 0).isLt; omega⟩ ⟨(y 1).val / 512, by have : (y 1).val < 2048 := (y 1).isLt; omega⟩
    (ix2 ⟨(y 0).val % 512, Nat.mod_lt _ (by decide)⟩ ⟨(y 1).val % 512, Nat.mod_lt _ (by decide)⟩)

/-- a tile of a block, at an index of the tile -/
theorem tiles_at (P : Fin 2 → Fin 4 → FVec F S512x512 .f32) (a : Fin 2) (b : Fin 4) (x : S512x512.Idx) (y : S1024x2048.Idx)
    (h0 : (y 0).val = 512 * a.val + (x 0).val) (h1 : (y 1).val = 512 * b.val + (x 1).val) : tiles P y = P a b x := by
  have hx0 : (x 0).val < 512 := (x 0).isLt
  have hx1 : (x 1).val < 512 := (x 1).isLt
  have hy0 : (y 0).val < 1024 := (y 0).isLt
  have hy1 : (y 1).val < 2048 := (y 1).isLt
  have ea : (⟨(y 0).val / 512, by omega⟩ : Fin 2) = a := Fin.ext (by show (y 0).val / 512 = a.val; omega)
  have eb : (⟨(y 1).val / 512, by omega⟩ : Fin 4) = b := Fin.ext (by show (y 1).val / 512 = b.val; omega)
  have ex : (ix2 ⟨(y 0).val % 512, Nat.mod_lt _ (by decide)⟩ ⟨(y 1).val % 512, Nat.mod_lt _ (by decide)⟩ : S512x512.Idx) = x :=
    funext fun k => match k with
      | 0 => Fin.ext (by show (y 0).val % 512 = (x 0).val; omega)
      | 1 => Fin.ext (by show (y 1).val % 512 = (x 1).val; omega)
  unfold tiles
  rw [ea, eb, ex]

/-- Storing eight tiles leaves the block put together from them. -/
theorem read_tiles (v : View sig .tc .vmem S1024x2048 .f32) (f : v.ty.Contents (Elt F)) (P : Fin 2 → Fin 4 → FVec F S512x512 .f32) :
    v.read (Elt F) (v.writes (Elt F) f
      [⟨Rect.unit (s := S1024x2048) ![512, 1536] S512x512.size inb_S1024x2048_S512x512_512_1536, P 1 3⟩,
       ⟨Rect.unit (s := S1024x2048) ![512, 1024] S512x512.size inb_S1024x2048_S512x512_512_1024, P 1 2⟩,
       ⟨Rect.unit (s := S1024x2048) ![512, 512] S512x512.size inb_S1024x2048_S512x512_512_512, P 1 1⟩,
       ⟨Rect.unit (s := S1024x2048) ![512, 0] S512x512.size inb_S1024x2048_S512x512_512_0, P 1 0⟩,
       ⟨Rect.unit (s := S1024x2048) ![0, 1536] S512x512.size inb_S1024x2048_S512x512_0_1536, P 0 3⟩,
       ⟨Rect.unit (s := S1024x2048) ![0, 1024] S512x512.size inb_S1024x2048_S512x512_0_1024, P 0 2⟩,
       ⟨Rect.unit (s := S1024x2048) ![0, 512] S512x512.size inb_S1024x2048_S512x512_0_512, P 0 1⟩,
       ⟨Rect.unit (s := S1024x2048) ![0, 0] S512x512.size inb_S1024x2048_S512x512_0_0, P 0 0⟩]) = tiles P := by
  rw [View.read_writes_eq_canon v f _ (View.cover_of_tiledBy _ ![512, 512] (by sl_kernel_rfl))]
  funext y
  canon_tiles x h using (View.cover_of_tiledBy _ ![512, 512] (by sl_kernel_rfl) y)
  · exact (tiles_at P 1 3 x y h0 h1).symm
  · exact (tiles_at P 1 2 x y h0 h1).symm
  · exact (tiles_at P 1 1 x y h0 h1).symm
  · exact (tiles_at P 1 0 x y h0 (h1.trans (Nat.zero_add _).symm)).symm
  · exact (tiles_at P 0 3 x y (h0.trans (Nat.zero_add _).symm) h1).symm
  · exact (tiles_at P 0 2 x y (h0.trans (Nat.zero_add _).symm) h1).symm
  · exact (tiles_at P 0 1 x y (h0.trans (Nat.zero_add _).symm) h1).symm
  · exact (tiles_at P 0 0 x y (h0.trans (Nat.zero_add _).symm) (h1.trans (Nat.zero_add _).symm)).symm

/-- a tile of the first product -/
abbrev first (m : Fin 2 → FVec F S512x1024 .bf16) (w : Fin 4 → Vec F S1x1024x512 .bf16) (a : Fin 2) (b : Fin 4) : FVec F S512x512 .f32 :=
  k0_pay2 (m a) (k0_pay41 (w b))

variable (i : grid0.Coords)
  (arg2 : Memref sig .tc .vmem S1024x2048 .bf16) (harg2 : arg2.IsWhole) (arg3 : Memref sig .tc .vmem S1024x3072 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg7 : Memref sig .tc .vmem S1x1024x256 .bf16) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x1024x2048 .bf16) (harg10 : arg10.IsWhole) (arg11 : Memref sig .tc .vmem S1024x2048 .f32) (harg11 : arg11.IsWhole)
  (arg12 : Memref sig .tc .vmem S3x1024x256 .bf16) (harg12 : arg12.IsWhole)
  (x0 : Vec F S1024x2048 .bf16) (x1 : Vec F S1024x3072 .bf16) (x2 x3 x4 : Vec F S1x2048x256 .bf16)
  (x5 x6 x7 : Vec F S1x1024x256 .bf16) (x8 : Vec F S1x1024x2048 .bf16)

set_option maxHeartbeats 2000000 in
/-- The fourth column block's point stores the first product: whatever the result block held, it is left at the four
    merged blocks' rows times the block of weights, the scratch untouched. -/
theorem run_first (c : Dev nD) (hs : (i 1).val = 3) (xs : Vec F S3x1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (tiles (first (mRows x0 x1 x2 x3 x4 x5 x6 x7 xs) (wCols x8))) ∗ owns (c : Thread nD τ) arg12 fullShare xs) -∗ K ⟨⟩))
      ⊢ wp frame (wpE (defs₀ (F := F)) Variants.none c none) E (cc0_mixer_out i arg2 harg2 arg3 harg3 arg4 harg4 arg5 harg5 arg6 harg6 arg7 harg7 arg8 harg8 arg9 harg9 arg10 harg10 arg11 harg11 arg12 harg12) K := by
  simp only [cc0_mixer_out_eq_skeleton]; unfold cc0_mixer_out_skel
  simp only [k0_part15_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  subst hf0 hf1 hf2 hf3 hf4 hf5 hf6 hf7 hf8 hfs
  have h4 : k0_cond4 i = 1#1 := (cond4_iff i).mpr hs
  have h5 : ¬ k0_cond5 i = 1#1 := fun h => by have := (cond5_iff i).mp h; omega
  have w0 : ¬ slotWord 0#32 (BitVec.ofNat 32 (i 1).val) = 1#1 := fun h => absurd ((slotWord_iff 0 (i 1)).mp h) (by rw [hs]; decide)
  have w1 : ¬ slotWord 1#32 (BitVec.ofNat 32 (i 1).val) = 1#1 := fun h => absurd ((slotWord_iff 1 (i 1)).mp h) (by rw [hs]; decide)
  have w2 : ¬ slotWord 2#32 (BitVec.ofNat 32 (i 1).val) = 1#1 := fun h => absurd ((slotWord_iff 2 (i 1)).mp h) (by rw [hs]; decide)
  sl_exec (disch := first | sl_exact h4 | sl_exact h5 | sl_exact w0 | sl_exact w1 | sl_exact w2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    exact read_tiles arg11.view f9 (first (mRows _ _ _ _ _ _ _ _ _) (wCols _))
  iexists _; isplitr; · ipureintro; rfl
  iexact HS

end Cert.Kernel2Ideal.Out

end
-- ==== Proof.OutSecond.lean ====
/- The output projection's kernel at the grid points that add the product of the last four merged blocks to the
   result: what such a point leaves in the block of the result, over any float type. -/
module

public import proofs.«01_k».proof.Proof.OutFirst

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- the tiles of a result block -/
def oTiles (xo : Vec F S1024x2048 .f32) : Fin 2 → Fin 4 → Vec F S512x512 .f32
  | 0, 0 => View.ld xo (Rect.unit (s := S1024x2048) ![0, 0] S512x512.size inb_S1024x2048_S512x512_0_0)
  | 0, 1 => View.ld xo (Rect.unit (s := S1024x2048) ![0, 512] S512x512.size inb_S1024x2048_S512x512_0_512)
  | 0, 2 => View.ld xo (Rect.unit (s := S1024x2048) ![0, 1024] S512x512.size inb_S1024x2048_S512x512_0_1024)
  | 0, 3 => View.ld xo (Rect.unit (s := S1024x2048) ![0, 1536] S512x512.size inb_S1024x2048_S512x512_0_1536)
  | 1, 0 => View.ld xo (Rect.unit (s := S1024x2048) ![512, 0] S512x512.size inb_S1024x2048_S512x512_512_0)
  | 1, 1 => View.ld xo (Rect.unit (s := S1024x2048) ![512, 512] S512x512.size inb_S1024x2048_S512x512_512_512)
  | 1, 2 => View.ld xo (Rect.unit (s := S1024x2048) ![512, 1024] S512x512.size inb_S1024x2048_S512x512_512_1024)
  | 1, 3 => View.ld xo (Rect.unit (s := S1024x2048) ![512, 1536] S512x512.size inb_S1024x2048_S512x512_512_1536)

/-- a tile of the result after the second product is added -/
abbrev second (m : Fin 2 → FVec F S512x1024 .bf16) (w : Fin 4 → Vec F S1x1024x512 .bf16) (o : Fin 2 → Fin 4 → Vec F S512x512 .f32)
    (a : Fin 2) (b : Fin 4) : FVec F S512x512 .f32 :=
  k0_pay3 (m a) (w b) (o a b)

variable (i : grid0.Coords)
  (arg2 : Memref sig .tc .vmem S1024x2048 .bf16) (harg2 : arg2.IsWhole) (arg3 : Memref sig .tc .vmem S1024x3072 .bf16) (harg3 : arg3.IsWhole)
  (arg4 : Memref sig .tc .vmem S1x2048x256 .bf16) (harg4 : arg4.IsWhole) (arg5 : Memref sig .tc .vmem S1x2048x256 .bf16) (harg5 : arg5.IsWhole)
  (arg6 : Memref sig .tc .vmem S1x2048x256 .bf16) (harg6 : arg6.IsWhole) (arg7 : Memref sig .tc .vmem S1x1024x256 .bf16) (harg7 : arg7.IsWhole)
  (arg8 : Memref sig .tc .vmem S1x1024x256 .bf16) (harg8 : arg8.IsWhole) (arg9 : Memref sig .tc .vmem S1x1024x256 .bf16) (harg9 : arg9.IsWhole)
  (arg10 : Memref sig .tc .vmem S1x1024x2048 .bf16) (harg10 : arg10.IsWhole) (arg11 : Memref sig .tc .vmem S1024x2048 .f32) (harg11 : arg11.IsWhole)
  (arg12 : Memref sig .tc .vmem S3x1024x256 .bf16) (harg12 : arg12.IsWhole)
  (x0 : Vec F S1024x2048 .bf16) (x1 : Vec F S1024x3072 .bf16) (x2 x3 x4 : Vec F S1x2048x256 .bf16)
  (x5 x6 x7 : Vec F S1x1024x256 .bf16) (x8 : Vec F S1x1024x2048 .bf16)

set_option maxHeartbeats 2000000 in
/-- The last column block's point adds the second product: the result block is left at what it held plus the four merged
    blocks' rows times the block of weights, the scratch untouched. -/
theorem run_second (c : Dev nD) (hs : (i 1).val = 7) (xo : Vec F S1024x2048 .f32) (xs : Vec F S3x1024x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (tiles (second (mRows x0 x1 x2 x3 x4 x5 x6 x7 xs) (wCols x8) (oTiles xo))) ∗ owns (c : Thread nD τ) arg12 fullShare xs) -∗ K ⟨⟩))
      ⊢ wp frame (wpE (defs₀ (F := F)) Variants.none c none) E (cc0_mixer_out i arg2 harg2 arg3 harg3 arg4 harg4 arg5 harg5 arg6 harg6 arg7 harg7 arg8 harg8 arg9 harg9 arg10 harg10 arg11 harg11 arg12 harg12) K := by
  simp only [cc0_mixer_out_eq_skeleton]; unfold cc0_mixer_out_skel
  simp only [k0_part15_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  subst hf0 hf1 hf2 hf3 hf4 hf5 hf6 hf7 hf8 hf9 hfs
  have h4 : ¬ k0_cond4 i = 1#1 := fun h => by have := (cond4_iff i).mp h; omega
  have h5 : k0_cond5 i = 1#1 := (cond5_iff i).mpr hs
  have w0 : ¬ slotWord 0#32 (BitVec.ofNat 32 (i 1).val) = 1#1 := fun h => absurd ((slotWord_iff 0 (i 1)).mp h) (by rw [hs]; decide)
  have w1 : ¬ slotWord 1#32 (BitVec.ofNat 32 (i 1).val) = 1#1 := fun h => absurd ((slotWord_iff 1 (i 1)).mp h) (by rw [hs]; decide)
  have w2 : ¬ slotWord 2#32 (BitVec.ofNat 32 (i 1).val) = 1#1 := fun h => absurd ((slotWord_iff 2 (i 1)).mp h) (by rw [hs]; decide)
  sl_exec (disch := first | sl_exact h4 | sl_exact h5 | sl_exact w0 | sl_exact w1 | sl_exact w2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    exact read_tiles arg11.view f9 (second (mRows _ _ _ _ _ _ _ _ _) (wCols _) (oTiles _))
  iexists _; isplitr; · ipureintro; rfl
  iexact HS

end Cert.Kernel2Ideal.Out

end
-- ==== Proof.OutFrame.lean ====
/- The output projection's kernel over its grid: what the scratch buffer and the result's block hold at each point, the
   body obligation from the three kinds of point, and the program's frame, over any float type. -/
module

public import proofs.«01_k».proof.Proof.OutSecond
public import Idealize.ShloMosaic.Lib.Pipeline.FrameBody

@[expose] public section

set_option maxRecDepth 16384

noncomputable section

namespace Cert.Kernel2Ideal.Out

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes -/

/-- the grid point of a number -/
def pt (n : ℕ) : Fin cfg0.N := ⟨n % 128, (Nat.mod_lt _ (by decide) : n % 128 < 128)⟩

theorem pt_val (t : Fin cfg0.N) : pt t.val = t := Fin.ext (Nat.mod_eq_of_lt t.isLt)

/-- the two tiles of merged columns of a point -/
def lo (c : Dev nD) (t : Fin cfg0.N) : Vec F S1x512x256 .bf16 :=
  tileLo (iblk m c 0 t) (iblk m c 1 t) (iblk m c 2 t) (iblk m c 3 t) (iblk m c 4 t) (iblk m c 5 t) (iblk m c 6 t) (iblk m c 7 t)

/-- the same, of the last 512 rows -/
def hi (c : Dev nD) (t : Fin cfg0.N) : Vec F S1x512x256 .bf16 :=
  tileHi (iblk m c 0 t) (iblk m c 1 t) (iblk m c 2 t) (iblk m c 3 t) (iblk m c 4 t) (iblk m c 5 t) (iblk m c 6 t) (iblk m c 7 t)

/-- the block of merged columns of a point -/
def merged (c : Dev nD) (t : Fin cfg0.N) (r : Fin 1024) (j : Fin 256) : Elt F .bf16 := stack (lo m c t) (hi m c t) r j

/-- What the scratch buffer is known to hold before point `n`: the slots filled since the group of four began hold
    the merged blocks of the group's points. -/
def Parked (c : Dev nD) (n : ℕ) (xs : Vec F S3x1024x256 .bf16) : Prop :=
  ∀ y : S3x1024x256.Idx, (y 0).val < n % 4 → xs y = merged m c (pt (n - n % 4 + (y 0).val)) (y 1) (y 2)

/-- the scratch buffer before the last point of a group: all three slots -/
def slots (c : Dev nD) (t : Fin cfg0.N) : Vec F S3x1024x256 .bf16 :=
  fun y => merged m c (pt (t.val - 3 + (y 0).val)) (y 1) (y 2)

/-- Parking a point's block keeps the scratch as known. -/
theorem Parked.step {c : Dev nD} {t : Fin cfg0.N} {xs : Vec F S3x1024x256 .bf16} (h : Parked m c t.val xs) (k : Fin 3)
    (hk : t.val % 4 = k.val) : Parked m c (t.val + 1) (parked xs k (lo m c t) (hi m c t)) := fun y hy => by
  have hk3 := k.isLt
  unfold parked
  by_cases h0 : (y 0).val = k.val
  · rw [if_pos h0, show t.val + 1 - (t.val + 1) % 4 + (y 0).val = t.val by omega, pt_val]; rfl
  · rw [if_neg h0, h y (by omega), show t.val - t.val % 4 + (y 0).val = t.val + 1 - (t.val + 1) % 4 + (y 0).val by omega]

/-- Before the last point of a group the scratch holds the group's three blocks. -/
theorem Parked.full {c : Dev nD} {t : Fin cfg0.N} {xs : Vec F S3x1024x256 .bf16} (h : Parked m c t.val xs)
    (hk : t.val % 4 = 3) : xs = slots m c t := funext fun y => by
  have h0 : (y 0).val < 3 := (y 0).isLt
  rw [h y (by omega), hk]; rfl

/-- Nothing is known where a group begins. -/
theorem Parked.none (c : Dev nD) (n : ℕ) (hn : n % 4 = 0) (xs : Vec F S3x1024x256 .bf16) : Parked m c n xs :=
  fun y hy => absurd hy (by omega)

/-- the merged rows of a group, at its last point -/
def groupRows (c : Dev nD) (t : Fin cfg0.N) : Fin 2 → FVec F S512x1024 .bf16 :=
  mRows (iblk m c 0 t) (iblk m c 1 t) (iblk m c 2 t) (iblk m c 3 t) (iblk m c 4 t) (iblk m c 5 t) (iblk m c 6 t) (iblk m c 7 t) (slots m c t)

/-- what the last point of a first group leaves in the result's block -/
def outFirst (c : Dev nD) (t : Fin cfg0.N) : Vec F S1024x2048 .f32 := tiles (first (groupRows m c t) (wCols (iblk m c 8 t)))

/-- what the last point of a second group leaves there, the first's left four points before -/
def outSecond (c : Dev nD) (t : Fin cfg0.N) : Vec F S1024x2048 .f32 :=
  tiles (second (groupRows m c t) (wCols (iblk m c 8 t)) (oTiles (outFirst m c (pt (t.val - 4)))))

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)

/-- the scratch buffer -/
abbrev scM : Memref sig .tc .vmem S3x1024x256 .bf16 := Memref.whole cc0_scratch0

/-- The class's invariant, its cells one by one. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: the inputs' blocks stay; the result's block is left at what the group's last point computes; the
    scratch is known slot by slot. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => if t.val % 8 = 7 then outSecond m c t else outFirst m c t
    | ⟨_ + 10, h⟩ => absurd h (Nat.not_lt.2 (Nat.le_add_left _ _))
  Φ t := iprop(∃ xs, ⌜Parked m c t.val xs⌝ ∗ owns (c : Thread nD τ) scM fullShare xs ∗ (∃ r, prngReg c r))
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) :
    (dats m 0 c).after 9 t = if t.val % 8 = 7 then outSecond m c t else outFirst m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## The result's block between its two groups -/

theorem coords_snd : ∀ t : Fin cfg0.N, (cfg0.grid.coords t 1).val = t.val % 8 :=
  (by decide +kernel : ∀ t : Fin grid0.N, (grid0.coords t 1).val = t.val % 8)

/-- The body stores into the result's block at the last point of each group only. -/
theorem idle_9 (t : Fin cfg0.N) (h : t.val % 4 ≠ 3) : cfg0.idle 9 (cfg0.grid.coords t) = true := by
  have h4 : ¬ k0_cond4 (cfg0.grid.coords t) = 1#1 := fun e => by
    have := (cond4_iff _).mp e; rw [coords_snd] at this; omega
  have h5 : ¬ k0_cond5 (cfg0.grid.coords t) = 1#1 := fun e => by
    have := (cond5_iff _).mp e; rw [coords_snd] at this; omega
  show (!(k0_cond4 (cfg0.grid.coords t) == 1#1) && !(k0_cond5 (cfg0.grid.coords t) == 1#1)) = true
  rw [beq_eq_false_iff_ne.mpr h4, beq_eq_false_iff_ne.mpr h5]; rfl

theorem live_9 (t : Fin cfg0.N) (h : t.val % 4 = 3) : cfg0.idle 9 (cfg0.grid.coords t) = false := by
  show (!(k0_cond4 (cfg0.grid.coords t) == 1#1) && !(k0_cond5 (cfg0.grid.coords t) == 1#1)) = false
  rcases (show t.val % 8 = 3 ∨ t.val % 8 = 7 by omega) with e | e
  · rw [(cond4_iff (cfg0.grid.coords t)).mpr ((coords_snd t).trans e)]; rfl
  · rw [(cond5_iff (cfg0.grid.coords t)).mpr ((coords_snd t).trans e)]; exact Bool.and_false _

theorem fetch_9 (t : Fin cfg0.N) : (cfg0.win 9).fetch t = false := rfl

theorem flush_9 (t : Fin cfg0.N) (h : t.val % 8 ≠ 7) : (cfg0.win 9).flush t = false :=
  Bool.eq_false_iff.mpr fun e => h ((flush0_9 t).mp e)

/-- Through a point that stores nothing the block is found as the point before found it. -/
theorem before_9_idle (c : Dev nD) (t : Fin cfg0.N) (n : ℕ) (hn : t.val = n + 1) (h8 : n % 8 ≠ 7) (h4 : n % 4 ≠ 3) (d) :
    (dats m 0 c).before 9 t d = (dats m 0 c).before 9 ⟨n, by have := t.isLt; omega⟩ d := by
  have e : (⟨t.val - 1, Nat.lt_of_le_of_lt (Nat.sub_le _ _) t.isLt⟩ : Fin cfg0.N) = ⟨n, by have := t.isLt; omega⟩ :=
    Fin.ext (by show t.val - 1 = n; omega)
  rw [Dat.before_of_pos _ 9 t (by omega) (fetch_9 t) d, e, flush_9 ⟨n, _⟩ h8, if_neg Bool.false_ne_true]
  unfold Dat.left
  rw [idle_9 ⟨n, _⟩ h4]

/-- After a first group's last point the block is found as that point left it. -/
theorem before_9_live (c : Dev nD) (t : Fin cfg0.N) (n : ℕ) (hn : t.val = n + 1) (h8 : n % 8 = 3) (d) :
    (dats m 0 c).before 9 t d = outFirst m c ⟨n, by have := t.isLt; omega⟩ := by
  have e : (⟨t.val - 1, Nat.lt_of_le_of_lt (Nat.sub_le _ _) t.isLt⟩ : Fin cfg0.N) = ⟨n, by have := t.isLt; omega⟩ :=
    Fin.ext (by show t.val - 1 = n; omega)
  rw [Dat.before_of_pos _ 9 t (by omega) (fetch_9 t) d, e, flush_9 ⟨n, _⟩ (by show n % 8 ≠ 7; omega), if_neg Bool.false_ne_true]
  unfold Dat.left
  rw [live_9 ⟨n, _⟩ (by show n % 4 = 3; omega)]
  show (cfg0.win 9).fill _ d ((cfg0.win 9).cut _ ((dats m 0 c).after 9 ⟨n, _⟩)) = _
  rw [after_9, if_neg (by show ¬ n % 8 = 7; omega)]
  rfl

/-- The last point of a second group finds what the first group's last point left. -/
theorem before_9 (c : Dev nD) (t : Fin cfg0.N) (h : t.val % 8 = 7) (d) :
    (dats m 0 c).before 9 t d = outFirst m c (pt (t.val - 4)) := by
  have hN : t.val < 128 := t.isLt
  rw [before_9_idle m c t (t.val - 1) (by omega) (by omega) (by omega) d,
    before_9_idle m c ⟨t.val - 1, _⟩ (t.val - 2) (by show t.val - 1 = _; omega) (by omega) (by omega) d,
    before_9_idle m c ⟨t.val - 2, _⟩ (t.val - 3) (by show t.val - 2 = _; omega) (by omega) (by omega) d,
    before_9_live m c ⟨t.val - 3, _⟩ (t.val - 4) (by show t.val - 3 = _; omega) (by omega) d]
  exact congrArg _ (Fin.ext (Nat.mod_eq_of_lt (show t.val - 4 < 128 by omega)).symm)

/-! ## The body obligation -/

/-- what the body is entered with at a point -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- what it leaves -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (dats m 0 c).leavesExact 9 t)

theorem Phi_eq (c : Dev nD) (t : Fin (cfg0.N + 1)) :
    (dats m 0 c).Φ t = iprop(∃ xs, ⌜Parked m c t.val xs⌝ ∗ owns (c : Thread nD τ) scM fullShare xs ∗ (∃ r, prngReg c r)) := by
  dsimp only [dats]

/-- The result's buffer is handed back as found at a point that stores nothing into it. -/
theorem leaves_idle_9 (c : Dev nD) (t : Fin cfg0.N) (h : t.val % 4 ≠ 3) :
    (dats m 0 c).leavesExact 9 t = iprop(∃ d, owns (c : Thread nD τ) (ms9 t) fullShare ((dats m 0 c).before 9 t d)) :=
  (dats m 0 c).leavesExact_idle 9 t (idle_9 t h) (flush_9 t (by omega))

theorem leaves_live_9 (c : Dev nD) (t : Fin cfg0.N) (h : t.val % 4 = 3) :
    (dats m 0 c).leavesExact 9 t = iprop(owns (c : Thread nD τ) (ms9 t) fullShare ((dats m 0 c).after 9 t)) := by
  unfold Dat.leavesExact; rw [live_9 t h]

/-- The scratch at equal contents. -/
theorem owns_cast (c : Dev nD) {xs xs' : Vec F S3x1024x256 .bf16} (h : xs = xs') :
    (owns (c : Thread nD τ) scM fullShare xs : sProp 𝕄) ⊢ owns (c : Thread nD τ) scM fullShare xs' := h ▸ .rfl

/-- The body at a point that parks. -/
theorem body_park (c : Dev nD) (t : Fin cfg0.N) (h3 : t.val % 4 ≠ 3) :
    bodyPre m c t ⊢ wp frame (wpE (defs₀ (F := F)) Variants.none c none) Set.univ (bodyAt0 t) (fun _ => bodyPost m c t) := by
  have hN : t.val < 128 := t.isLt
  have hc := coords_snd t
  unfold bodyPre bodyPost bodyAt0
  simp only [before_0, before_1, before_2, before_3, before_4, before_5, before_6, before_7, before_8, after_0, after_1, after_2, after_3, after_4, after_5, after_6, after_7, after_8, Phi_eq]
  rw [show (dats m 0 c).owesAt () t.succ = (dats m 0 c).owesAt () t.castSucc from rfl, leaves_idle_9 m c t h3]
  iintro ⟨⟨%xs, %hxs, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hxs' : Parked m c t.val xs := hxs
  iapply (run_park (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (x0 := iblk m c 0 t) (x1 := iblk m c 1 t) (x2 := iblk m c 2 t) (x3 := iblk m c 3 t) (x4 := iblk m c 4 t)
    (x5 := iblk m c 5 t) (x6 := iblk m c 6 t) (x7 := iblk m c 7 t) c ⟨t.val % 4, by omega⟩ (by show _ = t.val % 4; rw [hc]; omega) xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hr]
  · iexists _; isplitr; · ipureintro; exact hxs'.step m ⟨t.val % 4, by omega⟩ rfl
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The body at the last point of a first group. -/
theorem body_first (c : Dev nD) (t : Fin cfg0.N) (h3 : t.val % 8 = 3) :
    bodyPre m c t ⊢ wp frame (wpE (defs₀ (F := F)) Variants.none c none) Set.univ (bodyAt0 t) (fun _ => bodyPost m c t) := by
  have hN : t.val < 128 := t.isLt
  have hc := coords_snd t
  unfold bodyPre bodyPost bodyAt0
  simp only [before_0, before_1, before_2, before_3, before_4, before_5, before_6, before_7, before_8, after_0, after_1, after_2, after_3, after_4, after_5, after_6, after_7, after_8, Phi_eq]
  rw [show (dats m 0 c).owesAt () t.succ = (dats m 0 c).owesAt () t.castSucc from rfl, leaves_live_9 m c t (by omega), after_9, if_neg (by omega)]
  iintro ⟨⟨%xs, %hxs, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hxs' : Parked m c t.val xs := hxs
  have hfull : xs = slots m c t := hxs'.full m (by omega)
  iapply (run_first (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (x0 := iblk m c 0 t) (x1 := iblk m c 1 t) (x2 := iblk m c 2 t) (x3 := iblk m c 3 t) (x4 := iblk m c 4 t)
    (x5 := iblk m c 5 t) (x6 := iblk m c 6 t) (x7 := iblk m c 7 t) (x8 := iblk m c 8 t) c (hc.trans h3) (slots m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS]; · iapply (owns_cast c hfull); iexact HS
  iintro ⟨H0, H1, H2, H3, H4, H5, H6, H7, H8, H9, HS⟩
  isplitl [HS Hr]
  · iexists (slots m c t); isplitr; · ipureintro; exact Parked.none m c _ (by show (t.val + 1) % 4 = 0; omega) _
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at the last point of a second group. -/
theorem body_second (c : Dev nD) (t : Fin cfg0.N) (h7 : t.val % 8 = 7) :
    bodyPre m c t ⊢ wp frame (wpE (defs₀ (F := F)) Variants.none c none) Set.univ (bodyAt0 t) (fun _ => bodyPost m c t) := by
  have hN : t.val < 128 := t.isLt
  have hc := coords_snd t
  unfold bodyPre bodyPost bodyAt0
  simp only [before_0, before_1, before_2, before_3, before_4, before_5, before_6, before_7, before_8, after_0, after_1, after_2, after_3, after_4, after_5, after_6, after_7, after_8, Phi_eq, before_9 m c t h7]
  rw [show (dats m 0 c).owesAt () t.succ = (dats m 0 c).owesAt () t.castSucc from rfl, leaves_live_9 m c t (by omega), after_9, if_pos h7]
  iintro ⟨⟨%xs, %hxs, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hxs' : Parked m c t.val xs := hxs
  have hfull : xs = slots m c t := hxs'.full m (by omega)
  iapply (run_second (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (x0 := iblk m c 0 t) (x1 := iblk m c 1 t) (x2 := iblk m c 2 t) (x3 := iblk m c 3 t) (x4 := iblk m c 4 t)
    (x5 := iblk m c 5 t) (x6 := iblk m c 6 t) (x7 := iblk m c 7 t) (x8 := iblk m c 8 t) c (hc.trans h7) (outFirst m c (pt (t.val - 4))) (slots m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iapply (owns_cast c hfull); iexact HS
  iintro ⟨H0, H1, H2, H3, H4, H5, H6, H7, H8, H9, HS⟩
  isplitl [HS Hr]
  · iexists (slots m c t); isplitr; · ipureintro; exact Parked.none m c _ (by show (t.val + 1) % 4 = 0; omega) _
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- THE BODY at a point: it parks, stores the first product or adds the second, by the point's number modulo 8. -/
theorem sound_body (c : Dev nD) (t : Fin cfg0.N) :
    bodyPre m c t ⊢ wp frame (wpE (defs₀ (F := F)) Variants.none c none) Set.univ (bodyAt0 t) (fun _ => bodyPost m c t) := by
  by_cases h3 : t.val % 4 = 3
  · rcases (show t.val % 8 = 3 ∨ t.val % 8 = 7 by omega) with h | h
    · exact body_first m c t h
    · exact body_second m c t h
  · exact body_park m c t h3

/-- The body table's row at a point is the body there. -/
theorem row (t : Fin cfg0.N) : defs₀ (F := F) .tc cfg0.body (cfg0.bodyArgs t (cfg0.slots t)) = bodyAt0 t := by
  unfold defs₀; rw [Defs.onTc_tc]

/-- The launch's obligation of the body, at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

theorem enter (c : Dev nD) : (Pipeline.ΦA spec0 c : sProp 𝕄) ⊢ (dats m 0 c).Φ 0 := by
  rw [PhiA_eq, Phi_eq]
  iintro ⟨⟨%d, HS⟩, Hr⟩
  iexists d; isplitr; · ipureintro; exact Parked.none m c _ rfl _
  isplitl [HS]; · iexact HS
  iexact Hr

theorem leave (c : Dev nD) : (dats m 0 c).Φ (Fin.last _) ⊢ (Pipeline.ΦA spec0 c : sProp 𝕄) := by
  rw [PhiA_eq, Phi_eq]
  iintro ⟨%xs, -, HS, Hr⟩
  isplitl [HS]; · iexists xs; iexact HS
  iexact Hr

-- the launch theorem's implicit arguments are found by unifying its conclusion with this one
set_option backward.isDefEq.respectTransparency.types false in
/-- The launch: every final state has the pipeline's arrays at what the proof data says, and no semaphore count left. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl)
    (V := V m) (hmain := hmain m Variants.none) (hA := A_eq m) (hin := enter m) (hout := leave m)

/-- the same, of the arrays alone -/
theorem run_arrays : θ_run defs (onTc (τ := τ) (main (F := F))) (s₀ m ρ) (Pipeline.FramePost cfgs (dats m) 0 (V m)) :=
  (θ_run defs _ _).mono (fun _ h => h.1) (run_all m ρ)

/-- THE FRAME: the arguments end as they began, and no semaphore count is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_all m ρ))

end Cert.Kernel2Ideal.Out

end
-- ==== Proof.OutBlocks.lean ====
/- The output projection's kernel over the extended reals: what each window's block holds at a grid point. -/
module

public import proofs.«01_k».proof.Proof.OutSpec
public import proofs.«01_k».proof.Proof.OutFrame
public import Idealize.ShloMosaic.Lib.Pipeline.ReadBack
public import Idealize.ShloMosaic.Lib.Claim

@[expose] public section

set_option maxRecDepth 16384

noncomputable section

namespace Cert.Kernel2Ideal.OutV

open Cert.Kernel2Ideal Cert.Kernel2Ideal.Gen Cert.Kernel2Ideal.Out Cert.OutSpec
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![t.val / 8, 0] ∧ win0_1.index t = ![t.val / 8, 0] ∧ win0_2.index t = ![0, 0, 24 + t.val % 8]
    ∧ win0_3.index t = ![0, 0, 32 + t.val % 8] ∧ win0_4.index t = ![0, 0, 40 + t.val % 8] ∧ win0_5.index t = ![0, 0, t.val % 8]
    ∧ win0_6.index t = ![0, 0, t.val % 8] ∧ win0_7.index t = ![0, 0, t.val % 8] ∧ win0_8.index t = ![0, t.val % 8 / 4, 0]
    ∧ win0_9.index t = ![t.val / 8, 0] :=
  (by decide +kernel : ∀ t : Fin grid0.N, _)

/-- the argument arrays on device `c` -/
def args (c : Dev nD) : Args where
  h := m ((c : Thread nD τ).loc main_arg0)
  y := m ((c : Thread nD τ).loc main_arg1)
  wIn := m ((c : Thread nD τ).loc main_arg2)
  wA := m ((c : Thread nD τ).loc main_arg3)
  wB := m ((c : Thread nD τ).loc main_arg4)
  wC := m ((c : Thread nD τ).loc main_arg5)
  wO := m ((c : Thread nD τ).loc main_arg6)

variable (c : Dev nD) (t : Fin cfg0.N)

/-- the activations' rows -/
theorem hblk (r : Fin 1024) (k : Fin 2048) (R : Fin 16384) (h : R.val = t.val / 8 * 1024 + r.val) :
    iblk m c 0 t (ix2 r k) = (args m c).h (ix2 R k) := by
  blk_simp [iblk, idx t]
  entry_read
  pointwise
  blk_point [args, idx t]

/-- the mixers' outputs' rows -/
theorem yblk (r : Fin 1024) (k : Fin 3072) (R : Fin 16384) (h : R.val = t.val / 8 * 1024 + r.val) :
    iblk m c 1 t (ix2 r k) = (args m c).y (ix2 R k) := by
  blk_simp [iblk, idx t]
  entry_read
  pointwise
  blk_point [args, idx t]

/-- the gates' weights -/
theorem gblk0 (k : Fin 2048) (j : Fin 256) (J : Fin 12288) (h : J.val = 6144 + (t.val % 8 * 256 + j.val)) :
    iblk m c 2 t (ix3 0 k j) = (args m c).wIn (ix3 0 k J) := by
  blk_simp [iblk, idx t]
  entry_read
  pointwise
  blk_point [args, idx t]

theorem gblk1 (k : Fin 2048) (j : Fin 256) (J : Fin 12288) (h : J.val = 6144 + (2048 + (t.val % 8 * 256 + j.val))) :
    iblk m c 3 t (ix3 0 k j) = (args m c).wIn (ix3 0 k J) := by
  blk_simp [iblk, idx t]
  entry_read
  pointwise
  blk_point [args, idx t]

theorem gblk2 (k : Fin 2048) (j : Fin 256) (J : Fin 12288) (h : J.val = 6144 + (4096 + (t.val % 8 * 256 + j.val))) :
    iblk m c 4 t (ix3 0 k j) = (args m c).wIn (ix3 0 k J) := by
  blk_simp [iblk, idx t]
  entry_read
  pointwise
  blk_point [args, idx t]

/-- the branches' weights -/
theorem wblk0 (k : Fin 1024) (j : Fin 256) (J : Fin 2048) (h : J.val = t.val % 8 * 256 + j.val) :
    iblk m c 5 t (ix3 0 k j) = (args m c).wA (ix3 0 k J) := by
  blk_simp [iblk, idx t]
  entry_read
  pointwise
  blk_point [args, idx t]

theorem wblk1 (k : Fin 1024) (j : Fin 256) (J : Fin 2048) (h : J.val = t.val % 8 * 256 + j.val) :
    iblk m c 6 t (ix3 0 k j) = (args m c).wB (ix3 0 k J) := by
  blk_simp [iblk, idx t]
  entry_read
  pointwise
  blk_point [args, idx t]

theorem wblk2 (k : Fin 1024) (j : Fin 256) (J : Fin 2048) (h : J.val = t.val % 8 * 256 + j.val) :
    iblk m c 7 t (ix3 0 k j) = (args m c).wC (ix3 0 k J) := by
  blk_simp [iblk, idx t]
  entry_read
  pointwise
  blk_point [args, idx t]

/-- the output weights' rows -/
theorem oblk (k : Fin 1024) (n : Fin 2048) (K : Fin 2048) (h : K.val = t.val % 8 / 4 * 1024 + k.val) :
    iblk m c 8 t (ix3 0 k n) = (args m c).wO (ix3 0 K n) := by
  blk_simp [iblk, idx t]
  entry_read
  pointwise
  blk_point [args, idx t]

end Cert.Kernel2Ideal.OutV
end
-- ==== Proof.OutPoint.lean ====
/- The output projection's kernel over the extended reals: the merged blocks, the two products of a row block, and the
   result array. -/
module

public import proofs.«01_k».proof.Proof.OutBlocks

@[expose] public section

set_option maxRecDepth 16384

noncomputable section

namespace Cert.Kernel2Ideal.OutV

open Cert.Kernel2Ideal Cert.Kernel2Ideal.Gen Cert.Kernel2Ideal.Out Cert.OutSpec
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-! ## The merged blocks -/

/-- three projections, each times the logistic function of its gate's projection, summed -/
def gsum (h ga gb gc : Fin 2048 → EReal) (y0 y1 y2 wa wb wc : Fin 1024 → EReal) : EReal :=
  Ideal.logistic (∑ x, h x * ga x) * (∑ x, y0 x * wa x) + Ideal.logistic (∑ x, h x * gb x) * (∑ x, y1 x * wb x)
    + Ideal.logistic (∑ x, h x * gc x) * (∑ x, y2 x * wc x)

/-- Gated sums whose factors are the arguments' entries: the merged entry. -/
theorem gsum_args (A : Args) (R : Fin 16384) (J : Fin 2048) (h ga gb gc : Fin 2048 → EReal) (y0 y1 y2 wa wb wc : Fin 1024 → EReal)
    (eh : ∀ x, h x = A.h (ix2 R x)) (ea : ∀ x, ga x = A.wIn (ix3 0 x ⟨6144 + J.val, by omega⟩))
    (eb : ∀ x, gb x = A.wIn (ix3 0 x ⟨6144 + (2048 + J.val), by omega⟩)) (ec : ∀ x, gc x = A.wIn (ix3 0 x ⟨6144 + (4096 + J.val), by omega⟩))
    (e0 : ∀ x, y0 x = A.y (ix2 R ⟨0 + x.val, by omega⟩)) (e1 : ∀ x, y1 x = A.y (ix2 R ⟨1024 + x.val, by omega⟩))
    (e2 : ∀ x, y2 x = A.y (ix2 R ⟨2048 + x.val, by omega⟩)) (fa : ∀ x, wa x = A.wA (ix3 0 x J)) (fb : ∀ x, wb x = A.wB (ix3 0 x J))
    (fc : ∀ x, wc x = A.wC (ix3 0 x J)) : gsum h ga gb gc y0 y1 y2 wa wb wc = mg A R J := by
  unfold gsum
  simp only [eh, ea, eb, ec, e0, e1, e2, fa, fb, fc]
  rfl

section
variable (h : Vec Ideal S512x2048 .bf16) (y0 y1 y2 : Vec Ideal S512x1024 .bf16) (ga gb gc : Vec Ideal S1x2048x256 .bf16)
    (wa wb wc : Vec Ideal S1x1024x256 .bf16) (r : Fin 512)

/-- a tile at an entry -/
theorem tile_at (j : Fin 256) : tile (F := Ideal) h y0 y1 y2 ga gb gc wa wb wc (ix3 0 r j) =
    gsum (fun x => h (ix2 r x)) (fun x => ga (ix3 0 x j)) (fun x => gb (ix3 0 x j)) (fun x => gc (ix3 0 x j)) (fun x => y0 (ix2 r x))
      (fun x => y1 (ix2 r x)) (fun x => y2 (ix2 r x)) (fun x => wa (ix3 0 x j)) (fun x => wb (ix3 0 x j)) (fun x => wc (ix3 0 x j)) := by
  pointwise [tile, k0_pay9, k0_pay8, k0_pay7, k0_pay6]
  rfl

/-- four merged blocks side by side, at an entry: one of the three slots, or the point's own tile -/
theorem rows_at (s0 s1 s2 : Vec Ideal S1x512x256 .bf16) (k : Fin 1024) : rows (F := Ideal) s0 s1 s2 h y0 y1 y2 ga gb gc wa wb wc (ix2 r k) =
    if h1 : k.val < 256 then s0 (ix3 0 r ⟨k.val, h1⟩)
    else if h2 : k.val - 256 < 256 then s1 (ix3 0 r ⟨k.val - 256, h2⟩)
    else if h3 : k.val - 256 - 256 < 256 then s2 (ix3 0 r ⟨k.val - 256 - 256, h3⟩)
    else tile (F := Ideal) h y0 y1 y2 ga gb gc wa wb wc (ix3 0 r ⟨k.val - 256 - 256 - 256, by omega⟩) := by
  pointwise [rows, k0_pay28, k0_pay27, k0_pay26, k0_pay25, k0_pay24, tile, k0_pay9, k0_pay8, k0_pay7, k0_pay6]
end

/-- a point's tile of the first 512 rows -/
theorem lo_at (r : Fin 512) (j : Fin 256) (R : Fin 16384) (J : Fin 2048) (hR : R.val = t.val / 8 * 1024 + r.val)
    (hJ : J.val = t.val % 8 * 256 + j.val) : lo (F := Ideal) m c t (ix3 0 r j) = mg (args m c) R J := by
  unfold lo tileLo
  refine (tile_at _ _ _ _ _ _ _ _ _ _ r j).trans ?_
  refine gsum_args (args m c) R J _ _ _ _ _ _ _ _ _ _ (fun x => ?_) (fun x => ?_) (fun x => ?_) (fun x => ?_) (fun x => ?_) (fun x => ?_)
    (fun x => ?_) (fun x => ?_) (fun x => ?_) (fun x => ?_)
  · pointwise; exact hblk m c t _ x R hR
  · pointwise [whole]; exact gblk0 m c t x j _ (by simp only; omega)
  · pointwise [whole]; exact gblk1 m c t x j _ (by simp only; omega)
  · pointwise [whole]; exact gblk2 m c t x j _ (by simp only; omega)
  · pointwise; exact yblk m c t _ _ R hR
  · pointwise; exact yblk m c t _ _ R hR
  · pointwise; exact yblk m c t _ _ R hR
  · pointwise [wholeW]; exact wblk0 m c t x j J hJ
  · pointwise [wholeW]; exact wblk1 m c t x j J hJ
  · pointwise [wholeW]; exact wblk2 m c t x j J hJ

/-- a point's tile of the last 512 rows -/
theorem hi_at (r : Fin 512) (j : Fin 256) (R : Fin 16384) (J : Fin 2048) (hR : R.val = t.val / 8 * 1024 + (512 + r.val))
    (hJ : J.val = t.val % 8 * 256 + j.val) : hi (F := Ideal) m c t (ix3 0 r j) = mg (args m c) R J := by
  unfold hi tileHi
  refine (tile_at _ _ _ _ _ _ _ _ _ _ r j).trans ?_
  refine gsum_args (args m c) R J _ _ _ _ _ _ _ _ _ _ (fun x => ?_) (fun x => ?_) (fun x => ?_) (fun x => ?_) (fun x => ?_) (fun x => ?_)
    (fun x => ?_) (fun x => ?_) (fun x => ?_) (fun x => ?_)
  · pointwise; exact hblk m c t _ x R hR
  · pointwise [whole]; exact gblk0 m c t x j _ (by simp only; omega)
  · pointwise [whole]; exact gblk1 m c t x j _ (by simp only; omega)
  · pointwise [whole]; exact gblk2 m c t x j _ (by simp only; omega)
  · pointwise; exact yblk m c t _ _ R hR
  · pointwise; exact yblk m c t _ _ R hR
  · pointwise; exact yblk m c t _ _ R hR
  · pointwise [wholeW]; exact wblk0 m c t x j J hJ
  · pointwise [wholeW]; exact wblk1 m c t x j J hJ
  · pointwise [wholeW]; exact wblk2 m c t x j J hJ

/-- a point's merged block -/
theorem merged_at (r : Fin 1024) (j : Fin 256) (R : Fin 16384) (J : Fin 2048) (hR : R.val = t.val / 8 * 1024 + r.val)
    (hJ : J.val = t.val % 8 * 256 + j.val) : merged (F := Ideal) m c t r j = mg (args m c) R J := by
  unfold merged stack
  by_cases h : r.val < 512
  · rw [dif_pos h]
    exact lo_at m c t _ j R J hR hJ
  · rw [dif_neg h]
    exact hi_at m c t _ j R J (by show R.val = t.val / 8 * 1024 + (512 + (r.val - 512)); omega) hJ

/-- the scratch's slots before the last point of a group -/
theorem slots_at (ht : t.val % 4 = 3) (q : Fin 3) (r : Fin 1024) (j : Fin 256) (R : Fin 16384) (J : Fin 2048)
    (hR : R.val = t.val / 8 * 1024 + r.val) (hJ : J.val = t.val % 8 / 4 * 1024 + (q.val * 256 + j.val)) :
    slots (F := Ideal) m c t (ix3 q r j) = mg (args m c) R J := by
  have hq := q.isLt
  have hN : t.val < 128 := t.isLt
  have e : (pt (t.val - 3 + q.val)).val = t.val - 3 + q.val := (Nat.mod_eq_of_lt (by omega) : (t.val - 3 + q.val) % 128 = _)
  exact merged_at m c (pt (t.val - 3 + q.val)) r j R J (by rw [e]; omega) (by rw [e]; omega)

/-- A group's rows: the group's 1024 merged columns. -/
theorem groupRows_at (ht : t.val % 4 = 3) (a : Fin 2) (r : Fin 512) (k : Fin 1024) (R : Fin 16384) (J : Fin 2048)
    (hR : R.val = t.val / 8 * 1024 + (512 * a.val + r.val)) (hJ : J.val = t.val % 8 / 4 * 1024 + k.val) :
    groupRows (F := Ideal) m c t a (ix2 r k) = mg (args m c) R J := by
  have hk := k.isLt
  match a, hR with
  | 0, hR =>
    simp only [Fin.val_zero] at hR
    refine (rows_at _ _ _ _ _ _ _ _ _ _ r _ _ _ k).trans ?_
    split_ifs with h1 h2 h3
    · pointwise
      exact slots_at m c t ht 0 _ _ R J (by simp only; omega) (by simp only [Fin.val_zero]; omega)
    · pointwise
      exact slots_at m c t ht 1 _ _ R J (by simp only; omega) (by simp only [Fin.val_one]; omega)
    · pointwise
      exact slots_at m c t ht 2 _ _ R J (by simp only; omega) (by simp only [Fin.val_two]; omega)
    · exact lo_at m c t r _ R J (by omega) (by simp only; omega)
  | 1, hR =>
    simp only [Fin.val_one] at hR
    refine (rows_at _ _ _ _ _ _ _ _ _ _ r _ _ _ k).trans ?_
    split_ifs with h1 h2 h3
    · pointwise
      exact slots_at m c t ht 0 _ _ R J (by simp only; omega) (by simp only [Fin.val_zero]; omega)
    · pointwise
      exact slots_at m c t ht 1 _ _ R J (by simp only; omega) (by simp only [Fin.val_one]; omega)
    · pointwise
      exact slots_at m c t ht 2 _ _ R J (by simp only; omega) (by simp only [Fin.val_two]; omega)
    · exact hi_at m c t r _ R J (by omega) (by simp only; omega)

/-- the columns of the output weights -/
theorem wCols_at (b : Fin 4) (k : Fin 1024) (j : Fin 512) (K n : Fin 2048) (hK : K.val = t.val % 8 / 4 * 1024 + k.val)
    (hn : n.val = 512 * b.val + j.val) : wCols (F := Ideal) (iblk m c 8 t) b (ix3 0 k j) = (args m c).wO (ix3 0 K n) := by
  rw [← oblk m c t k n K hK]
  match b, hn with
  | 0, hn => pointwise [wCols]; exact congrArg (fun q => iblk m c 8 t (ix3 0 k q)) (Fin.ext (by simp at hn ⊢; omega))
  | 1, hn => pointwise [wCols]; exact congrArg (fun q => iblk m c 8 t (ix3 0 k q)) (Fin.ext (by simp at hn ⊢; omega))
  | 2, hn => pointwise [wCols]; exact congrArg (fun q => iblk m c 8 t (ix3 0 k q)) (Fin.ext (by simp at hn ⊢; omega))
  | 3, hn => pointwise [wCols]; exact congrArg (fun q => iblk m c 8 t (ix3 0 k q)) (Fin.ext (by simp at hn ⊢; omega))

/-! ## The two products -/

/-- A group's product, at an entry of a tile: the half of the projection's sum over the group's merged columns. -/
theorem product_at (ht : t.val % 4 = 3) (a : Fin 2) (b : Fin 4) (r j : Fin 512) (R : Fin 16384) (n : Fin 2048) (o : ℕ) (ho : o ≤ 1024)
    (hR : R.val = t.val / 8 * 1024 + (512 * a.val + r.val)) (hn : n.val = 512 * b.val + j.val) (hb : t.val % 8 / 4 * 1024 = o) :
    ∑ x : Fin 1024, groupRows (F := Ideal) m c t a (ix2 r x) * wCols (F := Ideal) (iblk m c 8 t) b (ix3 0 x j) = half (args m c) o ho R n := by
  subst hb
  exact Finset.sum_congr rfl fun x _ => congr_arg₂ (· * ·) (groupRows_at m c t ht a r x R _ hR rfl) (wCols_at m c t b x j _ n rfl hn)

/-- what the last point of a first group leaves -/
theorem outFirst_at (ht : t.val % 8 = 3) (p : Fin 1024) (n : Fin 2048) (R : Fin 16384) (hR : R.val = t.val / 8 * 1024 + p.val) :
    outFirst (F := Ideal) m c t (ix2 p n) = half (args m c) 0 (by omega) R n := by
  pointwise [outFirst, tiles, first, k0_pay2, k0_pay41]
  exact product_at m c t (by omega) _ _ _ _ R n 0 (by omega) (by simp only; omega) (by simp only; omega) (by omega)

/-- the tiles of a block, each at an entry -/
theorem oTiles_at (x : Vec Ideal S1024x2048 .f32) (a : Fin 2) (b : Fin 4) (r j : Fin 512) (p : Fin 1024) (q : Fin 2048)
    (h0 : p.val = 512 * a.val + r.val) (h1 : q.val = 512 * b.val + j.val) : oTiles (F := Ideal) x a b (ix2 r j) = x (ix2 p q) := by
  fin_cases a <;> fin_cases b <;> (
    pointwise [oTiles]
    exact congr_arg₂ (fun u v => x (ix2 u v)) (Fin.ext (by simp at h0 ⊢; omega)) (Fin.ext (by simp at h1 ⊢; omega)))

/-- What the last point of a second group leaves: the whole sum. -/
theorem outSecond_at (ht : t.val % 8 = 7) (p : Fin 1024) (n : Fin 2048) (R : Fin 16384) (hR : R.val = t.val / 8 * 1024 + p.val) :
    outSecond (F := Ideal) m c t (ix2 p n) = out (args m c) R n := by
  have hN : t.val < 128 := t.isLt
  have e : (pt (t.val - 4)).val = t.val - 4 := (Nat.mod_eq_of_lt (by omega) : (t.val - 4) % 128 = _)
  rw [out_halves]
  pointwise [outSecond, tiles, second, k0_pay3]
  refine congr_arg₂ (· + ·) ?_ (product_at m c t (by omega) _ _ _ _ R n 1024 (by omega) (by simp only; omega) (by simp only; omega) (by omega))
  exact (oTiles_at _ _ _ _ _ p n (by simp only; omega) (by simp only; omega)).trans
    (outFirst_at m c (pt (t.val - 4)) (by rw [e]; omega) p n R (by rw [e]; omega))

/-! ## The result array -/

theorem tile9 : ∀ t : Fin cfg0.N, win0_9.index t 0 = t.val / 8 ∧ win0_9.index t 1 = 0 := (by decide +kernel : ∀ t : Fin grid0.N, _)

/-- the result array: the projected gated sum -/
theorem final_out : (dats (F := Ideal) m 0 c).arrAt 9 cfg0.N = outArr (args m c) := by
  refine (dats m 0 c).arrAt_eq_of_covers 9 (outArr (args m c)) (by decide +kernel) fun t hf y => ?_
  have ht : t.val % 8 = 7 := (flush0_9 t).mp hf
  obtain ⟨e0, e1⟩ := tile9 t
  have hy : (y 0).val < 1024 := (y 0).isLt
  have hN : t.val < 128 := t.isLt
  obtain ⟨p, n, rfl⟩ : ∃ (p : Fin 1024) (n : Fin 2048), y = ix2 p n := ⟨y 0, y 1, eq_ix2 y⟩
  blk_simp [outArr]
  rw [after_9, if_pos ht, outSecond_at m c t ht p n ⟨t.val / 8 * 1024 + p.val, by omega⟩ rfl]
  refine congr (congrArg (out (args m c)) (Fin.ext ?_)) (Fin.ext ?_)
  · blk_simp
    show t.val / 8 * 1024 + p.val = win0_9.index t 0 * 1024 + p.val
    omega
  · blk_simp
    omega

end Cert.Kernel2Ideal.OutV
end
-- ==== Proof.RefProd.lean ====
/- The output projection's reference computes the projected gated sum. -/
module

public import proofs.«01_k».proof.Proof.OutSpec
public import proofs.«01_k».proof.Proof.Gen.Reference2Ideal.Read
public import proofs.«01_k».proof.Proof.Gen.Reference2Ideal.Run
public import Idealize.ShloMosaic.Lib.Claim

@[expose] public section

set_option maxRecDepth 16384

noncomputable section

namespace Cert.Reference2Ideal.OutR

open Cert.Reference2Ideal Cert.OutSpec
open Idealize.ShloMosaic Idealize.ShloMosaic.TcCoe Idealize.SL.Sem

variable (A : Args)

/-- the reference's gates -/
theorem gate_at (r : Fin 16384) (b : Fin 3) (j : Fin 2048) :
    Read.val_main_v12 (F := Ideal) A.h A.wIn (ix3 r b j) = gate A r ⟨b.val * 2048 + j.val, by omega⟩ := by
  pointwise [Read.val_main_v12, Read.val_main_v11, Read.val_main_v10, Read.val_main_v9, Read.val_main_v8, Read.val_main_v7,
    Read.val_main_v6, Read.val_main_v5, Read.val_main_v4, Read.val_main_v3, Read.val_main_v2, Read.val_main_v0, Read.val_main_cst,
    Read.val_main_cst_0]
  rfl

/-- the reference's gated sum -/
theorem merged_at (r : Fin 16384) (j : Fin 2048) :
    Read.val_main_v35 (F := Ideal) A.h A.y A.wIn A.wA A.wB A.wC (ix2 r j) = mg A r j := by
  pointwise [Read.val_main_v35, Read.val_main_v34, Read.val_main_v33, Read.val_main_v32, Read.val_main_v31, Read.val_main_v30,
    Read.val_main_v29, Read.val_main_v28, Read.val_main_v27, Read.val_main_v26, Read.val_main_v25, Read.val_main_v24,
    Read.val_main_v23, Read.val_main_v22, Read.val_main_v21, Read.val_main_v20, Read.val_main_v19, Read.val_main_v18,
    Read.val_main_v17, Read.val_main_v16, Read.val_main_v15, Read.val_main_v14, Read.val_main_v13, Read.val_main_v1]
  rw [gate_at, gate_at, gate_at]
  have e0 : (⟨(0 : Fin 3).val * 2048 + j.val, by simp; omega⟩ : Fin 6144) = ⟨j.val, by omega⟩ := Fin.ext (by simp)
  have e1 : (⟨(1 : Fin 3).val * 2048 + j.val, by simp; omega⟩ : Fin 6144) = ⟨2048 + j.val, by omega⟩ := Fin.ext (by simp)
  have e2 : (⟨(2 : Fin 3).val * 2048 + j.val, by simp; omega⟩ : Fin 6144) = ⟨4096 + j.val, by omega⟩ := Fin.ext (by simp)
  have b0 : ∀ k : Fin 1024, (⟨k.val, by omega⟩ : Fin 3072) = ⟨0 + k.val, by omega⟩ := fun k => Fin.ext (Nat.zero_add _).symm
  unfold mg branch
  simp only [e0, e1, e2, b0]

/-- the reference's result -/
theorem result : Read.val_main_v38 (F := Ideal) A.h A.y A.wIn A.wA A.wB A.wC A.wO = outArr A := by
  funext i
  obtain ⟨r, n, rfl⟩ : ∃ (r : Fin 16384) (n : Fin 2048), i = ix2 r n := ⟨i 0, i 1, eq_ix2 i⟩
  pointwise [Read.val_main_v38, Read.val_main_v37, Read.val_main_v36]
  simp only [merged_at]
  rfl

/-- the argument arrays on device `c` -/
def args (m : (ℓ : Loc nD τ sig) → Buf (Elt Ideal) ℓ) (c : Dev nD) : Args where
  h := m ((c : Thread nD τ).loc main_arg0)
  y := m ((c : Thread nD τ).loc main_arg1)
  wIn := m ((c : Thread nD τ).loc main_arg2)
  wA := m ((c : Thread nD τ).loc main_arg3)
  wB := m ((c : Thread nD τ).loc main_arg4)
  wC := m ((c : Thread nD τ).loc main_arg5)
  wO := m ((c : Thread nD τ).loc main_arg6)

/-- The reference runs, ends with the array and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = outArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((Read.val_main_v38_eq _ _ _ _ _ _ _).trans (result (args m c))), (h c).2⟩) (Value.run m ρ)

end Cert.Reference2Ideal.OutR
end
-- ==== Proof.FfnLoops.lean ====
/- The feed-forward kernel's two loops of 64 trips, over any float type: the gather of a tile's rows into the order the
   kernel works in, eight rows a trip, and the normalized rows of the result put back in their own order. -/
module

public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.WritesUnit
public import Idealize.ShloMosaic.Lib.Pipeline.ValueKit

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Sixteen blocks of 128 columns side by side -/

/-- Sixteen blocks of 128 columns that agree with one function `g` of the row and the column, side by side, are `g`. -/
theorem lanes (v : Fin 16 → Vec F S8x128 .f32) (g : Fin 8 → Fin 2048 → Elt F .f32)
    (h : Shape.Concatenates ((List.ofFn fun n : Fin 16 => (⟨S8x128, v n⟩ : (s : Shape) × (s.Idx → Elt F .f32))).map (·.1)) S8x2048 1)
    (hv : ∀ (j : Fin 16) (r : Fin 8) (q : Fin 128), v j (ix2 r q) = g r ⟨128 * j.val + q.val, by omega⟩) (r : Fin 8) (n : Fin 2048) :
    concatenate S8x2048 1 (List.ofFn fun n : Fin 16 => (⟨S8x128, v n⟩ : (s : Shape) × (s.Idx → Elt F .f32))) h (ix2 r n) = g r n := by
  rw [concatenate_ofFn_apply (s₁ := S8x128) 1 v h rfl 128 rfl (ix2 r n) ⟨n.val / 128, by omega⟩ rfl (ix2 r ⟨n.val % 128, by omega⟩) rfl
    (fun b hb => by
      match b with
      | 0 => rfl
      | 1 => exact absurd rfl hb), hv]
  exact congrArg (g r) (Fin.ext (by show 128 * (n.val / 128) + n.val % 128 = n.val; omega))

/-- Eight rows of a lane block of the column buffer, `d` apart from row `o` on. -/
theorem read_rows (x : Vec F S16x576x128 .f32) (j : Fin 16) (o d : ℕ) (off : Fin 3 → ℕ) (hoff : off = ![j.val, o, 0])
    (inb : ∀ a, S1x8x128.size a = 0 ∨ off a + (![1, d, 1] : Fin 3 → ℕ) a * (S1x8x128.size a - 1) < S16x576x128.size a)
    (hb : o + d * 7 < 576) (r : Fin 8) (q : Fin 128) :
    shapeCast S8x128 (fun y => x ((⟨off, S1x8x128.size, ![1, d, 1], inb⟩ : LoadRect S16x576x128).idx y)) shapeCasts_S1x8x128_S8x128 (ix2 r q)
      = x (ix3 j ⟨o + d * r.val, by have := Nat.mul_le_mul_left d (show r.val ≤ 7 by omega); omega⟩ q) := by
  subst hoff
  have e : ∀ (u : Vec F S1x8x128 .f32), shapeCast S8x128 u shapeCasts_S1x8x128_S8x128 (ix2 r q) = u (ix3 0 r q) := fun u => by pointwise
  rw [e]
  refine congrArg x (funext fun a => Fin.ext ?_)
  match a with
  | 0 => exact Nat.add_zero _
  | 1 => rfl
  | 2 => exact (Nat.zero_add _).trans (Nat.one_mul _)

/-! ## The gather -/

/-- The rows of the column buffer in the order the kernel works in: row `p` is row `p / 8` of the `p % 8`-th stretch. -/
def gath (x : Vec F S16x576x128 .f32) : Vec F S512x2048 .f32 := fun y =>
  have h0 : (y 0).val < 512 := (y 0).isLt
  have h1 : (y 1).val < 2048 := (y 1).isLt
  x (ix3 ⟨(y 1).val / 128, by omega⟩ ⟨(y 0).val / 8 + 72 * ((y 0).val % 8), by omega⟩ ⟨(y 1).val % 128, by omega⟩)

/-- the offsets of the sixteen loads of a trip of the gather -/
def offs1 (k : Fin k0_t1_loop.trips) : Fin 16 → Fin 3 → ℕ :=
  ![k0_off1 k, k0_off2 k, k0_off3 k, k0_off4 k, k0_off5 k, k0_off6 k, k0_off7 k, k0_off8 k,
    k0_off9 k, k0_off10 k, k0_off11 k, k0_off12 k, k0_off13 k, k0_off14 k, k0_off15 k, k0_off16 k]

theorem offs1_eq : ∀ (k : Fin k0_t1_loop.trips) (j : Fin 16), offs1 k j = ![j.val, k.val, 0] := by decide +kernel

theorem off17_eq : ∀ k : Fin k0_t1_loop.trips, k0_off17 k = ![8 * k.val, 0] := by decide +kernel

theorem trips1 : k0_t1_loop.trips = 64 := by decide +kernel

/-- What a trip of the gather stores: eight rows of `gath`. -/
theorem trip1 (x : Vec F S16x576x128 .f32) (k : Fin k0_t1_loop.trips)
    (inb : ∀ (j : Fin 16) a, S1x8x128.size a = 0 ∨ offs1 k j a + (![1, 72, 1] : Fin 3 → ℕ) a * (S1x8x128.size a - 1) < S16x576x128.size a)
    (v : Fin 16 → Vec F S1x8x128 .f32) (hv : ∀ j, v j = fun y => x ((⟨offs1 k j, S1x8x128.size, ![1, 72, 1], inb j⟩ : LoadRect S16x576x128).idx y))
    (r : Fin 8) (n : Fin 2048) :
    k0_pay182 (k0_pay8 (v 0)) (k0_pay9 (v 1)) (k0_pay10 (v 2)) (k0_pay11 (v 3)) (k0_pay12 (v 4)) (k0_pay13 (v 5)) (k0_pay14 (v 6)) (k0_pay15 (v 7))
        (k0_pay16 (v 8)) (k0_pay17 (v 9)) (k0_pay18 (v 10)) (v 11) (v 12) (v 13) (v 14) (v 15) (ix2 r n)
      = gath x (ix2 ⟨8 * k.val + r.val, by have := k.isLt; have := trips1; omega⟩ n) := by
  have hk : k.val < 64 := by have := k.isLt; have := trips1; omega
  have e : ∀ (u : Vec F S8x2048 .f32), shapeCast S8x2048 u shapeCasts_S8x2048_S8x2048 (ix2 r n) = u (ix2 r n) := fun u => by pointwise
  refine (e _).trans ((lanes (fun j => shapeCast S8x128 (v j) shapeCasts_S1x8x128_S8x128)
    (fun r n => gath x (ix2 ⟨8 * k.val + r.val, by omega⟩ n)) _ (fun j r q => ?_) r n))
  rw [hv j, read_rows x j k.val 72 _ (offs1_eq k j) (inb j) (by omega) r q]
  refine congrArg x ?_
  have a1 : (128 * j.val + q.val) / 128 = j.val := by omega
  have a2 : (128 * j.val + q.val) % 128 = q.val := by omega
  have a3 : (8 * k.val + r.val) / 8 = k.val := by omega
  have a4 : (8 * k.val + r.val) % 8 = r.val := by omega
  funext a
  match a with
  | 0 => exact Fin.ext a1.symm
  | 1 => exact Fin.ext (by show k.val + 72 * r.val = (8 * k.val + r.val) / 8 + 72 * ((8 * k.val + r.val) % 8); rw [a3, a4])
  | 2 => exact Fin.ext a2.symm

/-- Storing eight more rows of `g` extends what a buffer is known to hold of it. -/
theorem rows_step (v : View sig .tc .vmem S512x2048 .f32) (f : v.ty.Contents (Elt F)) (g : Vec F S512x2048 .f32) (k : ℕ) (hk : k < 64)
    (off : Fin 2 → ℕ) (hoff : off = ![8 * k, 0]) (inb : ∀ a, off a + S8x2048.size a ≤ S512x2048.size a) (p : Vec F S8x2048 .f32)
    (hf : ∀ y : S512x2048.Idx, (y 0).val < 8 * k → v.read (Elt F) f y = g y)
    (hp : ∀ (r : Fin 8) (n : Fin 2048), p (ix2 r n) = g (ix2 ⟨8 * k + r.val, by omega⟩ n)) :
    ∀ y : S512x2048.Idx, (y 0).val < 8 * (k + 1) →
      v.read (Elt F) (v.writes (Elt F) f [⟨Rect.unit (s := S512x2048) off S8x2048.size inb, p⟩]) y = g y := fun y hy => by
  have h1 : (y 1).val < 2048 := (y 1).isLt
  by_cases h : (y 0).val < 8 * k
  · rw [View.read_writes_cons_unit_of_not_mem v f inb p [] y hoff 0 (Or.inl h)]
    exact hf y h
  · refine (View.read_writes_cons_unit_of_mem v f inb p [] y (ix2 ⟨(y 0).val - 8 * k, by omega⟩ (y 1)) hoff fun a => ?_).trans
      ((hp ⟨(y 0).val - 8 * k, by omega⟩ (y 1)).trans (congrArg g ?_))
    · match a with
      | 0 => exact (Nat.add_sub_cancel' (not_lt.mp h)).symm
      | 1 => exact (Nat.zero_add _).symm
    · funext a
      match a with
      | 0 => exact Fin.ext (Nat.add_sub_cancel' (not_lt.mp h))
      | 1 => rfl

set_option warn.classDefReducibility false in
/-- THE GATHER LOOP: before trip `k` the first `8 k` rows of the buffer are the gathered rows. -/
@[sl_loop] def gatherLoop (𝒱 : Variants) (c : Dev nD) (bd : Option 𝒱.V) (E : Set ℕ) (i : grid0.Coords)
  (arg2 : Memref sig .tc .vmem S512x2048 .f32) (harg2 : arg2.IsWhole) (arg3 : Memref sig .tc .vmem S512x2048 .f32) (harg3 : arg3.IsWhole)
  (arg4 : Memref sig .tc .vmem S64x2048 .f32) (harg4 : arg4.IsWhole) (arg5 : Memref sig .tc .vmem S64x2048 .f32) (harg5 : arg5.IsWhole)
  (arg6 : Memref sig .tc .vmem S1x1x2048 .f32) (harg6 : arg6.IsWhole) (arg7 : Memref sig .tc .vmem S1x2048x512 .bf16) (harg7 : arg7.IsWhole)
  (arg8 : Memref sig .tc .vmem S1x2048x512 .bf16) (harg8 : arg8.IsWhole) (arg9 : Memref sig .tc .vmem S1x22x3x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S512x2048 .bf16) (harg13 : arg13.IsWhole)
  (arg14 : Memref sig .tc .vmem S512x2048 .f32) (harg14 : arg14.IsWhole) (arg15 : Memref sig .tc .vmem S16x576x128 .f32) (harg15 : arg15.IsWhole)
  (arg16 : Memref sig .tc .vmem S64x2048 .bf16) (harg16 : arg16.IsWhole) (arg17 : Memref sig .tc .vmem S11x64x512 .f32) (harg17 : arg17.IsWhole)
  (arg18 : Memref sig .tc .vmem S11x64x512 .f32) (harg18 : arg18.IsWhole)
  (k0_h1 : k0_cond1 i = 1#1) (X : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 where
  inv k _ := iprop((arg15.view.loc (c : Thread nD τ) ↦[arg15.view.set]{fullShare} X)
    ∗ (∃ f, (arg14.view.loc (c : Thread nD τ) ↦[arg14.view.set]{fullShare} f)
        ∗ ⌜∀ y : S512x2048.Idx, (y 0).val < 8 * k → arg14.view.read (Elt F) f y = gath (arg15.view.read (Elt F) X) y⌝))
  step k acc := by
    have hk : k.val < 64 := Nat.lt_of_lt_of_le k.isLt k0_t1_abs.2.1
    unfold k0_t1_body
    iintro ⟨HX, ⟨%f, HF, %hf⟩⟩
    sl_exec
    sl_step
    isplitl [HX]; · iexact HX
    iexists _; isplitl [HF]; · iexact HF
    ipureintro
    refine rows_step arg14.view f _ k.val hk _ (off17_eq k) _ _ hf (fun r n => ?_)
    exact trip1 (arg15.view.read (Elt F) X) k (fun j => by rw [offs1_eq k j]; intro a; match a with | 0 => exact .inr (by show j.val + 1 * 0 < 16; omega) | 1 => exact .inr (by show k.val + 72 * 7 < 576; omega) | 2 => exact .inr (by show 0 + 1 * 127 < 128; omega))
      (fun j => fun y => arg15.view.read (Elt F) X ((⟨offs1 k j, S1x8x128.size, ![1, 72, 1], _⟩ : LoadRect S16x576x128).idx y)) (fun _ => rfl) r n

end Cert.Kernel3Ideal.Ffn

end
-- ==== Proof.FfnFill.lean ====
/- The feed-forward kernel where a row tile begins, over any float type: the tile is added up, its columns are stored in
   blocks of 128, and the gather reads them back with the rows in the order the kernel works in. -/
module

public import proofs.«01_k».proof.Proof.FfnLoops

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- the place in the column buffer of a row of the tile: stretches of 64 rows, 72 apart -/
def colsOf (x0 x1 : Vec F S512x2048 .f32) : Vec F S16x576x128 .f32 := fun y =>
  addf x0 x1 (ix2 ⟨(64 * ((y 1).val / 72) + (y 1).val % 72) % 512, Nat.mod_lt _ (by decide)⟩ ⟨(128 * (y 0).val + (y 2).val) % 2048, Nat.mod_lt _ (by decide)⟩)

/-- The sum of the two arrays' tiles, its rows in the order the kernel works in: row `p` is row `64 (p % 8) + p / 8`. -/
def perm (x0 x1 : Vec F S512x2048 .f32) : Vec F S512x2048 .f32 := fun y =>
  have h0 : (y 0).val < 512 := (y 0).isLt
  addf x0 x1 (ix2 ⟨64 * ((y 0).val % 8) + (y 0).val / 8, by omega⟩ (y 1))

/-- the rectangle of the column buffer that the `n`-th store fills: stretch `n % 8` of lane block `n / 8` -/
def tileRect (n : Fin 128) : Rect S16x576x128 :=
  Rect.unit (s := S16x576x128) ![n.val / 8, 72 * (n.val % 8), 0] S1x64x128.size (fun a => by
    match a with
    | 0 => show n.val / 8 + 1 ≤ 16; omega
    | 1 => show 72 * (n.val % 8) + 64 ≤ 576; omega
    | 2 => show 0 + 128 ≤ 128; omega)

/-- the block of the tile it is filled from -/
def srcRect (n : Fin 128) : Rect S512x2048 :=
  Rect.unit (s := S512x2048) ![64 * (n.val % 8), 128 * (n.val / 8)] S64x128.size (fun a => by
    match a with
    | 0 => show 64 * (n.val % 8) + 64 ≤ 512; omega
    | 1 => show 128 * (n.val / 8) + 128 ≤ 2048; omega)

/-- The 128 stores, the last first. -/
def pieces (x0 x1 : Vec F S512x2048 .f32) : List (View.Piece (Elt F) S16x576x128 .f32) :=
  List.ofFn fun k : Fin 128 => ⟨tileRect (Fin.rev k), k0_pay19 (View.ld x0 (srcRect (Fin.rev k))) (View.ld x1 (srcRect (Fin.rev k)))⟩

/-- Each store's block agrees with `colsOf`. -/
theorem piece_at (x0 x1 : Vec F S512x2048 .f32) (n : Fin 128) (r : Fin 64) (q : Fin 128) :
    k0_pay19 (View.ld x0 (srcRect n)) (View.ld x1 (srcRect n)) (ix3 0 r q) = colsOf x0 x1 ((tileRect n).emb (ix3 0 r q)) := by
  have e : ∀ (a b : Vec F S64x128 .f32), k0_pay19 a b (ix3 0 r q) = FloatOps.addf (a (ix2 r q)) (b (ix2 r q)) := fun a b => by pointwise [k0_pay19]
  refine (e _ _).trans ?_
  have i0 : ((srcRect n).emb (ix2 r q) : S512x2048.Idx) = ix2 ⟨64 * (n.val % 8) + r.val, by omega⟩ ⟨128 * (n.val / 8) + q.val, by omega⟩ := by
    funext a
    match a with
    | 0 => exact Fin.ext (by show 64 * (n.val % 8) + 1 * r.val = 64 * (n.val % 8) + r.val; rw [Nat.one_mul])
    | 1 => exact Fin.ext (by show 128 * (n.val / 8) + 1 * q.val = 128 * (n.val / 8) + q.val; rw [Nat.one_mul])
  have i1 : (ix2 ⟨(64 * ((72 * (n.val % 8) + 1 * r.val) / 72) + (72 * (n.val % 8) + 1 * r.val) % 72) % 512, Nat.mod_lt _ (by decide)⟩
      ⟨(128 * (n.val / 8 + 1 * 0) + (0 + 1 * q.val)) % 2048, Nat.mod_lt _ (by decide)⟩ : S512x2048.Idx)
        = ix2 ⟨64 * (n.val % 8) + r.val, by omega⟩ ⟨128 * (n.val / 8) + q.val, by omega⟩ := by
    funext a
    match a with
    | 0 => exact Fin.ext (by show (64 * ((72 * (n.val % 8) + 1 * r.val) / 72) + (72 * (n.val % 8) + 1 * r.val) % 72) % 512 = 64 * (n.val % 8) + r.val; omega)
    | 1 => exact Fin.ext (by show (128 * (n.val / 8 + 1 * 0) + (0 + 1 * q.val)) % 2048 = 128 * (n.val / 8) + q.val; omega)
  refine Eq.trans ?_ (congrArg (addf x0 x1) i1).symm
  exact congrArg (addf x0 x1) i0

/-- The gather, of the column buffer after the 128 stores, reads the tile's rows in the order the kernel works in. -/
theorem gath_pieces (v : View sig .tc .vmem S16x576x128 .f32) (f : v.ty.Contents (Elt F)) (x0 x1 : Vec F S512x2048 .f32) :
    gath (v.read (Elt F) (v.writes (Elt F) f (pieces x0 x1))) = perm x0 x1 := by
  funext y
  have h0 : (y 0).val < 512 := (y 0).isLt
  have h1 : (y 1).val < 2048 := (y 1).isLt
  have hm : ∃ p ∈ pieces x0 x1, (ix3 ⟨(y 1).val / 128, by omega⟩ ⟨(y 0).val / 8 + 72 * ((y 0).val % 8), by omega⟩ ⟨(y 1).val % 128, by omega⟩ : S16x576x128.Idx) ∈ p.1.set := by
    refine ⟨_, (List.mem_ofFn' _ _).mpr ⟨Fin.rev ⟨8 * ((y 1).val / 128) + (y 0).val % 8, by omega⟩, rfl⟩, ?_⟩
    dsimp only
    rw [Fin.rev_rev]
    unfold tileRect
    rw [Rect.mem_set_unit]
    intro a
    match a with
    | 0 => show (8 * ((y 1).val / 128) + (y 0).val % 8) / 8 ≤ (y 1).val / 128 ∧ (y 1).val / 128 < (8 * ((y 1).val / 128) + (y 0).val % 8) / 8 + 1; omega
    | 1 => show 72 * ((8 * ((y 1).val / 128) + (y 0).val % 8) % 8) ≤ (y 0).val / 8 + 72 * ((y 0).val % 8) ∧ (y 0).val / 8 + 72 * ((y 0).val % 8) < 72 * ((8 * ((y 1).val / 128) + (y 0).val % 8) % 8) + 64; omega
    | 2 => show 0 ≤ (y 1).val % 128 ∧ (y 1).val % 128 < 0 + 128; omega
  unfold gath
  dsimp only
  rw [View.read_writes_apply_eq_canon v f _ _ hm, View.canon_apply_of_pieces (colsOf x0 x1) _ (fun p hp x => ?_) _ hm]
  · refine congrArg (addf x0 x1) (funext fun a => ?_)
    match a with
    | 0 => exact Fin.ext (by
      clear hm
      have q1 : ((y 0).val / 8 + 72 * ((y 0).val % 8)) / 72 = (y 0).val % 8 := by omega
      have q2 : ((y 0).val / 8 + 72 * ((y 0).val % 8)) % 72 = (y 0).val / 8 := by omega
      show (64 * (((y 0).val / 8 + 72 * ((y 0).val % 8)) / 72) + ((y 0).val / 8 + 72 * ((y 0).val % 8)) % 72) % 512 = 64 * ((y 0).val % 8) + (y 0).val / 8
      rw [q1, q2]; omega)
    | 1 => exact Fin.ext (by show (128 * ((y 1).val / 128) + (y 1).val % 128) % 2048 = (y 1).val; omega)
  · obtain ⟨k, rfl⟩ := (List.mem_ofFn' _ _).mp hp
    obtain ⟨r, q, rfl⟩ : ∃ (r : Fin 64) (q : Fin 128), x = ix3 0 r q :=
      ⟨x 1, x 2, funext fun a => by match a with | 0 => exact Fin.ext (Nat.lt_one_iff.mp (x 0).isLt) | 1 => rfl | 2 => rfl⟩
    exact piece_at x0 x1 (Fin.rev k) r q

variable (i : grid0.Coords)
  (arg2 : Memref sig .tc .vmem S512x2048 .f32) (harg2 : arg2.IsWhole) (arg3 : Memref sig .tc .vmem S512x2048 .f32) (harg3 : arg3.IsWhole)
  (arg4 : Memref sig .tc .vmem S64x2048 .f32) (harg4 : arg4.IsWhole) (arg5 : Memref sig .tc .vmem S64x2048 .f32) (harg5 : arg5.IsWhole)
  (arg6 : Memref sig .tc .vmem S1x1x2048 .f32) (harg6 : arg6.IsWhole) (arg7 : Memref sig .tc .vmem S1x2048x512 .bf16) (harg7 : arg7.IsWhole)
  (arg8 : Memref sig .tc .vmem S1x2048x512 .bf16) (harg8 : arg8.IsWhole) (arg9 : Memref sig .tc .vmem S1x22x3x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S512x2048 .bf16) (harg13 : arg13.IsWhole)
  (arg14 : Memref sig .tc .vmem S512x2048 .f32) (harg14 : arg14.IsWhole) (arg15 : Memref sig .tc .vmem S16x576x128 .f32) (harg15 : arg15.IsWhole)
  (arg16 : Memref sig .tc .vmem S64x2048 .bf16) (harg16 : arg16.IsWhole) (arg17 : Memref sig .tc .vmem S11x64x512 .f32) (harg17 : arg17.IsWhole)
  (arg18 : Memref sig .tc .vmem S11x64x512 .f32) (harg18 : arg18.IsWhole)
  (x0 x1 : Vec F S512x2048 .f32) (x4 : Vec F S1x1x2048 .f32)

set_option maxHeartbeats 4000000 in
/-- Where a row tile begins the working rows are the tile's sum in the kernel's order; the column buffer is left filled. -/
theorem run_fill (c : Dev nD) (h1 : k0_cond1 i = 1#1) (E : Set ℕ) (K : (Σ' (v1184 : Vec F S512x2048 .f32) (v1186 : FVec F S1x2048 .f32), FVec F S512x1 .f32) → sProp 𝕄) :
    iprop(owns (c : Thread nD τ) arg2 fullShare x0 ∗ owns (c : Thread nD τ) arg3 fullShare x1 ∗ owns (c : Thread nD τ) arg6 fullShare x4
        ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg6 fullShare x4
            ∗ owns (c : Thread nD τ) arg14 fullShare (perm x0 x1) ∗ (∃ d, owns (c : Thread nD τ) arg15 fullShare d))
          -∗ K ⟨perm x0 x1, k0_pay183 (View.ld x4 (Rect.unit (s := S1x1x2048) ![0, 0, 0] S1x1x2048.size inb_S1x1x2048_S1x1x2048_0_0_0)), k0_pay184 (perm x0 x1)⟩))
      ⊢ wp frame (wpE (defs₀ (F := F)) Variants.none c none) E (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h1) K := by
  rw [k0_part36_eq_skeleton]; unfold k0_part36_skel
  unfold owns
  iintro ⟨⟨%f0, %hf0, H0⟩, ⟨%f1, %hf1, H1⟩, ⟨%f4, %hf4, H4⟩, ⟨%d14, %f14, %hf14, H14⟩, ⟨%d15, %f15, %hf15, H15⟩, Hk⟩
  subst hf0 hf1 hf4 hf14 hf15
  sl_exec_parts
  sl_step
  have hA : arg14.view.read (Elt F) fL0 = perm (arg2.view.read (Elt F) f0) (arg3.view.read (Elt F) f1) := by
    rw [← gath_pieces arg15.view f15]
    exact funext fun y => hL2 y (by rw [show Scf.trips k0_t1_loop.lb k0_t1_loop.ub k0_t1_loop.st = 64 from trips1]; exact (y 0).isLt)
  have hW : arg14.view.readAt (Elt F) (Rect.unit (s := S512x2048) ![0, 0] S512x2048.size inb_S512x2048_S512x2048_0_0).toLoadRect fL0
      = perm (arg2.view.read (Elt F) f0) (arg3.view.read (Elt F) f1) :=
    (funext fun y => congrArg (arg14.view.read (Elt F) fL0) (funext fun a => Fin.ext (by
      match a with
      | 0 => exact (Nat.zero_add _).trans (Nat.one_mul _)
      | 1 => exact (Nat.zero_add _).trans (Nat.one_mul _)))).trans hA
  have hG : arg6.view.readAt (Elt F) (Rect.unit (s := S1x1x2048) ![0, 0, 0] S1x1x2048.size inb_S1x1x2048_S1x1x2048_0_0_0).toLoadRect f4
      = View.ld (arg6.view.read (Elt F) f4) (Rect.unit (s := S1x1x2048) ![0, 0, 0] S1x1x2048.size inb_S1x1x2048_S1x1x2048_0_0_0) := rfl
  rw [hW, hG]
  iapply Hk
  isplitl [H0]
  · iexists _; isplitr; · ipureintro; rfl
    iexact H0
  isplitl [H1]
  · iexists _; isplitr; · ipureintro; rfl
    iexact H1
  isplitl [H4]
  · iexists _; isplitr; · ipureintro; rfl
    iexact H4
  isplitl [H14]
  · iexists _; isplitr; swap; · iexact H14
    ipureintro; exact hA
  iexists _; iexists _; isplitr; swap; · iexact H15
  ipureintro; rfl

end Cert.Kernel3Ideal.Ffn

end
-- ==== Proof.FfnPro.lean ====
/- The feed-forward kernel's first part at a grid point: where a row tile begins the working rows and the normalized
   rows are filled, at the very first point the normalized edge rows, and over the first row tile the edge rows'
   products with the weights. -/
module

public import proofs.«01_k».proof.Proof.FfnFill
public import Idealize.ShloMosaic.Lib.VecWindow

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- the normalized rows of a tile, in the kernel's order -/
def tileH (x0 x1 : Vec F S512x2048 .f32) (x4 : Vec F S1x1x2048 .f32) : FVec F S512x2048 .bf16 :=
  k0_pay212 (perm x0 x1) (k0_pay183 (View.ld x4 (Rect.unit (s := S1x1x2048) ![0, 0, 0] S1x1x2048.size inb_S1x1x2048_S1x1x2048_0_0_0))) (k0_pay184 (perm x0 x1))

/-- the normalized edge rows -/
def edgeH (x2 x3 : Vec F S64x2048 .f32) (x4 : Vec F S1x1x2048 .f32) : FVec F S64x2048 .bf16 :=
  k0_pay213 (View.ld x2 (Rect.unit (s := S64x2048) ![0, 0] S64x2048.size inb_S64x2048_S64x2048_0_0))
    (View.ld x3 (Rect.unit (s := S64x2048) ![0, 0] S64x2048.size inb_S64x2048_S64x2048_0_0))
    (View.ld x4 (Rect.unit (s := S1x1x2048) ![0, 0, 0] S1x1x2048.size inb_S1x1x2048_S1x1x2048_0_0_0))

/-- a block of weights, read through the rectangle of the whole block -/
abbrev wholeW (x : Vec F S1x2048x512 .bf16) : Vec F S1x2048x512 .bf16 :=
  View.ld x (Rect.unit (s := S1x2048x512) ![0, 0, 0] S1x2048x512.size inb_S1x2048x512_S1x2048x512_0_0_0)

/-- the edge rows' buffer with the rows of column block `s` replaced -/
def putEdge (g : Vec F S11x64x512 .f32) (s : ℕ) (p : Vec F S1x64x512 .f32) : Vec F S11x64x512 .f32 :=
  fun y => if (y 0).val = s then p (ix3 0 (y 1) (y 2)) else g y

theorem off18_eq (i : grid0.Coords) : k0_off18 i = ![(i 1).val, 0, 0] := by
  have h : ∀ s : Fin 11, (![BitVec.toNat (BitVec.ofNat 32 s.val), BitVec.toNat (0#32), 0] : Fin 3 → ℕ) = ![s.val, 0, 0] := by decide +kernel
  exact h (i 1)

/-- Storing one column block's rows leaves `putEdge`. -/
theorem read_edge (v : View sig .tc .vmem S11x64x512 .f32) (f : v.ty.Contents (Elt F)) (s : Fin 11) (o : Fin 3 → ℕ) (ho : o = ![s.val, 0, 0])
    (inb : ∀ a, o a + S1x64x512.size a ≤ S11x64x512.size a) (p : Vec F S1x64x512 .f32) :
    v.read (Elt F) (v.writes (Elt F) f [⟨Rect.unit (s := S11x64x512) o S1x64x512.size inb, p⟩]) = putEdge (v.read (Elt F) f) s.val p := by
  subst ho
  funext y
  unfold putEdge
  by_cases hk : (y 0).val = s.val
  · rw [if_pos hk]
    refine View.read_writes_cons_unit_of_mem v f inb p _ y (ix3 0 (y 1) (y 2)) rfl fun a => ?_
    match a with
    | 0 => exact hk
    | 1 => exact (Nat.zero_add _).symm
    | 2 => exact (Nat.zero_add _).symm
  · rw [if_neg hk, View.read_writes_cons_unit_of_not_mem v f inb p _ y rfl 0 (by
      rcases lt_trichotomy (y 0).val s.val with h | h | h
      · exact Or.inl h
      · exact absurd h hk
      · exact Or.inr h)]
    rfl

/-- the word the kernel compares with 0 and 7 to see whether a row tile begins or ends a sequence -/
def seqWord (i : grid0.Coords) : BitVec 32 :=
  let v1 : BitVec 32 := Scalar.select (Scalar.cmpi .eq 8#32 0#32) 1#32 8#32
  let v2 : BitVec 32 := Scalar.remsi (BitVec.ofNat 32 (i 0).val) v1
  let v7 : BitVec 1 := Scalar.andi (Scalar.xori (Scalar.cmpi .slt v2 0#32) (Scalar.cmpi .slt v1 0#32)) (Scalar.cmpi .ne v2 0#32)
  Scalar.select v7 (Scalar.addi v2 v1) v2

theorem cond1_iff (i : grid0.Coords) : k0_cond1 i = 1#1 ↔ (i 1).val = 0 :=
  (show ∀ s : Fin 11, Scalar.cmpi .ne (Scalar.extui (Scalar.cmpi .eq (BitVec.ofNat 32 s.val) 0#32) : BitVec 32) 0#32 = 1#1 ↔ s.val = 0
    from by decide +kernel) (i 1)
theorem cond3_iff (i : grid0.Coords) : k0_cond3 i = 1#1 ↔ (i 0).val = 0 :=
  (show ∀ s : Fin 32, Scalar.cmpi .ne (Scalar.extui (Scalar.cmpi .eq (BitVec.ofNat 32 s.val) 0#32) : BitVec 32) 0#32 = 1#1 ↔ s.val = 0
    from by decide +kernel) (i 0)
theorem cond4_iff (i : grid0.Coords) : k0_cond4 i = 1#1 ↔ (i 1).val = 10 :=
  (show ∀ s : Fin 11, Scalar.cmpi .ne (Scalar.extui (Scalar.cmpi .eq (BitVec.ofNat 32 s.val) 10#32) : BitVec 32) 0#32 = 1#1 ↔ s.val = 10
    from by decide +kernel) (i 1)

/-- the test for the very first point -/
abbrev firstWord (a b : BitVec 32) : BitVec 1 :=
  Scalar.cmpi .ne (Scalar.extui (Scalar.andi (Scalar.cmpi .eq b 0#32) (Scalar.cmpi .eq a 0#32)) : BitVec 32) 0#32
theorem firstWord_iff : ∀ (a : Fin 32) (b : Fin 11), firstWord (BitVec.ofNat 32 a.val) (BitVec.ofNat 32 b.val) = 1#1 ↔ b.val = 0 ∧ a.val = 0 := by decide +kernel

/-- The values the first part returns. -/
def ret (i : grid0.Coords) (h : Vec F S512x2048 .bf16) (x5 : Vec F S1x2048x512 .bf16) (r : Vec F S1x1x512 .f32) :
    (Σ' (arg0 : BitVec 32) (arg1 : BitVec 32) (v9 : BitVec 32) (v21 : IVec S8x1 32) (v22 : Vec F S512x2048 .bf16) (v25 : FVec F S512x512 .f32), FVec F S1x512 .f32) :=
  ⟨BitVec.ofNat 32 (i 0).val, BitVec.ofNat 32 (i 1).val, seqWord i, iota .tc S8x1 32 [0] iota_S8x1_d0_w32, h, k0_pay216 h (wholeW x5), k0_pay217 i r⟩

/-- one row of the edge rows' buffer -/
abbrev edgeRow (g : Vec F S11x64x512 .f32) (o : Fin 3 → ℕ) (inb : ∀ a, o a + S1x1x512.size a ≤ S11x64x512.size a) : Vec F S1x1x512 .f32 :=
  View.ld g (Rect.unit (s := S11x64x512) o S1x1x512.size inb)

theorem ret_congr (i : grid0.Coords) {h h' : Vec F S512x2048 .bf16} {r : Vec F S1x1x512 .f32} {g' : Vec F S11x64x512 .f32} (x5 : Vec F S1x2048x512 .bf16)
    (hh : h = h') (hr : r = edgeRow g' (k0_off19 i) (k0_off19_inb i)) :
    ret i h x5 r = ret i h' x5 (edgeRow g' (k0_off19 i) (k0_off19_inb i)) := by
  subst hh hr; rfl

variable (i : grid0.Coords)
  (arg2 : Memref sig .tc .vmem S512x2048 .f32) (harg2 : arg2.IsWhole) (arg3 : Memref sig .tc .vmem S512x2048 .f32) (harg3 : arg3.IsWhole)
  (arg4 : Memref sig .tc .vmem S64x2048 .f32) (harg4 : arg4.IsWhole) (arg5 : Memref sig .tc .vmem S64x2048 .f32) (harg5 : arg5.IsWhole)
  (arg6 : Memref sig .tc .vmem S1x1x2048 .f32) (harg6 : arg6.IsWhole) (arg7 : Memref sig .tc .vmem S1x2048x512 .bf16) (harg7 : arg7.IsWhole)
  (arg8 : Memref sig .tc .vmem S1x2048x512 .bf16) (harg8 : arg8.IsWhole) (arg9 : Memref sig .tc .vmem S1x22x3x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S512x2048 .bf16) (harg13 : arg13.IsWhole)
  (arg14 : Memref sig .tc .vmem S512x2048 .f32) (harg14 : arg14.IsWhole) (arg15 : Memref sig .tc .vmem S16x576x128 .f32) (harg15 : arg15.IsWhole)
  (arg16 : Memref sig .tc .vmem S64x2048 .bf16) (harg16 : arg16.IsWhole) (arg17 : Memref sig .tc .vmem S11x64x512 .f32) (harg17 : arg17.IsWhole)
  (arg18 : Memref sig .tc .vmem S11x64x512 .f32) (harg18 : arg18.IsWhole)
  (x0 x1 : Vec F S512x2048 .f32) (x2 x3 : Vec F S64x2048 .f32) (x4 : Vec F S1x1x2048 .f32) (x5 x6 : Vec F S1x2048x512 .bf16)

set_option maxHeartbeats 4000000 in
/-- The first part of a point's body. -/
theorem run_pro (c : Dev nD) (h : Vec F S512x2048 .bf16) (a : Vec F S512x2048 .f32) (e : Vec F S64x2048 .bf16) (g v : Vec F S11x64x512 .f32)
    (h' : Vec F S512x2048 .bf16) (a' : Vec F S512x2048 .f32) (e' : Vec F S64x2048 .bf16) (g' v' : Vec F S11x64x512 .f32)
    (hh : h' = if (i 1).val = 0 then tileH x0 x1 x4 else h) (ha : a' = if (i 1).val = 0 then perm x0 x1 else a)
    (he : e' = if (i 1).val = 0 ∧ (i 0).val = 0 then edgeH x2 x3 x4 else e)
    (hg : g' = if (i 0).val = 0 then putEdge g (i 1).val (k0_pay214 e' (wholeW x5)) else g)
    (hv : v' = if (i 0).val = 0 then putEdge v (i 1).val (k0_pay215 e' (wholeW x6)) else v)
    (E : Set ℕ) (K : (Σ' (arg0 : BitVec 32) (arg1 : BitVec 32) (v9 : BitVec 32) (v21 : IVec S8x1 32) (v22 : Vec F S512x2048 .bf16) (v25 : FVec F S512x512 .f32), FVec F S1x512 .f32) → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg13 fullShare h ∗ owns (c : Thread nD τ) arg14 fullShare a ∗ (∃ d, owns (c : Thread nD τ) arg15 fullShare d) ∗ owns (c : Thread nD τ) arg16 fullShare e ∗ owns (c : Thread nD τ) arg17 fullShare g ∗ owns (c : Thread nD τ) arg18 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg13 fullShare h' ∗ owns (c : Thread nD τ) arg14 fullShare a' ∗ (∃ d, owns (c : Thread nD τ) arg15 fullShare d) ∗ owns (c : Thread nD τ) arg16 fullShare e' ∗ owns (c : Thread nD τ) arg17 fullShare g' ∗ owns (c : Thread nD τ) arg18 fullShare v')
          -∗ K (ret i h' x5 (edgeRow g' (k0_off19 i) (k0_off19_inb i)))))
      ⊢ wp frame (wpE (defs₀ (F := F)) Variants.none c none) E (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [k0_part41_eq_skeleton]; unfold k0_part41_skel
  have key : ∀ r, r = ret i h' x5 (edgeRow g' (k0_off19 i) (k0_off19_inb i)) → (K (ret i h' x5 (edgeRow g' (k0_off19 i) (k0_off19_inb i))) ⊢ K r) := by rintro r rfl; exact .rfl
  by_cases c1 : (i 1).val = 0
  · have k1 : k0_cond1 i = 1#1 := (cond1_iff i).mpr c1
    rw [if_pos c1] at hh ha
    rw [dif_pos k1]
    rw [wp_bind]
    iintro ⟨H2, H3, H4, H5, H6, H7, H8, H13, H14, H15, H16, H17, H18, Hk⟩
    iapply (run_fill i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x4 c k1 E _)
    isplitl [H2]; · iexact H2
    isplitl [H3]; · iexact H3
    isplitl [H6]; · iexact H6
    isplitl [H14]; · iexists _; iexact H14
    isplitl [H15]; · iexact H15
    iintro ⟨H2, H3, H6, H14, H15⟩
    unfold owns
    icases H2 with ⟨%f2, %hf2, H2⟩; icases H3 with ⟨%f3, %hf3, H3⟩; icases H4 with ⟨%f4, %hf4, H4⟩; icases H5 with ⟨%f5, %hf5, H5⟩
    icases H6 with ⟨%f6, %hf6, H6⟩; icases H7 with ⟨%f7, %hf7, H7⟩; icases H8 with ⟨%f8, %hf8, H8⟩; icases H13 with ⟨%f13, %hf13, H13⟩
    icases H14 with ⟨%f14, %hf14, H14⟩; icases H16 with ⟨%f16, %hf16, H16⟩; icases H17 with ⟨%f17, %hf17, H17⟩; icases H18 with ⟨%f18, %hf18, H18⟩
    subst hf4 hf5 hf6 hf7 hf8 hf13 hf16 hf17 hf18
    by_cases c3 : (i 0).val = 0
    · have k3 : k0_cond3 i = 1#1 := (cond3_iff i).mpr c3
      have k2 : firstWord (BitVec.ofNat 32 (i 0).val) (BitVec.ofNat 32 (i 1).val) = 1#1 := (firstWord_iff (i 0) (i 1)).mpr ⟨c1, c3⟩
      rw [if_pos ⟨c1, c3⟩] at he
      rw [if_pos c3] at hg hv
      sl_exec (disch := first | sl_exact k1 | sl_exact k2 | sl_exact k3)
      sl_step
      have e16 : arg16.view.readCov (run_pro.sl.H16_1 arg4 arg5 arg6 c f4 f5 f6) (Rect.unit (s := S64x2048) ![0, 0] S64x2048.size inb_S64x2048_S64x2048_0_0).toLoadRect = e' :=
        Eq.trans (View.readCov_full arg16.view inb_S64x2048_S64x2048_0_0 inb_S64x2048_S64x2048_0_0 _ []) he.symm
      have w17 := (read_edge arg17.view f17 (i 1) _ (off18_eq i) (k0_off18_inb i k3) (k0_pay214 (arg16.view.readCov (run_pro.sl.H16_1 arg4 arg5 arg6 c f4 f5 f6) (Rect.unit (s := S64x2048) ![0, 0] S64x2048.size inb_S64x2048_S64x2048_0_0).toLoadRect) (wholeW (arg7.view.read (Elt F) f7)))).trans
        ((congrArg (fun u => putEdge (arg17.view.read (Elt F) f17) (i 1).val (k0_pay214 u (wholeW (arg7.view.read (Elt F) f7)))) e16).trans hg.symm)
      have w18 := (read_edge arg18.view f18 (i 1) _ (off18_eq i) (k0_off18_inb i k3) (k0_pay215 (arg16.view.readCov (run_pro.sl.H16_1 arg4 arg5 arg6 c f4 f5 f6) (Rect.unit (s := S64x2048) ![0, 0] S64x2048.size inb_S64x2048_S64x2048_0_0).toLoadRect) (wholeW (arg8.view.read (Elt F) f8)))).trans
        ((congrArg (fun u => putEdge (arg18.view.read (Elt F) f18) (i 1).val (k0_pay215 u (wholeW (arg8.view.read (Elt F) f8)))) e16).trans hv.symm)
      iapply (key _ ?_)
      exact (ret_congr i (g' := g') (arg7.view.read (Elt F) f7) ((View.readCov_full arg13.view inb_S512x2048_S512x2048_0_0 inb_S512x2048_S512x2048_0_0 _ []).trans hh.symm)
        (congrArg (fun u => View.ld u (Rect.unit (s := S11x64x512) (k0_off19 i) S1x1x512.size (k0_off19_inb i))) w17))
      iapply Hk
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      isplitl [H8]
      · iexists _; isplitr; swap; · iexact H8
        ipureintro; exact rfl
      isplitl [H13]
      · iexists _; isplitr; swap; · iexact H13
        ipureintro; exact (View.read_writes_full arg13.view f13 inb_S512x2048_S512x2048_0_0 _ []).trans hh.symm
      isplitl [H14]
      · iexists _; isplitr; swap; · iexact H14
        ipureintro; exact hf14.trans ha.symm
      isplitl [H15]; · iexact H15
      isplitl [H16]
      · iexists _; isplitr; swap; · iexact H16
        ipureintro; exact (View.read_writes_full arg16.view f16 inb_S64x2048_S64x2048_0_0 _ []).trans he.symm
      isplitl [H17]
      · iexists _; isplitr; swap; · iexact H17
        ipureintro; exact w17
      iexists _; isplitr; swap; · iexact H18
      ipureintro; exact w18
    · have k3 : ¬ k0_cond3 i = 1#1 := fun h => c3 ((cond3_iff i).mp h)
      have k2 : ¬ firstWord (BitVec.ofNat 32 (i 0).val) (BitVec.ofNat 32 (i 1).val) = 1#1 := fun h => c3 ((firstWord_iff (i 0) (i 1)).mp h).2
      rw [if_neg (fun h => c3 h.2)] at he
      rw [if_neg c3] at hg hv
      sl_exec (disch := first | sl_exact k1 | sl_exact k2 | sl_exact k3)
      sl_step
      iapply (key _ ?_)
      exact (ret_congr i (g' := g') (arg7.view.read (Elt F) f7) ((View.readCov_full arg13.view inb_S512x2048_S512x2048_0_0 inb_S512x2048_S512x2048_0_0 _ []).trans hh.symm)
        (congrArg (fun u => View.ld u (Rect.unit (s := S11x64x512) (k0_off19 i) S1x1x512.size (k0_off19_inb i))) hg.symm))
      iapply Hk
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      isplitl [H8]
      · iexists _; isplitr; swap; · iexact H8
        ipureintro; exact rfl
      isplitl [H13]
      · iexists _; isplitr; swap; · iexact H13
        ipureintro; exact (View.read_writes_full arg13.view f13 inb_S512x2048_S512x2048_0_0 _ []).trans hh.symm
      isplitl [H14]
      · iexists _; isplitr; swap; · iexact H14
        ipureintro; exact hf14.trans ha.symm
      isplitl [H15]; · iexact H15
      isplitl [H16]
      · iexists _; isplitr; swap; · iexact H16
        ipureintro; exact he.symm
      isplitl [H17]
      · iexists _; isplitr; swap; · iexact H17
        ipureintro; exact hg.symm
      iexists _; isplitr; swap; · iexact H18
      ipureintro; exact hv.symm
  · have k1 : ¬ k0_cond1 i = 1#1 := fun h => c1 ((cond1_iff i).mp h)
    rw [if_neg c1] at hh ha
    have c2 : ¬ ((i 1).val = 0 ∧ (i 0).val = 0) := fun h => c1 h.1
    rw [if_neg c2] at he
    have k2 : ¬ firstWord (BitVec.ofNat 32 (i 0).val) (BitVec.ofNat 32 (i 1).val) = 1#1 := fun h => c2 ((firstWord_iff (i 0) (i 1)).mp h)
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f13, %hf13, H13⟩, ⟨%f14, %hf14, H14⟩, H15, ⟨%f16, %hf16, H16⟩, ⟨%f17, %hf17, H17⟩, ⟨%f18, %hf18, H18⟩, Hk⟩
    subst hf4 hf5 hf6 hf7 hf8 hf13 hf16 hf17 hf18
    by_cases c3 : (i 0).val = 0
    · have k3 : k0_cond3 i = 1#1 := (cond3_iff i).mpr c3
      rw [if_pos c3] at hg hv
      sl_exec (disch := first | sl_exact k1 | sl_exact k2 | sl_exact k3)
      sl_step
      have e16 := (View.readAt_full arg16.view f16 inb_S64x2048_S64x2048_0_0).trans he.symm
      have w17 := (read_edge arg17.view f17 (i 1) _ (off18_eq i) (k0_off18_inb i k3) (k0_pay214 (arg16.view.readAt (Elt F) (Rect.unit (s := S64x2048) ![0, 0] S64x2048.size inb_S64x2048_S64x2048_0_0).toLoadRect f16) (wholeW (arg7.view.read (Elt F) f7)))).trans
        ((congrArg (fun u => putEdge (arg17.view.read (Elt F) f17) (i 1).val (k0_pay214 u (wholeW (arg7.view.read (Elt F) f7)))) e16).trans hg.symm)
      have w18 := (read_edge arg18.view f18 (i 1) _ (off18_eq i) (k0_off18_inb i k3) (k0_pay215 (arg16.view.readAt (Elt F) (Rect.unit (s := S64x2048) ![0, 0] S64x2048.size inb_S64x2048_S64x2048_0_0).toLoadRect f16) (wholeW (arg8.view.read (Elt F) f8)))).trans
        ((congrArg (fun u => putEdge (arg18.view.read (Elt F) f18) (i 1).val (k0_pay215 u (wholeW (arg8.view.read (Elt F) f8)))) e16).trans hv.symm)
      iapply (key _ ?_)
      exact (ret_congr i (g' := g') (arg7.view.read (Elt F) f7) ((View.readAt_full arg13.view f13 inb_S512x2048_S512x2048_0_0).trans hh.symm)
        (congrArg (fun u => View.ld u (Rect.unit (s := S11x64x512) (k0_off19 i) S1x1x512.size (k0_off19_inb i))) w17))
      iapply Hk
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      isplitl [H8]
      · iexists _; isplitr; swap; · iexact H8
        ipureintro; exact rfl
      isplitl [H13]
      · iexists _; isplitr; swap; · iexact H13
        ipureintro; exact hh.symm
      isplitl [H14]
      · iexists _; isplitr; swap; · iexact H14
        ipureintro; exact hf14.trans ha.symm
      isplitl [H15]; · iexact H15
      isplitl [H16]
      · iexists _; isplitr; swap; · iexact H16
        ipureintro; exact he.symm
      isplitl [H17]
      · iexists _; isplitr; swap; · iexact H17
        ipureintro; exact w17
      iexists _; isplitr; swap; · iexact H18
      ipureintro; exact w18
    · have k3 : ¬ k0_cond3 i = 1#1 := fun h => c3 ((cond3_iff i).mp h)
      rw [if_neg c3] at hg hv
      sl_exec (disch := first | sl_exact k1 | sl_exact k2 | sl_exact k3)
      sl_step
      iapply (key _ ?_)
      exact (ret_congr i (g' := g') (arg7.view.read (Elt F) f7) ((View.readAt_full arg13.view f13 inb_S512x2048_S512x2048_0_0).trans hh.symm)
        (congrArg (fun u => View.ld u (Rect.unit (s := S11x64x512) (k0_off19 i) S1x1x512.size (k0_off19_inb i))) hg.symm))
      iapply Hk
      isplitl [H2]
      · iexists _; isplitr; swap; · iexact H2
        ipureintro; exact hf2
      isplitl [H3]
      · iexists _; isplitr; swap; · iexact H3
        ipureintro; exact hf3
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      isplitl [H8]
      · iexists _; isplitr; swap; · iexact H8
        ipureintro; exact rfl
      isplitl [H13]
      · iexists _; isplitr; swap; · iexact H13
        ipureintro; exact hh.symm
      isplitl [H14]
      · iexists _; isplitr; swap; · iexact H14
        ipureintro; exact hf14.trans ha.symm
      isplitl [H15]; · iexact H15
      isplitl [H16]
      · iexists _; isplitr; swap; · iexact H16
        ipureintro; exact he.symm
      isplitl [H17]
      · iexists _; isplitr; swap; · iexact H17
        ipureintro; exact hg.symm
      iexists _; isplitr; swap; · iexact H18
      ipureintro; exact hv.symm

end Cert.Kernel3Ideal.Ffn

end
-- ==== Proof.FfnBack.lean ====
/- The feed-forward kernel's last loop, over any float type: each trip normalizes eight rows, read out of the column
   buffer in the result's own order, and stores them. -/
module

public import proofs.«01_k».proof.Proof.FfnLoops

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows of trip `m`: eight rows of the result, read out of the order the kernel works in. -/
def backRows (x : Vec F S16x576x128 .f32) (m : Fin 64) : FVec F S8x2048 .f32 := fun z =>
  have h0 : (z 0).val < 8 := (z 0).isLt
  have h1 : (z 1).val < 2048 := (z 1).isLt
  x (ix3 ⟨(z 1).val / 128, by omega⟩ ⟨64 * (m.val % 8) + m.val / 8 + 8 * (z 0).val, by omega⟩ ⟨(z 1).val % 128, by omega⟩)

/-- What the loop leaves in the result's block: row `8 m + r` is the `r`-th of trip `m`'s normalized rows. -/
def backNorm (x : Vec F S16x576x128 .f32) (g : Vec F S1x2048 .f32) : Vec F S512x2048 .f32 := fun y =>
  have h0 : (y 0).val < 512 := (y 0).isLt
  k0_pay7 (backRows x ⟨(y 0).val / 8, by omega⟩) (View.ld g (Rect.unit (s := S1x2048) ![0, 0] S1x2048.size inb_S1x2048_S1x2048_0_0))
    (ix2 ⟨(y 0).val % 8, by omega⟩ (y 1))

/-- the offsets of the sixteen loads of a trip -/
def offs2 (k : Fin k0_t2_loop.trips) : Fin 16 → Fin 3 → ℕ :=
  ![k0_off23 k, k0_off24 k, k0_off25 k, k0_off26 k, k0_off27 k, k0_off28 k, k0_off29 k, k0_off30 k,
    k0_off31 k, k0_off32 k, k0_off33 k, k0_off34 k, k0_off35 k, k0_off36 k, k0_off37 k, k0_off38 k]

theorem offs2_eq : ∀ (k : Fin k0_t2_loop.trips) (j : Fin 16), offs2 k j = ![j.val, 64 * (k.val % 8) + k.val / 8, 0] := by decide +kernel

theorem off39_eq : ∀ k : Fin k0_t2_loop.trips, k0_off39 k = ![8 * k.val, 0] := by decide +kernel

theorem trips2 : k0_t2_loop.trips = 64 := by decide +kernel

/-- The sixteen loads of a trip, side by side, are its rows. -/
theorem trip2 (x : Vec F S16x576x128 .f32) (k : Fin k0_t2_loop.trips) (hk : k.val < 64)
    (inb : ∀ (j : Fin 16) a, S1x8x128.size a = 0 ∨ offs2 k j a + (![1, 8, 1] : Fin 3 → ℕ) a * (S1x8x128.size a - 1) < S16x576x128.size a)
    (v : Fin 16 → Vec F S1x8x128 .f32) (hv : ∀ j, v j = fun y => x ((⟨offs2 k j, S1x8x128.size, ![1, 8, 1], inb j⟩ : LoadRect S16x576x128).idx y)) :
    k0_pay6 (k0_pay185 (v 0)) (k0_pay186 (v 1)) (k0_pay187 (v 2)) (k0_pay188 (v 3)) (k0_pay189 (v 4)) (k0_pay190 (v 5)) (k0_pay191 (v 6)) (k0_pay192 (v 7))
        (k0_pay193 (v 8)) (k0_pay194 (v 9)) (k0_pay195 (v 10)) (k0_pay196 (v 11)) (k0_pay197 (v 12)) (k0_pay198 (v 13)) (k0_pay199 (v 14)) (v 15)
      = backRows x ⟨k.val, hk⟩ := by
  funext y
  obtain ⟨r, n, rfl⟩ : ∃ (r : Fin 8) (n : Fin 2048), y = ix2 r n := ⟨y 0, y 1, funext fun a => by match a with | 0 => rfl | 1 => rfl⟩
  refine (lanes (fun j => shapeCast S8x128 (v j) shapeCasts_S1x8x128_S8x128)
    (fun r n => backRows x ⟨k.val, hk⟩ (ix2 r n)) concatenates_S8x128_S8x128_S8x128_S8x128_S8x128_S8x128_S8x128_S8x128_S8x128_S8x128_S8x128_S8x128_S8x128_S8x128_S8x128_S8x128_S8x2048_d1 (fun j r q => ?_) r n)
  rw [hv j, read_rows x j (64 * (k.val % 8) + k.val / 8) 8 _ (offs2_eq k j) (inb j) (by omega) r q]
  refine congrArg x ?_
  have a1 : (128 * j.val + q.val) / 128 = j.val := by omega
  have a2 : (128 * j.val + q.val) % 128 = q.val := by omega
  funext a
  match a with
  | 0 => exact Fin.ext a1.symm
  | 1 => rfl
  | 2 => exact Fin.ext a2.symm

/-- Row `8 k + r` of the result is the `r`-th row of trip `k`. -/
theorem backNorm_at (x : Vec F S16x576x128 .f32) (g : Vec F S1x2048 .f32) (k : Fin 64) (r : Fin 8) (n : Fin 2048) :
    backNorm x g (ix2 ⟨8 * k.val + r.val, by omega⟩ n)
      = k0_pay7 (backRows x k) (View.ld g (Rect.unit (s := S1x2048) ![0, 0] S1x2048.size inb_S1x2048_S1x2048_0_0)) (ix2 r n) := by
  have a3 : (⟨(8 * k.val + r.val) / 8, by omega⟩ : Fin 64) = k := Fin.ext (by show (8 * k.val + r.val) / 8 = k.val; omega)
  have a4 : (⟨(8 * k.val + r.val) % 8, by omega⟩ : Fin 8) = r := Fin.ext (by show (8 * k.val + r.val) % 8 = r.val; omega)
  show k0_pay7 (backRows x ⟨(8 * k.val + r.val) / 8, _⟩) _ (ix2 ⟨(8 * k.val + r.val) % 8, _⟩ n) = _
  rw [a3, a4]

set_option warn.classDefReducibility false in
/-- THE LAST LOOP: before trip `k` the first `8 k` rows of the result's block are the normalized rows. -/
@[sl_loop] def backLoop (𝒱 : Variants) (c : Dev nD) (bd : Option 𝒱.V) (E : Set ℕ) (i : grid0.Coords)
  (arg2 : Memref sig .tc .vmem S512x2048 .f32) (harg2 : arg2.IsWhole) (arg3 : Memref sig .tc .vmem S512x2048 .f32) (harg3 : arg3.IsWhole)
  (arg4 : Memref sig .tc .vmem S64x2048 .f32) (harg4 : arg4.IsWhole) (arg5 : Memref sig .tc .vmem S64x2048 .f32) (harg5 : arg5.IsWhole)
  (arg6 : Memref sig .tc .vmem S1x1x2048 .f32) (harg6 : arg6.IsWhole) (arg7 : Memref sig .tc .vmem S1x2048x512 .bf16) (harg7 : arg7.IsWhole)
  (arg8 : Memref sig .tc .vmem S1x2048x512 .bf16) (harg8 : arg8.IsWhole) (arg9 : Memref sig .tc .vmem S1x22x3x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S512x2048 .bf16) (harg13 : arg13.IsWhole)
  (arg14 : Memref sig .tc .vmem S512x2048 .f32) (harg14 : arg14.IsWhole) (arg15 : Memref sig .tc .vmem S16x576x128 .f32) (harg15 : arg15.IsWhole)
  (arg16 : Memref sig .tc .vmem S64x2048 .bf16) (harg16 : arg16.IsWhole) (arg17 : Memref sig .tc .vmem S11x64x512 .f32) (harg17 : arg17.IsWhole)
  (arg18 : Memref sig .tc .vmem S11x64x512 .f32) (harg18 : arg18.IsWhole)
  (k0_h4 : k0_cond4 i = 1#1) (G : BufTy.Contents (Elt F) arg11.view.ty) (X : BufTy.Contents (Elt F) arg15.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h4 where
  inv k _ := iprop((arg11.view.loc (c : Thread nD τ) ↦[arg11.view.set]{fullShare} G) ∗ (arg15.view.loc (c : Thread nD τ) ↦[arg15.view.set]{fullShare} X)
    ∗ (∃ f, (arg12.view.loc (c : Thread nD τ) ↦[arg12.view.set]{fullShare} f)
        ∗ ⌜∀ y : S512x2048.Idx, (y 0).val < 8 * k
            → arg12.view.read (Elt F) f y = backNorm (arg15.view.read (Elt F) X) (arg11.view.read (Elt F) G) y⌝))
  step k acc := by
    have hk : k.val < 64 := Nat.lt_of_lt_of_le k.isLt k0_t2_abs.2.1
    unfold k0_t2_body
    iintro ⟨HG, HX, ⟨%f, HF, %hf⟩⟩
    sl_exec
    sl_step
    isplitl [HG]; · iexact HG
    isplitl [HX]; · iexact HX
    iexists _; isplitl [HF]; · iexact HF
    ipureintro
    refine rows_step arg12.view f _ k.val hk _ (off39_eq k) _ _ hf (fun r n => ?_)
    refine Eq.trans ?_ (backNorm_at (arg15.view.read (Elt F) X) (arg11.view.read (Elt F) G) ⟨k.val, hk⟩ r n).symm
    exact congrArg (fun u => k0_pay7 u (View.ld (arg11.view.read (Elt F) G) (Rect.unit (s := S1x2048) ![0, 0] S1x2048.size inb_S1x2048_S1x2048_0_0)) (ix2 r n))
      (trip2 (arg15.view.read (Elt F) X) k hk (fun j => by rw [offs2_eq k j]; intro a; match a with | 0 => exact .inr (by show j.val + 1 * 0 < 16; omega) | 1 => exact .inr (by show 64 * (k.val % 8) + k.val / 8 + 8 * 7 < 576; omega) | 2 => exact .inr (by show 0 + 1 * 127 < 128; omega))
        (fun j => fun y => arg15.view.read (Elt F) X ((⟨offs2 k j, S1x8x128.size, ![1, 8, 1], _⟩ : LoadRect S16x576x128).idx y)) (fun _ => rfl))

end Cert.Kernel3Ideal.Ffn

end
-- ==== Proof.FfnTail.lean ====
/- The feed-forward kernel's later parts at a grid point: the two branches' width-3 convolutions along the rows, the
   gate, the product with the down weights and the sum into the working rows; at a row tile's last point the rows put
   back in order and normalized into the result's block. -/
module

public import proofs.«01_k».proof.Proof.FfnPro
public import proofs.«01_k».proof.Proof.FfnBack
public import Idealize.ShloMosaic.Lib.ValueLayout

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- row `k` of the convolution weights at an offset into them -/
def convRow (x7 : Vec F S1x22x3x512 .f32) (o : Fin 4 → ℕ) (inb : ∀ a, o a + S1x1x3x512.size a ≤ S1x22x3x512.size a) (k : Fin 3) : Vec F S1x512 .f32 :=
  fun y => x7 ((Rect.unit (s := S1x22x3x512) o S1x1x3x512.size inb).emb (ix4 0 0 k (y 1)))

/-- the row numbers within the eight rows of a group -/
abbrev rowIds : IVec S8x1 32 := iota .tc S8x1 32 [0] iota_S8x1_d0_w32

/-- A row of the convolution weights, read through the slice a point takes of them. -/
theorem conv_read (M : Memref sig .tc .vmem S1x22x3x512 .f32) (f : M.view.ty.Contents (Elt F)) (o : Fin 4 → ℕ)
    (inb : ∀ a, o a + S1x1x3x512.size a ≤ S1x22x3x512.size a) (k : Fin 3) (ik : ∀ a, (![k.val, 0] : Fin 2 → ℕ) a + S1x512.size a ≤ S3x512.size a) :
    ((M.slice (Rect.unit (s := S1x22x3x512) o S1x1x3x512.size inb) (fun _ => rfl)).squeeze S3x512 squeezes_S1x1x3x512_S3x512).view.readAt (Elt F)
      (Rect.unit (s := S3x512) ![k.val, 0] S1x512.size ik).toLoadRect f = convRow (M.view.read (Elt F) f) o inb k := by
  funext y
  refine congrArg (M.view.read (Elt F) f) (congrArg (Rect.unit (s := S1x22x3x512) o S1x1x3x512.size inb).emb ?_)
  have hy : ((Rect.unit (s := S3x512) ![k.val, 0] S1x512.size ik).emb y : S3x512.Idx) = ix2 k (y 1) := funext fun a => Fin.ext (by
    match a with
    | 0 => show k.val + 1 * (y 0).val = k.val; have : (y 0).val < 1 := (y 0).isLt; omega
    | 1 => show 0 + 1 * (y 1).val = (y 1).val; omega)
  exact (congrArg (Shape.reshapeEquiv _) hy).trans (Idealize.ShloMosaic.ValueIdx.reshapeEquiv_ix2_11ab _ k (y 1))

/-- The step, from the rows of convolution weights it reads. -/
def stepWith (i : grid0.Coords) (h : Vec F S512x2048 .bf16) (a : Vec F S512x2048 .f32) (g v : Vec F S11x64x512 .f32)
    (x5 x6 : Vec F S1x2048x512 .bf16) (w : Fin 6 → Vec F S1x512 .f32) (x8 : Vec F S1x512x2048 .bf16) : FVec F S512x2048 .f32 :=
  k0_pay1 (k0_pay227
    (k0_pay221 (k0_pay218 (seqWord i) rowIds (k0_pay216 h (wholeW x5)) (edgeRow g (k0_off20 i) (k0_off20_inb i)))
      (k0_pay219 rowIds (k0_pay216 h (wholeW x5)) (k0_pay217 i (edgeRow g (k0_off19 i) (k0_off19_inb i))) (w 0))
      (k0_pay220 (k0_pay216 h (wholeW x5)) (w 1)) (w 2))
    (k0_pay222 h (wholeW x6)) (k0_pay223 (seqWord i) (edgeRow v (k0_off20 i) (k0_off20_inb i)))
    (k0_pay224 (seqWord i) rowIds h (wholeW x6) (edgeRow v (k0_off19 i) (k0_off19_inb i))) (k0_pay225 rowIds) (k0_pay226 h (wholeW x6)) 7#32
    (w 3) (w 4) (w 5) a
    (View.ld x8 (Rect.unit (s := S1x512x2048) ![0, 0, 0] S1x512x2048.size inb_S1x512x2048_S1x512x2048_0_0_0)))

/-- the six rows of convolution weights a point reads -/
def convRows (i : grid0.Coords) (x7 : Vec F S1x22x3x512 .f32) : Fin 6 → Vec F S1x512 .f32 :=
  ![convRow x7 (k0_off21 i) (k0_off21_inb i) 0, convRow x7 (k0_off21 i) (k0_off21_inb i) 1, convRow x7 (k0_off21 i) (k0_off21_inb i) 2,
    convRow x7 (k0_off22 i) (k0_off22_inb i) 0, convRow x7 (k0_off22 i) (k0_off22_inb i) 1, convRow x7 (k0_off22 i) (k0_off22_inb i) 2]

/-- What a point leaves in the working rows. -/
def stepRows (i : grid0.Coords) (h : Vec F S512x2048 .bf16) (a : Vec F S512x2048 .f32) (g v : Vec F S11x64x512 .f32)
    (x5 x6 : Vec F S1x2048x512 .bf16) (x7 : Vec F S1x22x3x512 .f32) (x8 : Vec F S1x512x2048 .bf16) : FVec F S512x2048 .f32 :=
  stepWith i h a g v x5 x6 (convRows i x7) x8

theorem step_congr (i : grid0.Coords) (h : Vec F S512x2048 .bf16) {a a' : Vec F S512x2048 .f32} (g v : Vec F S11x64x512 .f32)
    (x5 x6 : Vec F S1x2048x512 .bf16) {w0 w1 w2 w3 w4 w5 : Vec F S1x512 .f32} (x7 : Vec F S1x22x3x512 .f32) (x8 : Vec F S1x512x2048 .bf16) (ha : a = a')
    (h0 : w0 = convRow x7 (k0_off21 i) (k0_off21_inb i) 0) (h1 : w1 = convRow x7 (k0_off21 i) (k0_off21_inb i) 1) (h2 : w2 = convRow x7 (k0_off21 i) (k0_off21_inb i) 2)
    (h3 : w3 = convRow x7 (k0_off22 i) (k0_off22_inb i) 0) (h4 : w4 = convRow x7 (k0_off22 i) (k0_off22_inb i) 1) (h5 : w5 = convRow x7 (k0_off22 i) (k0_off22_inb i) 2) :
    stepWith i h a g v x5 x6 ![w0, w1, w2, w3, w4, w5] x8 = stepRows i h a' g v x5 x6 x7 x8 := by
  subst ha h0 h1 h2 h3 h4 h5; rfl

variable (i : grid0.Coords)
  (arg2 : Memref sig .tc .vmem S512x2048 .f32) (harg2 : arg2.IsWhole) (arg3 : Memref sig .tc .vmem S512x2048 .f32) (harg3 : arg3.IsWhole)
  (arg4 : Memref sig .tc .vmem S64x2048 .f32) (harg4 : arg4.IsWhole) (arg5 : Memref sig .tc .vmem S64x2048 .f32) (harg5 : arg5.IsWhole)
  (arg6 : Memref sig .tc .vmem S1x1x2048 .f32) (harg6 : arg6.IsWhole) (arg7 : Memref sig .tc .vmem S1x2048x512 .bf16) (harg7 : arg7.IsWhole)
  (arg8 : Memref sig .tc .vmem S1x2048x512 .bf16) (harg8 : arg8.IsWhole) (arg9 : Memref sig .tc .vmem S1x22x3x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S512x2048 .bf16) (harg13 : arg13.IsWhole)
  (arg14 : Memref sig .tc .vmem S512x2048 .f32) (harg14 : arg14.IsWhole) (arg15 : Memref sig .tc .vmem S16x576x128 .f32) (harg15 : arg15.IsWhole)
  (arg16 : Memref sig .tc .vmem S64x2048 .bf16) (harg16 : arg16.IsWhole) (arg17 : Memref sig .tc .vmem S11x64x512 .f32) (harg17 : arg17.IsWhole)
  (arg18 : Memref sig .tc .vmem S11x64x512 .f32) (harg18 : arg18.IsWhole)
  (x0 x1 : Vec F S512x2048 .f32) (x2 x3 : Vec F S64x2048 .f32) (x4 : Vec F S1x1x2048 .f32) (x5 x6 : Vec F S1x2048x512 .bf16)
  (x7 : Vec F S1x22x3x512 .f32) (x8 : Vec F S1x512x2048 .bf16)

set_option maxHeartbeats 4000000 in
/-- A point that is not a row tile's last: its first part, then the step. -/
theorem run_mid (c : Dev nD) (h : Vec F S512x2048 .bf16) (a : Vec F S512x2048 .f32) (e : Vec F S64x2048 .bf16) (g v : Vec F S11x64x512 .f32)
    (h' : Vec F S512x2048 .bf16) (a' : Vec F S512x2048 .f32) (e' : Vec F S64x2048 .bf16) (g' v' : Vec F S11x64x512 .f32)
    (hh : h' = if (i 1).val = 0 then tileH x0 x1 x4 else h) (ha : a' = if (i 1).val = 0 then perm x0 x1 else a)
    (he : e' = if (i 1).val = 0 ∧ (i 0).val = 0 then edgeH x2 x3 x4 else e)
    (hg : g' = if (i 0).val = 0 then putEdge g (i 1).val (k0_pay214 e' (wholeW x5)) else g)
    (hv : v' = if (i 0).val = 0 then putEdge v (i 1).val (k0_pay215 e' (wholeW x6)) else v)
    (h4 : (i 1).val ≠ 10) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg13 fullShare h ∗ owns (c : Thread nD τ) arg14 fullShare a ∗ (∃ d, owns (c : Thread nD τ) arg15 fullShare d) ∗ owns (c : Thread nD τ) arg16 fullShare e ∗ owns (c : Thread nD τ) arg17 fullShare g ∗ owns (c : Thread nD τ) arg18 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg13 fullShare h' ∗ owns (c : Thread nD τ) arg14 fullShare (stepRows i h' a' g' v' x5 x6 x7 x8) ∗ (∃ d, owns (c : Thread nD τ) arg15 fullShare d) ∗ owns (c : Thread nD τ) arg16 fullShare e' ∗ owns (c : Thread nD τ) arg17 fullShare g' ∗ owns (c : Thread nD τ) arg18 fullShare v')
          -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have k4 : ¬ k0_cond4 i = 1#1 := fun h => h4 ((cond4_iff i).mp h)
  rw [cc0_ffn_eq_skeleton]; unfold cc0_ffn_skel
  rw [wp_bind]
  iintro ⟨H2, H3, H4, H5, H6, H7, H8, H9, H10, H13, H14, H15, H16, H17, H18, Hk⟩
  iapply (run_pro i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 c h a e g v h' a' e' g' v' hh ha he hg hv E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, H13, H14, H15, H16, H17, H18⟩
  simp only [k0_part42_eq_skeleton, k0_part43_eq_skeleton, k0_part44_eq_skeleton]
  unfold owns
  icases H7 with ⟨%f7, %hf7, H7⟩; icases H8 with ⟨%f8, %hf8, H8⟩; icases H9 with ⟨%f9, %hf9, H9⟩; icases H10 with ⟨%f10, %hf10, H10⟩
  icases H13 with ⟨%f13, %hf13, H13⟩; icases H14 with ⟨%f14, %hf14, H14⟩; icases H17 with ⟨%f17, %hf17, H17⟩; icases H18 with ⟨%f18, %hf18, H18⟩
  subst hf7 hf8 hf9 hf10 hf13 hf14 hf17 hf18
  sl_exec (disch := sl_exact k4)
  sl_step
  iapply Hk
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H13]
  · iexists _; isplitr; swap; · iexact H13
    ipureintro; exact rfl
  isplitl [H14]
  · iexists _; isplitr; swap; · iexact H14
    ipureintro
    refine (View.read_writes_full arg14.view f14 inb_S512x2048_S512x2048_0_0 _ []).trans ?_
    exact step_congr i (arg13.view.read (Elt F) f13) (arg17.view.read (Elt F) f17) (arg18.view.read (Elt F) f18) (arg7.view.read (Elt F) f7) (arg8.view.read (Elt F) f8) (arg9.view.read (Elt F) f9) (arg10.view.read (Elt F) f10)
      (View.readAt_full arg14.view f14 inb_S512x2048_S512x2048_0_0)
      (conv_read arg9 f9 (k0_off21 i) (k0_off21_inb i) 0 inb_S3x512_S1x512_0_0) (conv_read arg9 f9 (k0_off21 i) (k0_off21_inb i) 1 inb_S3x512_S1x512_1_0)
      (conv_read arg9 f9 (k0_off21 i) (k0_off21_inb i) 2 inb_S3x512_S1x512_2_0) (conv_read arg9 f9 (k0_off22 i) (k0_off22_inb i) 0 inb_S3x512_S1x512_0_0)
      (conv_read arg9 f9 (k0_off22 i) (k0_off22_inb i) 1 inb_S3x512_S1x512_1_0) (conv_read arg9 f9 (k0_off22 i) (k0_off22_inb i) 2 inb_S3x512_S1x512_2_0)
  isplitl [H15]; · iexact H15
  isplitl [H16]; · iexact H16
  isplitl [H17]
  · iexists _; isplitr; swap; · iexact H17
    ipureintro; exact rfl
  iexists _; isplitr; swap; · iexact H18
  ipureintro; rfl

end Cert.Kernel3Ideal.Ffn

end
-- ==== Proof.FfnLast.lean ====
/- The feed-forward kernel at a row tile's last point: the working rows' columns go to the column buffer in blocks of
   128, and the last loop reads the rows back in the result's order and normalizes them. -/
module

public import proofs.«01_k».proof.Proof.FfnTail

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- the column buffer's rows, from the working rows -/
def cols (a : Vec F S512x2048 .f32) : Vec F S16x576x128 .f32 := fun y =>
  a (ix2 ⟨(y 1).val % 512, Nat.mod_lt _ (by decide)⟩ ⟨(128 * (y 0).val + (y 2).val) % 2048, Nat.mod_lt _ (by decide)⟩)

/-- the place of the `n`-th block of columns in the column buffer -/
def blockRect (n : Fin 16) : Rect S16x576x128 :=
  Rect.unit (s := S16x576x128) ![n.val, 0, 0] S1x512x128.size (fun a => by
    match a with
    | 0 => show n.val + 1 ≤ 16; omega
    | 1 => show 0 + 512 ≤ 576; omega
    | 2 => show 0 + 128 ≤ 128; omega)

/-- the columns it takes -/
def colRect (n : Fin 16) : Rect S512x2048 :=
  Rect.unit (s := S512x2048) ![0, 128 * n.val] S512x128.size (fun a => by
    match a with
    | 0 => show 0 + 512 ≤ 512; omega
    | 1 => show 128 * n.val + 128 ≤ 2048; omega)

/-- The sixteen stores, the last first. -/
def colPieces (a : Vec F S512x2048 .f32) : List (View.Piece (Elt F) S16x576x128 .f32) :=
  List.ofFn fun k : Fin 16 => ⟨blockRect (Fin.rev k), k0_pay2 (View.ld a (colRect (Fin.rev k)))⟩

/-- Each store's block agrees with `cols`. -/
theorem colPiece_at (a : Vec F S512x2048 .f32) (n : Fin 16) (r : Fin 512) (q : Fin 128) :
    k0_pay2 (View.ld a (colRect n)) (ix3 0 r q) = cols a ((blockRect n).emb (ix3 0 r q)) := by
  have e : ∀ b : Vec F S512x128 .f32, k0_pay2 b (ix3 0 r q) = b (ix2 r q) := fun b => by pointwise [k0_pay2]
  refine (e _).trans (congrArg a (funext fun b => ?_))
  match b with
  | 0 => exact Fin.ext (by show 0 + 1 * r.val = (0 + 1 * r.val) % 512; omega)
  | 1 => exact Fin.ext (by show 128 * n.val + 1 * q.val = (128 * (n.val + 1 * 0) + (0 + 1 * q.val)) % 2048; omega)

/-- After the sixteen stores the first 512 rows of the column buffer are `cols`. -/
theorem read_cols (v : View sig .tc .vmem S16x576x128 .f32) (f : v.ty.Contents (Elt F)) (a : Vec F S512x2048 .f32) (y : S16x576x128.Idx)
    (h1 : (y 1).val < 512) : v.read (Elt F) (v.writes (Elt F) f (colPieces a)) y = cols a y := by
  have h0 : (y 0).val < 16 := (y 0).isLt
  have h2 : (y 2).val < 128 := (y 2).isLt
  have hm : ∃ p ∈ colPieces a, y ∈ p.1.set := by
    refine ⟨_, (List.mem_ofFn' _ _).mpr ⟨Fin.rev ⟨(y 0).val, h0⟩, rfl⟩, ?_⟩
    dsimp only
    rw [Fin.rev_rev]
    unfold blockRect
    rw [Rect.mem_set_unit]
    intro b
    match b with
    | 0 => show (y 0).val ≤ (y 0).val ∧ (y 0).val < (y 0).val + 1; omega
    | 1 => show 0 ≤ (y 1).val ∧ (y 1).val < 0 + 512; omega
    | 2 => show 0 ≤ (y 2).val ∧ (y 2).val < 0 + 128; omega
  rw [View.read_writes_apply_eq_canon v f _ _ hm, View.canon_apply_of_pieces (cols a) _ (fun p hp x => ?_) _ hm]
  obtain ⟨k, rfl⟩ := (List.mem_ofFn' _ _).mp hp
  obtain ⟨r, q, rfl⟩ : ∃ (r : Fin 512) (q : Fin 128), x = ix3 0 r q :=
    ⟨x 1, x 2, funext fun b => by match b with | 0 => exact Fin.ext (Nat.lt_one_iff.mp (x 0).isLt) | 1 => rfl | 2 => rfl⟩
  exact colPiece_at a (Fin.rev k) r q

/-- The last loop reads those rows alone. -/
theorem backNorm_cols (v : View sig .tc .vmem S16x576x128 .f32) (f : v.ty.Contents (Elt F)) (a : Vec F S512x2048 .f32) (g : Vec F S1x2048 .f32) :
    backNorm (v.read (Elt F) (v.writes (Elt F) f (colPieces a))) g = backNorm (cols a) g := by
  funext y
  have h0 : (y 0).val < 512 := (y 0).isLt
  unfold backNorm
  refine congrArg (fun u => k0_pay7 u (View.ld g (Rect.unit (s := S1x2048) ![0, 0] S1x2048.size inb_S1x2048_S1x2048_0_0)) (ix2 ⟨(y 0).val % 8, by omega⟩ (y 1))) ?_
  funext z
  have h8 : (z 0).val < 8 := (z 0).isLt
  exact read_cols v f a _ (by show 64 * ((y 0).val / 8 % 8) + (y 0).val / 8 / 8 + 8 * (z 0).val < 512; omega)

variable (i : grid0.Coords)
  (arg2 : Memref sig .tc .vmem S512x2048 .f32) (harg2 : arg2.IsWhole) (arg3 : Memref sig .tc .vmem S512x2048 .f32) (harg3 : arg3.IsWhole)
  (arg4 : Memref sig .tc .vmem S64x2048 .f32) (harg4 : arg4.IsWhole) (arg5 : Memref sig .tc .vmem S64x2048 .f32) (harg5 : arg5.IsWhole)
  (arg6 : Memref sig .tc .vmem S1x1x2048 .f32) (harg6 : arg6.IsWhole) (arg7 : Memref sig .tc .vmem S1x2048x512 .bf16) (harg7 : arg7.IsWhole)
  (arg8 : Memref sig .tc .vmem S1x2048x512 .bf16) (harg8 : arg8.IsWhole) (arg9 : Memref sig .tc .vmem S1x22x3x512 .f32) (harg9 : arg9.IsWhole)
  (arg10 : Memref sig .tc .vmem S1x512x2048 .bf16) (harg10 : arg10.IsWhole) (arg11 : Memref sig .tc .vmem S1x2048 .f32) (harg11 : arg11.IsWhole)
  (arg12 : Memref sig .tc .vmem S512x2048 .f32) (harg12 : arg12.IsWhole) (arg13 : Memref sig .tc .vmem S512x2048 .bf16) (harg13 : arg13.IsWhole)
  (arg14 : Memref sig .tc .vmem S512x2048 .f32) (harg14 : arg14.IsWhole) (arg15 : Memref sig .tc .vmem S16x576x128 .f32) (harg15 : arg15.IsWhole)
  (arg16 : Memref sig .tc .vmem S64x2048 .bf16) (harg16 : arg16.IsWhole) (arg17 : Memref sig .tc .vmem S11x64x512 .f32) (harg17 : arg17.IsWhole)
  (arg18 : Memref sig .tc .vmem S11x64x512 .f32) (harg18 : arg18.IsWhole)
  (x0 x1 : Vec F S512x2048 .f32) (x2 x3 : Vec F S64x2048 .f32) (x4 : Vec F S1x1x2048 .f32) (x5 x6 : Vec F S1x2048x512 .bf16)
  (x7 : Vec F S1x22x3x512 .f32) (x8 : Vec F S1x512x2048 .bf16) (x9 : Vec F S1x2048 .f32)

set_option maxHeartbeats 4000000 in
/-- A row tile's last point: its first part, the step, and the rows put back in order and normalized. -/
theorem run_last (c : Dev nD) (h : Vec F S512x2048 .bf16) (a : Vec F S512x2048 .f32) (e : Vec F S64x2048 .bf16) (g v : Vec F S11x64x512 .f32)
    (h' : Vec F S512x2048 .bf16) (a' : Vec F S512x2048 .f32) (e' : Vec F S64x2048 .bf16) (g' v' : Vec F S11x64x512 .f32)
    (hh : h' = if (i 1).val = 0 then tileH x0 x1 x4 else h) (ha : a' = if (i 1).val = 0 then perm x0 x1 else a)
    (he : e' = if (i 1).val = 0 ∧ (i 0).val = 0 then edgeH x2 x3 x4 else e)
    (hg : g' = if (i 0).val = 0 then putEdge g (i 1).val (k0_pay214 e' (wholeW x5)) else g)
    (hv : v' = if (i 0).val = 0 then putEdge v (i 1).val (k0_pay215 e' (wholeW x6)) else v)
    (h4 : (i 1).val = 10) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ owns (c : Thread nD τ) arg13 fullShare h ∗ owns (c : Thread nD τ) arg14 fullShare a ∗ (∃ d, owns (c : Thread nD τ) arg15 fullShare d) ∗ owns (c : Thread nD τ) arg16 fullShare e ∗ owns (c : Thread nD τ) arg17 fullShare g ∗ owns (c : Thread nD τ) arg18 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (backNorm (cols (stepRows i h' a' g' v' x5 x6 x7 x8)) x9)
            ∗ owns (c : Thread nD τ) arg13 fullShare h' ∗ owns (c : Thread nD τ) arg14 fullShare (stepRows i h' a' g' v' x5 x6 x7 x8) ∗ (∃ d, owns (c : Thread nD τ) arg15 fullShare d) ∗ owns (c : Thread nD τ) arg16 fullShare e' ∗ owns (c : Thread nD τ) arg17 fullShare g' ∗ owns (c : Thread nD τ) arg18 fullShare v')
          -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have k4 : k0_cond4 i = 1#1 := (cond4_iff i).mpr h4
  rw [cc0_ffn_eq_skeleton]; unfold cc0_ffn_skel
  rw [wp_bind]
  iintro ⟨H2, H3, H4, H5, H6, H7, H8, H9, H10, H11, H12, H13, H14, H15, H16, H17, H18, Hk⟩
  iapply (run_pro i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 c h a e g v h' a' e' g' v' hh ha he hg hv E _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  isplitl [H17]; · iexact H17
  isplitl [H18]; · iexact H18
  iintro ⟨H2, H3, H4, H5, H6, H7, H8, H13, H14, H15, H16, H17, H18⟩
  simp only [k0_part42_eq_skeleton, k0_part43_eq_skeleton, k0_part44_eq_skeleton, k0_part39_eq_skeleton, k0_part40_eq_skeleton]
  unfold owns
  icases H7 with ⟨%f7, %hf7, H7⟩; icases H8 with ⟨%f8, %hf8, H8⟩; icases H9 with ⟨%f9, %hf9, H9⟩; icases H10 with ⟨%f10, %hf10, H10⟩
  icases H11 with ⟨%f11, %hf11, H11⟩; icases H12 with ⟨%d12, %f12, %hf12, H12⟩; icases H15 with ⟨%d15, %f15, %hf15, H15⟩
  icases H13 with ⟨%f13, %hf13, H13⟩; icases H14 with ⟨%f14, %hf14, H14⟩; icases H17 with ⟨%f17, %hf17, H17⟩; icases H18 with ⟨%f18, %hf18, H18⟩
  subst hf7 hf8 hf9 hf10 hf11 hf13 hf14 hf17 hf18
  set_option sl_exec.stopBefore "k0_cond4" in sl_exec
  ihave H14' : owns (c : Thread nD τ) arg14 fullShare (stepRows i (arg13.view.read (Elt F) f13) (arg14.view.read (Elt F) f14) (arg17.view.read (Elt F) f17) (arg18.view.read (Elt F) f18) (arg7.view.read (Elt F) f7) (arg8.view.read (Elt F) f8) (arg9.view.read (Elt F) f9) (arg10.view.read (Elt F) f10)) $$ [H14]
  · unfold owns
    iexists _; isplitr; swap; · iexact H14
    ipureintro
    refine (View.read_writes_full arg14.view f14 inb_S512x2048_S512x2048_0_0 _ []).trans ?_
    exact step_congr i (arg13.view.read (Elt F) f13) (arg17.view.read (Elt F) f17) (arg18.view.read (Elt F) f18) (arg7.view.read (Elt F) f7) (arg8.view.read (Elt F) f8) (arg9.view.read (Elt F) f9) (arg10.view.read (Elt F) f10)
      (View.readAt_full arg14.view f14 inb_S512x2048_S512x2048_0_0)
      (conv_read arg9 f9 (k0_off21 i) (k0_off21_inb i) 0 inb_S3x512_S1x512_0_0) (conv_read arg9 f9 (k0_off21 i) (k0_off21_inb i) 1 inb_S3x512_S1x512_1_0)
      (conv_read arg9 f9 (k0_off21 i) (k0_off21_inb i) 2 inb_S3x512_S1x512_2_0) (conv_read arg9 f9 (k0_off22 i) (k0_off22_inb i) 0 inb_S3x512_S1x512_0_0)
      (conv_read arg9 f9 (k0_off22 i) (k0_off22_inb i) 1 inb_S3x512_S1x512_1_0) (conv_read arg9 f9 (k0_off22 i) (k0_off22_inb i) 2 inb_S3x512_S1x512_2_0)
  unfold owns
  icases H14' with ⟨%w14, %hw14, H14⟩
  rw [← hw14]
  sl_exec (disch := sl_exact k4)
  sl_step
  iapply Hk
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro
    refine (funext fun y => hL3 y (by rw [show Scf.trips k0_t2_loop.lb k0_t2_loop.ub k0_t2_loop.st = 64 from trips2]; exact (y 0).isLt)).trans ?_
    exact backNorm_cols arg15.view f15 (arg14.view.read (Elt F) w14) (arg11.view.read (Elt F) f11)
  isplitl [H13]
  · iexists _; isplitr; swap; · iexact H13
    ipureintro; exact rfl
  isplitl [H14]
  · iexists _; isplitr; swap; · iexact H14
    ipureintro; rfl
  isplitl [H15]
  · iexists _; iexists _; isplitr; swap; · iexact H15
    ipureintro; rfl
  isplitl [H16]; · iexact H16
  isplitl [H17]
  · iexists _; isplitr; swap; · iexact H17
    ipureintro; exact rfl
  iexists _; isplitr; swap; · iexact H18
  ipureintro; rfl

end Cert.Kernel3Ideal.Ffn

end
-- ==== Proof.FfnFrame.lean ====
/- The feed-forward kernel over its grid: what its scratch buffers and the result's block hold at each point, the body
   obligation from the two kinds of point, and the program's frame, over any float type. -/
module

public import proofs.«01_k».proof.Proof.FfnLast
public import Idealize.ShloMosaic.Lib.Pipeline.FrameBody

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
open Idealize.ShloMosaic.Rounds
open Idealize.ShloMosaic.Pipeline (Dat Cfg Window BodyObligation cellOf)

variable (m : (ℓ : Loc nD τ sig) → Buf (Elt F) ℓ) (ρ : Dev nD → PrngReg)

/-! ## What a point computes -/

/-- the grid point of a number -/
def pt (n : ℕ) : Fin cfg0.N := ⟨n % 352, (Nat.mod_lt _ (by decide) : n % 352 < 352)⟩

theorem pt_val (t : Fin cfg0.N) : pt t.val = t := Fin.ext (Nat.mod_eq_of_lt t.isLt)

theorem coords_fst : ∀ t : Fin cfg0.N, (cfg0.grid.coords t 0).val = t.val / 11 :=
  (by decide +kernel : ∀ t : Fin grid0.N, (grid0.coords t 0).val = t.val / 11)

theorem coords_snd : ∀ t : Fin cfg0.N, (cfg0.grid.coords t 1).val = t.val % 11 :=
  (by decide +kernel : ∀ t : Fin grid0.N, (grid0.coords t 1).val = t.val % 11)

/-- the normalized rows of row tile `i` -/
def hRows (c : Dev nD) (i : ℕ) : Vec F S512x2048 .bf16 := tileH (iblk m c 0 (pt (11 * i))) (iblk m c 1 (pt (11 * i))) (iblk m c 4 (pt (11 * i)))

/-- the normalized edge rows -/
def hEdge (c : Dev nD) : Vec F S64x2048 .bf16 := edgeH (iblk m c 2 (pt 0)) (iblk m c 3 (pt 0)) (iblk m c 4 (pt 0))

/-- the edge rows' products with the first half of the up weights, by column block -/
def edgeG (c : Dev nD) : Vec F S11x64x512 .f32 := fun y => k0_pay214 (hEdge m c) (wholeW (iblk m c 5 (pt (y 0).val))) (ix3 0 (y 1) (y 2))

/-- the same, with the second half -/
def edgeV (c : Dev nD) : Vec F S11x64x512 .f32 := fun y => k0_pay215 (hEdge m c) (wholeW (iblk m c 6 (pt (y 0).val))) (ix3 0 (y 1) (y 2))

/-- row tile `i`'s working rows after `s` column blocks -/
def rowsAt (c : Dev nD) (i : ℕ) : ℕ → Vec F S512x2048 .f32
  | 0 => perm (iblk m c 0 (pt (11 * i))) (iblk m c 1 (pt (11 * i)))
  | s + 1 => stepRows (cfg0.grid.coords (pt (11 * i + s))) (hRows m c i) (rowsAt c i s) (edgeG m c) (edgeV m c) (iblk m c 5 (pt (11 * i + s)))
      (iblk m c 6 (pt (11 * i + s))) (iblk m c 7 (pt (11 * i + s))) (iblk m c 8 (pt (11 * i + s)))

/-- what a row tile's last point leaves in the result's block -/
def outRows (c : Dev nD) (t : Fin cfg0.N) : Vec F S512x2048 .f32 := backNorm (cols (rowsAt m c (t.val / 11) 11)) (iblk m c 9 t)

/-- What the scratch buffers are known to hold before point `n`: within a row tile its normalized and working rows, past
    the first point the edge rows, and the column blocks of their products filled so far. -/
structure Known (c : Dev nD) (n : ℕ) (h : Vec F S512x2048 .bf16) (a : Vec F S512x2048 .f32) (e : Vec F S64x2048 .bf16) (g v : Vec F S11x64x512 .f32) : Prop where
  tile : n % 11 ≠ 0 → h = hRows m c (n / 11) ∧ a = rowsAt m c (n / 11) (n % 11)
  edge : n ≠ 0 → e = hEdge m c
  prod : ∀ y : S11x64x512.Idx, (y 0).val < n → g y = edgeG m c y ∧ v y = edgeV m c y

/-- Nothing is known before the first point. -/
theorem Known.none (c : Dev nD) (h : Vec F S512x2048 .bf16) (a : Vec F S512x2048 .f32) (e : Vec F S64x2048 .bf16) (g v : Vec F S11x64x512 .f32) :
    Known m c 0 h a e g v := ⟨fun h => absurd rfl h, fun h => absurd rfl h, fun y hy => absurd hy (Nat.not_lt_zero _)⟩

section
variable {m} {c : Dev nD} {t : Fin cfg0.N} {h : Vec F S512x2048 .bf16} {a : Vec F S512x2048 .f32} {e : Vec F S64x2048 .bf16} {g v : Vec F S11x64x512 .f32}

theorem Known.h_eq (k : Known m c t.val h a e g v) :
    hRows m c (t.val / 11) = if (cfg0.grid.coords t 1).val = 0 then tileH (iblk m c 0 t) (iblk m c 1 t) (iblk m c 4 t) else h := by
  rw [coords_snd]
  by_cases h0 : t.val % 11 = 0
  · rw [if_pos h0]; unfold hRows; rw [show 11 * (t.val / 11) = t.val by omega, pt_val]
  · rw [if_neg h0, (k.tile h0).1]

theorem Known.a_eq (k : Known m c t.val h a e g v) :
    rowsAt m c (t.val / 11) (t.val % 11) = if (cfg0.grid.coords t 1).val = 0 then perm (iblk m c 0 t) (iblk m c 1 t) else a := by
  rw [coords_snd]
  by_cases h0 : t.val % 11 = 0
  · rw [if_pos h0, h0]; unfold rowsAt; rw [show 11 * (t.val / 11) = t.val by omega, pt_val]
  · rw [if_neg h0, (k.tile h0).2]

theorem Known.e_eq (k : Known m c t.val h a e g v) :
    hEdge m c = if (cfg0.grid.coords t 1).val = 0 ∧ (cfg0.grid.coords t 0).val = 0 then edgeH (iblk m c 2 t) (iblk m c 3 t) (iblk m c 4 t) else e := by
  rw [coords_snd, coords_fst]
  by_cases h0 : t.val = 0
  · rw [if_pos (by omega)]; unfold hEdge; rw [← h0, pt_val]
  · rw [if_neg (by omega), k.edge h0]

/-- the first products' buffer as a point leaves it -/
def nextG (m : (ℓ : Loc nD τ sig) → Buf (Elt F) ℓ) (c : Dev nD) (t : Fin cfg0.N) (g : Vec F S11x64x512 .f32) : Vec F S11x64x512 .f32 :=
  if (cfg0.grid.coords t 0).val = 0 then putEdge g (cfg0.grid.coords t 1).val (k0_pay214 (hEdge m c) (wholeW (iblk m c 5 t))) else g

/-- the second products' buffer as a point leaves it -/
def nextV (m : (ℓ : Loc nD τ sig) → Buf (Elt F) ℓ) (c : Dev nD) (t : Fin cfg0.N) (v : Vec F S11x64x512 .f32) : Vec F S11x64x512 .f32 :=
  if (cfg0.grid.coords t 0).val = 0 then putEdge v (cfg0.grid.coords t 1).val (k0_pay215 (hEdge m c) (wholeW (iblk m c 6 t))) else v

/-- A point leaves one column block of products more. -/
theorem Known.prod_next (k : Known m c t.val h a e g v) (y : S11x64x512.Idx) (hy : (y 0).val < t.val + 1) :
    nextG m c t g y = edgeG m c y ∧ nextV m c t v y = edgeV m c y := by
  have h0 : (y 0).val < 11 := (y 0).isLt
  unfold nextG nextV
  rw [coords_fst, coords_snd]
  by_cases hi : t.val / 11 = 0
  · rw [if_pos hi, if_pos hi]
    unfold putEdge
    by_cases hs : (y 0).val = t.val % 11
    · rw [if_pos hs, if_pos hs]
      unfold edgeG edgeV
      rw [show (y 0).val = t.val by omega, pt_val]
      exact ⟨rfl, rfl⟩
    · rw [if_neg hs, if_neg hs]; exact k.prod y (by omega)
  · rw [if_neg hi, if_neg hi]; exact k.prod y (by omega)

/-- A point reads its own column block's products alone. -/
theorem edgeRow_congr {g g' : Vec F S11x64x512 .f32} (s : ℕ) (hg : ∀ y : S11x64x512.Idx, (y 0).val = s → g y = g' y) (o : Fin 3 → ℕ)
    (ho : o 0 = s) (inb : ∀ a, o a + S1x1x512.size a ≤ S11x64x512.size a) : edgeRow g o inb = edgeRow g' o inb := by
  funext z
  refine hg _ ?_
  have hz : (z 0).val < 1 := (z 0).isLt
  show o 0 + 1 * (z 0).val = s
  omega

theorem step_edge (i : grid0.Coords) (h : Vec F S512x2048 .bf16) (a : Vec F S512x2048 .f32) {g g' v v' : Vec F S11x64x512 .f32}
    (x5 x6 : Vec F S1x2048x512 .bf16) (x7 : Vec F S1x22x3x512 .f32) (x8 : Vec F S1x512x2048 .bf16)
    (hg : ∀ y : S11x64x512.Idx, (y 0).val = (i 1).val → g y = g' y) (hv : ∀ y : S11x64x512.Idx, (y 0).val = (i 1).val → v y = v' y) :
    stepRows i h a g v x5 x6 x7 x8 = stepRows i h a g' v' x5 x6 x7 x8 := by
  unfold stepRows stepWith
  rw [edgeRow_congr _ hg (k0_off20 i) (congrFun (k0_off20_eq i) 0), edgeRow_congr _ hg (k0_off19 i) (congrFun (k0_off19_eq i) 0),
    edgeRow_congr _ hv (k0_off20 i) (congrFun (k0_off20_eq i) 0), edgeRow_congr _ hv (k0_off19 i) (congrFun (k0_off19_eq i) 0)]

/-- What a point leaves in the working rows. -/
theorem Known.step_eq (k : Known m c t.val h a e g v) :
    stepRows (cfg0.grid.coords t) (hRows m c (t.val / 11)) (rowsAt m c (t.val / 11) (t.val % 11)) (nextG m c t g) (nextV m c t v)
        (iblk m c 5 t) (iblk m c 6 t) (iblk m c 7 t) (iblk m c 8 t)
      = rowsAt m c (t.val / 11) (t.val % 11 + 1) := by
  rw [step_edge (g' := edgeG m c) (v' := edgeV m c) _ _ _ _ _ _ _
    (fun y hy => (k.prod_next y (by rw [coords_snd] at hy; omega)).1) (fun y hy => (k.prod_next y (by rw [coords_snd] at hy; omega)).2)]
  conv_rhs => unfold rowsAt
  rw [show 11 * (t.val / 11) + t.val % 11 = t.val by omega, pt_val]

/-- What is known after a point. -/
theorem Known.next (k : Known m c t.val h a e g v) :
    Known m c (t.val + 1) (hRows m c (t.val / 11)) (rowsAt m c (t.val / 11) (t.val % 11 + 1)) (hEdge m c) (nextG m c t g) (nextV m c t v) where
  tile hn := by
    rw [show (t.val + 1) / 11 = t.val / 11 by omega, show (t.val + 1) % 11 = t.val % 11 + 1 by omega]
    exact ⟨rfl, rfl⟩
  edge _ := rfl
  prod y hy := k.prod_next y hy
end

/-! ## The proof data -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)

abbrev sc0 : Memref sig .tc .vmem S512x2048 .bf16 := Memref.whole cc0_scratch0
abbrev sc1 : Memref sig .tc .vmem S512x2048 .f32 := Memref.whole cc0_scratch1
abbrev sc2 : Memref sig .tc .vmem S16x576x128 .f32 := Memref.whole cc0_scratch2
abbrev sc3 : Memref sig .tc .vmem S64x2048 .bf16 := Memref.whole cc0_scratch3
abbrev sc4 : Memref sig .tc .vmem S11x64x512 .f32 := Memref.whole cc0_scratch4
abbrev sc5 : Memref sig .tc .vmem S11x64x512 .f32 := Memref.whole cc0_scratch5

/-- The class's invariant, its cells one by one. -/
theorem PhiA_eq (c : Dev nD) :
    (Pipeline.ΦA spec0 c : sProp 𝕄) = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The proof data: the inputs' blocks stay; the result's block is left at what a row tile's last point computes; the
    scratch buffers hold what is known of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outRows m c t
    | ⟨_ + 11, h⟩ => absurd h (Nat.not_lt.2 (Nat.le_add_left _ _))
  Φ t := iprop(∃ h a e g v, ⌜Known m c t.val h a e g v⌝ ∗ owns (c : Thread nD τ) sc0 fullShare h ∗ owns (c : Thread nD τ) sc1 fullShare a ∗ (∃ d, owns (c : Thread nD τ) sc2 fullShare d) ∗ owns (c : Thread nD τ) sc3 fullShare e ∗ owns (c : Thread nD τ) sc4 fullShare g ∗ owns (c : Thread nD τ) sc5 fullShare v ∗ (∃ r, prngReg c r))
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outRows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The body stores into the result's block at a row tile's last point only. -/
theorem idle_10 (t : Fin cfg0.N) (h : t.val % 11 ≠ 10) : cfg0.idle 10 (cfg0.grid.coords t) = true := by
  have h4 : ¬ k0_cond4 (cfg0.grid.coords t) = 1#1 := fun e => h ((coords_snd t).symm.trans ((cond4_iff _).mp e))
  show (!(k0_cond4 (cfg0.grid.coords t) == 1#1)) = true
  rw [beq_eq_false_iff_ne.mpr h4]; rfl

theorem live_10 (t : Fin cfg0.N) (h : t.val % 11 = 10) : cfg0.idle 10 (cfg0.grid.coords t) = false := by
  show (!(k0_cond4 (cfg0.grid.coords t) == 1#1)) = false
  rw [(cond4_iff (cfg0.grid.coords t)).mpr ((coords_snd t).trans h)]; rfl

theorem flush_10 (t : Fin cfg0.N) (h : t.val % 11 ≠ 10) : (cfg0.win 10).flush t = false :=
  Bool.eq_false_iff.mpr fun e => h ((flush0_10 t).mp e)

/-! ## The body obligation -/

/-- what the body is entered with at a point -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- what it leaves -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ (dats m 0 c).leavesExact 10 t)

theorem Phi_eq (c : Dev nD) (t : Fin (cfg0.N + 1)) :
    (dats m 0 c).Φ t = iprop(∃ h a e g v, ⌜Known m c t.val h a e g v⌝ ∗ owns (c : Thread nD τ) sc0 fullShare h ∗ owns (c : Thread nD τ) sc1 fullShare a ∗ (∃ d, owns (c : Thread nD τ) sc2 fullShare d) ∗ owns (c : Thread nD τ) sc3 fullShare e ∗ owns (c : Thread nD τ) sc4 fullShare g ∗ owns (c : Thread nD τ) sc5 fullShare v ∗ (∃ r, prngReg c r)) := by
  dsimp only [dats]

/-- The result's buffer is handed back as found at a point that stores nothing into it. -/
theorem leaves_idle_10 (c : Dev nD) (t : Fin cfg0.N) (h : t.val % 11 ≠ 10) :
    (dats m 0 c).leavesExact 10 t = iprop(∃ d, owns (c : Thread nD τ) (ms10 t) fullShare ((dats m 0 c).before 10 t d)) :=
  (dats m 0 c).leavesExact_idle 10 t (idle_10 t h) (flush_10 t h)

theorem leaves_live_10 (c : Dev nD) (t : Fin cfg0.N) (h : t.val % 11 = 10) :
    (dats m 0 c).leavesExact 10 t = iprop(owns (c : Thread nD τ) (ms10 t) fullShare ((dats m 0 c).after 10 t)) := by
  unfold Dat.leavesExact; rw [live_10 t h]

/-- Ownership at equal contents. -/
theorem owns_cast (c : Dev nD) {sh : Shape} {ty : EltTy} (M : Memref sig .tc .vmem sh ty) {xs xs' : Vec F sh ty} (h : xs = xs') :
    (owns (c : Thread nD τ) M fullShare xs : sProp 𝕄) ⊢ owns (c : Thread nD τ) M fullShare xs' := h ▸ .rfl

/-- The body at a point that is not a row tile's last. -/
theorem body_mid (c : Dev nD) (t : Fin cfg0.N) (h10 : t.val % 11 ≠ 10) :
    bodyPre m c t ⊢ wp frame (wpE (defs₀ (F := F)) Variants.none c none) Set.univ (bodyAt0 t) (fun _ => bodyPost m c t) := by
  have hc := coords_snd t
  unfold bodyPre bodyPost bodyAt0
  simp only [before_0, before_1, before_2, before_3, before_4, before_5, before_6, before_7, before_8, before_9, after_0, after_1, after_2, after_3, after_4, after_5, after_6, after_7, after_8, after_9, Phi_eq]
  rw [show (dats m 0 c).owesAt () t.succ = (dats m 0 c).owesAt () t.castSucc from rfl, leaves_idle_10 m c t h10]
  iintro ⟨⟨%h, %a, %e, %g, %v, %hk, S0, S1, S2, S3, S4, S5, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have k : Known m c t.val h a e g v := hk
  iapply (run_mid (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (iblk m c 5 t) (iblk m c 6 t) (iblk m c 7 t) (iblk m c 8 t) c h a e g v
    (hRows m c (t.val / 11)) (rowsAt m c (t.val / 11) (t.val % 11)) (hEdge m c) (nextG m c t g) (nextV m c t v) k.h_eq k.a_eq k.e_eq rfl rfl (fun h => h10 (hc.symm.trans h)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hr]
  · iexists _; iexists _; iexists _; iexists _; iexists _; isplitr; · ipureintro; exact k.next
    isplitl [S0]; · iexact S0
    isplitl [S1]; · iapply (owns_cast c sc1 k.step_eq); iexact S1
    isplitl [S2]; · iexact S2
    isplitl [S3]; · iexact S3
    isplitl [S4]; · iexact S4
    isplitl [S5]; · iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The body at a row tile's last point. -/
theorem body_last (c : Dev nD) (t : Fin cfg0.N) (h10 : t.val % 11 = 10) :
    bodyPre m c t ⊢ wp frame (wpE (defs₀ (F := F)) Variants.none c none) Set.univ (bodyAt0 t) (fun _ => bodyPost m c t) := by
  have hc := coords_snd t
  unfold bodyPre bodyPost bodyAt0
  simp only [before_0, before_1, before_2, before_3, before_4, before_5, before_6, before_7, before_8, before_9, after_0, after_1, after_2, after_3, after_4, after_5, after_6, after_7, after_8, after_9, Phi_eq]
  rw [show (dats m 0 c).owesAt () t.succ = (dats m 0 c).owesAt () t.castSucc from rfl, leaves_live_10 m c t h10, after_10]
  iintro ⟨⟨%h, %a, %e, %g, %v, %hk, S0, S1, S2, S3, S4, S5, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have k : Known m c t.val h a e g v := hk
  iapply (run_last (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) c h a e g v
    (hRows m c (t.val / 11)) (rowsAt m c (t.val / 11) (t.val % 11)) (hEdge m c) (nextG m c t g) (nextV m c t v) k.h_eq k.a_eq k.e_eq rfl rfl (hc.trans h10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hr]
  · iexists _; iexists _; iexists _; iexists _; iexists _; isplitr; · ipureintro; exact k.next
    isplitl [S0]; · iexact S0
    isplitl [S1]; · iapply (owns_cast c sc1 k.step_eq); iexact S1
    isplitl [S2]; · iexact S2
    isplitl [S3]; · iexact S3
    isplitl [S4]; · iexact S4
    isplitl [S5]; · iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (owns_cast c (ms10 t) (congrArg (fun r => backNorm (cols r) (iblk m c 9 t)) (k.step_eq.trans (by rw [h10]))))
  iexact H10

/-- THE BODY at a point, a row tile's last or another. -/
theorem sound_body (c : Dev nD) (t : Fin cfg0.N) :
    bodyPre m c t ⊢ wp frame (wpE (defs₀ (F := F)) Variants.none c none) Set.univ (bodyAt0 t) (fun _ => bodyPost m c t) := by
  by_cases h : t.val % 11 = 10
  · exact body_last m c t h
  · exact body_mid m c t h

/-- The body table's row at a point is the body there. -/
theorem row (t : Fin cfg0.N) : defs₀ (F := F) .tc cfg0.body (cfg0.bodyArgs t (cfg0.slots t)) = bodyAt0 t := by
  unfold defs₀; rw [Defs.onTc_tc]

/-- The launch's obligation of the body, at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

theorem enter (c : Dev nD) : (Pipeline.ΦA spec0 c : sProp 𝕄) ⊢ (dats m 0 c).Φ 0 := by
  rw [PhiA_eq, Phi_eq]
  iintro ⟨⟨⟨%h, S0⟩, ⟨%a, S1⟩, S2, ⟨%e, S3⟩, ⟨%g, S4⟩, ⟨%v, S5⟩⟩, Hr⟩
  iexists h; iexists a; iexists e; iexists g; iexists v; isplitr; · ipureintro; exact Known.none m c h a e g v
  isplitl [S0]; · iexact S0
  isplitl [S1]; · iexact S1
  isplitl [S2]; · iexact S2
  isplitl [S3]; · iexact S3
  isplitl [S4]; · iexact S4
  isplitl [S5]; · iexact S5
  iexact Hr

theorem leave (c : Dev nD) : (dats m 0 c).Φ (Fin.last _) ⊢ (Pipeline.ΦA spec0 c : sProp 𝕄) := by
  rw [PhiA_eq, Phi_eq]
  iintro ⟨%h, %a, %e, %g, %v, -, S0, S1, S2, S3, S4, S5, Hr⟩
  isplitr [Hr]
  · isplitl [S0]; · iexists h; iexact S0
    isplitl [S1]; · iexists a; iexact S1
    isplitl [S2]; · iexact S2
    isplitl [S3]; · iexists e; iexact S3
    isplitl [S4]; · iexists g; iexact S4
    iexists v; iexact S5
  iexact Hr

-- the launch theorem's implicit arguments are found by unifying its conclusion with this one
set_option backward.isDefEq.respectTransparency.types false in
/-- The launch: every final state has the pipeline's arrays at what the proof data says, and no semaphore count left. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl)
    (V := V m) (hmain := hmain m Variants.none) (hA := A_eq m) (hin := enter m) (hout := leave m)

/-- the same, of the arrays alone -/
theorem run_arrays : θ_run defs (onTc (τ := τ) (main (F := F))) (s₀ m ρ) (Pipeline.FramePost cfgs (dats m) 0 (V m)) :=
  (θ_run defs _ _).mono (fun _ h => h.1) (run_all m ρ)

/-- THE FRAME: the arguments end as they began, and no semaphore count is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_all m ρ))

end Cert.Kernel3Ideal.Ffn

end
-- ==== Proof.FfnSpec.lean ====
/- What the feed-forward call computes, over the extended reals: the rows and the mixers' output added, the normalized
   rows' projection convolved over neighbouring positions, the gated product projected back and added, and the last
   norm. -/
module

public import proofs.«01_k».proof.Proof.MixSpec

@[expose] public section

noncomputable section

namespace Cert.FfnSpec

open Idealize.ShloMosaic Idealize.ShloMosaic.TcCoe
open Cert.MixSpec (rms)

/-- the argument arrays: the activations, the mixers' output, and the weights -/
@[ext] structure Args where
  x : FVec Ideal ⟨3, ![4, 4096, 2048]⟩ .f32
  d : FVec Ideal ⟨3, ![4, 4096, 2048]⟩ .f32
  g2 : FVec Ideal ⟨2, ![2, 2048]⟩ .f32
  wUp : FVec Ideal ⟨3, ![2, 2048, 11264]⟩ .f32
  cw : FVec Ideal ⟨3, ![2, 3, 11264]⟩ .f32
  wDn : FVec Ideal ⟨3, ![2, 5632, 2048]⟩ .f32
  gF : FVec Ideal ⟨1, ![2048]⟩ .f32

variable (A : Args) (b : Fin 4)

/-- the sum of the two arrays of activations -/
def xs (l : Fin 4096) (k : Fin 2048) : EReal := A.x (ix3 b l k) + A.d (ix3 b l k)

/-- the normalized activations of the second layer -/
def hN (l : Fin 4096) (k : Fin 2048) : EReal := rms (Ideal.ofBits .f32 0x45000000#32) (xs A b l) (A.g2 (ix2 1 k)) k

/-- their projection onto column `j` -/
def up (l : Fin 4096) (j : Fin 11264) : EReal := ∑ k : Fin 2048, hN A b l k * A.wUp (ix3 1 k j)

/-- the same at the row `e = l + 1` of the sequence with a zero row before it and one after it -/
def upE (e : ℕ) (j : Fin 11264) : EReal := if h : 1 ≤ e ∧ e - 1 < 4096 then up A b ⟨e - 1, h.2⟩ j else 0

/-- the convolution over a position and its two neighbours -/
def conv (l : Fin 4096) (j : Fin 11264) : EReal :=
  upE A b l.val j * A.cw (ix3 1 0 j) + upE A b (l.val + 1) j * A.cw (ix3 1 1 j) + upE A b (l.val + 2) j * A.cw (ix3 1 2 j)

/-- a value times its logistic function -/
def silu (v : EReal) : EReal := v * Ideal.logistic v

/-- the gated product: the first 5632 columns gate the last 5632 -/
def act (l : Fin 4096) (j : Fin 5632) : EReal := silu (conv A b l ⟨j.val, by omega⟩) * conv A b l ⟨5632 + j.val, by omega⟩

/-- the activations plus the projection of the first `512 s` columns of the gated product -/
def part (l : Fin 4096) (n : Fin 2048) : ℕ → EReal
  | 0 => xs A b l n
  | s + 1 => part l n s + ∑ q : Fin 512, act A b l ⟨(512 * s + q.val) % 5632, Nat.mod_lt _ (by decide)⟩ * A.wDn (ix3 1 ⟨(512 * s + q.val) % 5632, Nat.mod_lt _ (by decide)⟩ n)

/-- the activations plus the projection of the gated product -/
def yR (l : Fin 4096) (n : Fin 2048) : EReal := xs A b l n + ∑ j : Fin 5632, act A b l j * A.wDn (ix3 1 j n)

/-- the projection's sum, 512 columns at a time -/
theorem part_eq (l : Fin 4096) (n : Fin 2048) (s : ℕ) :
    part A b l n s = xs A b l n + ∑ k ∈ Finset.range (512 * s),
      act A b l ⟨k % 5632, Nat.mod_lt _ (by decide)⟩ * A.wDn (ix3 1 ⟨k % 5632, Nat.mod_lt _ (by decide)⟩ n) := by
  induction s with
  | zero => simp [part]
  | succ s ih =>
    rw [part, ih, Nat.mul_succ, Finset.sum_range_add, add_assoc, Finset.sum_range (n := 512)]

theorem part_last (l : Fin 4096) (n : Fin 2048) : part A b l n 11 = yR A b l n := by
  rw [part_eq, yR, Finset.sum_range]
  refine congrArg (xs A b l n + ·) (Finset.sum_congr rfl fun k _ => ?_)
  have e : (⟨k.val % 5632, Nat.mod_lt _ (by decide)⟩ : Fin 5632) = k := Fin.ext (Nat.mod_eq_of_lt k.isLt)
  simp only [e]

/-- the last norm -/
def out (l : Fin 4096) (n : Fin 2048) : EReal := rms (Ideal.ofBits .f32 0x45000000#32) (yR A b l) (A.gF (ix1 n)) n

/-- the result as an array of rows: row `4096 b + l` is position `l` of sequence `b` -/
def outArr : FVec Ideal ⟨2, ![16384, 2048]⟩ .f32 := fun i =>
  out A ⟨(i 0).val / 4096, by have := (i 0).isLt; simp at this; omega⟩ ⟨(i 0).val % 4096, by omega⟩ (i 1)

end Cert.FfnSpec
end
-- ==== Proof.FfnBlocks.lean ====
/- The feed-forward kernel over the extended reals: what each window's block holds at a grid point. -/
module

public import proofs.«01_k».proof.Proof.FfnSpec
public import proofs.«01_k».proof.Proof.FfnFrame
public import Idealize.ShloMosaic.Lib.Pipeline.ReadBack
public import Idealize.ShloMosaic.Lib.Claim
public import Idealize.ShloMosaic.Lib.Routing.Ops

@[expose] public section

set_option maxRecDepth 16384

noncomputable section

namespace Cert.Kernel3Ideal.FfnV

open Cert.Kernel3Ideal Cert.Kernel3Ideal.Gen Cert.Kernel3Ideal.Ffn Cert.FfnSpec
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![t.val / 11, 0] ∧ win0_1.index t = ![t.val / 11, 0] ∧ win0_2.index t = ![0, 0] ∧ win0_3.index t = ![0, 0]
    ∧ win0_4.index t = ![1, 0, 0] ∧ win0_5.index t = ![1, 0, t.val % 11] ∧ win0_6.index t = ![1, 0, 11 + t.val % 11]
    ∧ win0_7.index t = ![1, 0, 0, 0] ∧ win0_8.index t = ![1, t.val % 11, 0] ∧ win0_9.index t = ![0, 0] ∧ win0_10.index t = ![t.val / 11, 0] :=
  (by decide +kernel : ∀ t : Fin grid0.N, _)

/-- the argument arrays on device `c` -/
def args (c : Dev nD) : Args where
  x := m ((c : Thread nD τ).loc main_arg0)
  d := m ((c : Thread nD τ).loc main_arg1)
  g2 := m ((c : Thread nD τ).loc main_arg2)
  wUp := m ((c : Thread nD τ).loc main_arg3)
  cw := m ((c : Thread nD τ).loc main_arg4)
  wDn := m ((c : Thread nD τ).loc main_arg5)
  gF := m ((c : Thread nD τ).loc main_arg6)

variable (c : Dev nD) (t : Fin cfg0.N)

/-- a row tile of the activations -/
theorem xblk (r : Fin 512) (k : Fin 2048) (b : Fin 4) (l : Fin 4096) (h : t.val / 11 * 512 + r.val = b.val * 4096 + l.val) :
    iblk m c 0 t (ix2 r k) = (args m c).x (ix3 b l k) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- a row tile of the mixers' output -/
theorem dblk (r : Fin 512) (k : Fin 2048) (b : Fin 4) (l : Fin 4096) (h : t.val / 11 * 512 + r.val = b.val * 4096 + l.val) :
    iblk m c 1 t (ix2 r k) = (args m c).d (ix3 b l k) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- the second norm's weights -/
theorem gblk (k : Fin 2048) : iblk m c 4 t (ix3 0 0 k) = (args m c).g2 (ix2 1 k) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- a block of the up weights of the gate -/
theorem ublk0 (k : Fin 2048) (q : Fin 512) (J : Fin 11264) (h : J.val = t.val % 11 * 512 + q.val) :
    iblk m c 5 t (ix3 0 k q) = (args m c).wUp (ix3 1 k J) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- a block of the up weights of the value -/
theorem ublk1 (k : Fin 2048) (q : Fin 512) (J : Fin 11264) (h : J.val = 5632 + (t.val % 11 * 512 + q.val)) :
    iblk m c 6 t (ix3 0 k q) = (args m c).wUp (ix3 1 k J) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- the convolution's weights -/
theorem cblk (s : Fin 22) (k : Fin 3) (q : Fin 512) (J : Fin 11264) (h : J.val = s.val * 512 + q.val) :
    iblk m c 7 t (ix4 0 s k q) = (args m c).cw (ix3 1 k J) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- a block of the down weights -/
theorem oblk (q : Fin 512) (n : Fin 2048) (J : Fin 5632) (h : J.val = t.val % 11 * 512 + q.val) :
    iblk m c 8 t (ix3 0 q n) = (args m c).wDn (ix3 1 J n) := by
  blk_simp [iblk, idx t]
  simp only [V, hostOps0, hostOps0_1, hostOps0_2, hostOps0_3, List.flatten_cons, List.flatten_nil, List.append_nil, List.cons_append, List.nil_append]
  entry_read
  pointwise
  blk_point [args, idx t]

/-- the last norm's weights -/
theorem fblk (n : Fin 2048) : iblk m c 9 t (ix2 0 n) = (args m c).gF (ix1 n) := by
  blk_simp [iblk, idx t]
  simp only [V, hostOps0, hostOps0_1, hostOps0_2, hostOps0_3, List.flatten_cons, List.flatten_nil, List.append_nil, List.cons_append, List.nil_append]
  entry_read
  pointwise
  blk_point [args, idx t]

end Cert.Kernel3Ideal.FfnV
end
-- ==== Proof.FfnEdge.lean ====
/- The feed-forward kernel over the extended reals: the rows that the two row gathers take. -/
module

public import proofs.«01_k».proof.Proof.FfnBlocks
public import Idealize.ShloMosaic.Lib.Pipeline.ReadBack
public import Idealize.ShloMosaic.Lib.Claim
public import Idealize.ShloMosaic.Lib.Routing.Ops

@[expose] public section

set_option maxRecDepth 16384

noncomputable section

namespace Cert.Kernel3Ideal.FfnV

open Cert.Kernel3Ideal Cert.Kernel3Ideal.Gen Cert.Kernel3Ideal.Ffn Cert.FfnSpec
open Idealize.ShloMosaic Idealize.ShloMosaic.TcCoe Idealize.SL.Sem
open Idealize.ShloMosaic.Pipeline (Dat)

/-- the row numbers of the edges -/
def edgeNos : IVec S64x1 32 :=
  broadcastInDim S64x1 ![0] bcast_S64_S64x1_0 (select
    (cmpi .slt (fun i => lit0 (S64.rowMajor i)) (broadcastInDim S64 ![] bcast_S_S64 (constantI S_ 32 0#32)))
    (addi (fun i => lit0 (S64.rowMajor i)) (broadcastInDim S64 ![] bcast_S_S64 (constantI S_ 32 16384#32)))
    (fun i => lit0 (S64.rowMajor i)))

/-- which of them are rows of the array: all -/
def edgeIn : IVec S64 1 :=
  Host.reduce IntOp.andi
    (andi (cmpi .sge edgeNos (broadcastInDim S64x1 ![] bcast_S_S64x1 (constantI S_ 32 0#32)))
      (cmpi .sle edgeNos (broadcastInDim S64x1 ![0, 1] bcast_S1x1_S64x1_0_1 (broadcastInDim S1x1 ![1] bcast_S1_S1x1_1 (constantI S1 32 16383#32)))))
    (constantI S_ 1 1#1) reducesTo_S64x1_S64_d1 h_S_

/-- the rows of an array at the edges -/
def edgeRows (x : FVec Ideal S16384x2048 .f32) : FVec Ideal S64x2048 .f32 :=
  select (broadcastInDim S64x2048 ![0] bcast_S64_S64x2048_0 edgeIn)
    (Host.gather gather_S16384x2048_S64x1_S64x2048_1_0_n_n_0_1_12048 x edgeNos)
    (broadcastInDim S64x2048 ![] bcast_S_S64x2048 (constant S_ .f32 0x7FC00000#32))

/-- the row of edge `e`: the last row before a tile, or the first row after it -/
def edgeNo (e : Fin 64) : ℕ := if e.val < 32 then 512 * e.val - 1 else min (512 * (e.val - 32) + 512) 16383

theorem edgeNo_lt : ∀ e : Fin 64, edgeNo e < 16384 := by decide +kernel

theorem edgeNos_eq : ∀ e : Fin 64, edgeNos (ix2 e 0) = BitVec.ofNat 32 (edgeNo e) := by decide +kernel

theorem edgeIn_eq : ∀ e : Fin 64, edgeIn (ix1 e) = 1#1 := by decide +kernel

theorem edgeRows_at (x : FVec Ideal S16384x2048 .f32) (e : Fin 64) (k : Fin 2048) :
    edgeRows x (ix2 e k) = x (ix2 ⟨edgeNo e, edgeNo_lt e⟩ k) := by
  have hm : broadcastInDim S64x2048 ![0] bcast_S64_S64x2048_0 edgeIn (ix2 e k) = 1#1 := by
    pointwise
    exact edgeIn_eq e
  have hg : Host.gather gather_S16384x2048_S64x1_S64x2048_1_0_n_n_0_1_12048 x edgeNos (ix2 e k) = x (ix2 ⟨edgeNo e, edgeNo_lt e⟩ k) :=
    Routing.gather_row gather_S16384x2048_S64x1_S64x2048_1_0_n_n_0_1_12048 rfl rfl rfl rfl rfl x edgeNos e k ⟨edgeNo e, edgeNo_lt e⟩ (edgeNos_eq e) (by decide)
  rw [← hg]
  unfold edgeRows select Scalar.select
  rw [hm]
  rfl

variable (m : (ℓ : Loc nD τ sig) → Buf (Elt Ideal) ℓ) (c : Dev nD)

theorem V_main_v6 : V m c main_v6 = edgeRows (shapeCast S16384x2048 (m ((c : Thread nD τ).loc main_arg0)) shapeCasts_S4x4096x2048_S16384x2048) := by
  simp only [V, hostOps0, hostOps0_1, hostOps0_2, hostOps0_3, List.flatten_cons, List.flatten_nil, List.append_nil, List.cons_append, List.nil_append]
  entry_read
  simp -implicitDefEqProofs only [StableHlo.TRef.toBuf, StableHlo.TRef.ofBuf, cast_cast, cast_eq]
  unfold edgeRows edgeIn edgeNos
  rfl

theorem V_main_v7 : V m c main_v7 = edgeRows (shapeCast S16384x2048 (m ((c : Thread nD τ).loc main_arg1)) shapeCasts_S4x4096x2048_S16384x2048) := by
  simp only [V, hostOps0, hostOps0_1, hostOps0_2, hostOps0_3, List.flatten_cons, List.flatten_nil, List.append_nil, List.cons_append, List.nil_append]
  entry_read
  simp -implicitDefEqProofs only [StableHlo.TRef.toBuf, StableHlo.TRef.ofBuf, cast_cast, cast_eq]
  unfold edgeRows edgeIn edgeNos
  rfl

/-- the flattened activations at a row -/
theorem flat_at (X : FVec Ideal S4x4096x2048 .f32) (r : Fin 16384) (k : Fin 2048) (b : Fin 4) (l : Fin 4096) (h : r.val = b.val * 4096 + l.val) :
    shapeCast S16384x2048 X shapeCasts_S4x4096x2048_S16384x2048 (ix2 r k) = X (ix3 b l k) := by
  pointwise
  exact congr_arg₂ (fun u v => X (ix3 u v k)) (Fin.ext (by simp only; omega)) (Fin.ext (by simp only; omega))

/-- the two edge windows' blocks are their whole arrays -/
theorem emb2 (t : Fin cfg0.N) (e : Fin 64) (k : Fin 2048) : (win0_2.blk t).view.emb (ix2 e k) = ix2 e k := by
  have h0 : win0_2.index t 0 = 0 := by rw [(idx t).2.2.1]; rfl
  have h1 : win0_2.index t 1 = 0 := by rw [(idx t).2.2.1]; rfl
  funext a
  refine Fin.ext ?_
  match a with
  | 0 => show win0_2.index t 0 * 64 + 1 * e.val = e.val; omega
  | 1 => show win0_2.index t 1 * 2048 + 1 * k.val = k.val; omega

theorem emb3 (t : Fin cfg0.N) (e : Fin 64) (k : Fin 2048) : (win0_3.blk t).view.emb (ix2 e k) = ix2 e k := by
  have h0 : win0_3.index t 0 = 0 := by rw [(idx t).2.2.2.1]; rfl
  have h1 : win0_3.index t 1 = 0 := by rw [(idx t).2.2.2.1]; rfl
  funext a
  refine Fin.ext ?_
  match a with
  | 0 => show win0_3.index t 0 * 64 + 1 * e.val = e.val; omega
  | 1 => show win0_3.index t 1 * 2048 + 1 * k.val = k.val; omega

/-- the activations' edge rows -/
theorem xeblk (t : Fin cfg0.N) (e : Fin 64) (k : Fin 2048) (b : Fin 4) (l : Fin 4096) (h : edgeNo e = b.val * 4096 + l.val) :
    iblk m c 2 t (ix2 e k) = (args m c).x (ix3 b l k) := by
  blk_simp [iblk, idx t]
  rw [V_main_v6]
  refine (congrArg _ (emb2 t e k)).trans ?_
  rw [edgeRows_at]
  exact flat_at _ _ k b l h

/-- the edge rows of the mixers' output -/
theorem deblk (t : Fin cfg0.N) (e : Fin 64) (k : Fin 2048) (b : Fin 4) (l : Fin 4096) (h : edgeNo e = b.val * 4096 + l.val) :
    iblk m c 3 t (ix2 e k) = (args m c).d (ix3 b l k) := by
  blk_simp [iblk, idx t]
  rw [V_main_v7]
  refine (congrArg _ (emb3 t e k)).trans ?_
  rw [edgeRows_at]
  exact flat_at _ _ k b l h

end Cert.Kernel3Ideal.FfnV
end
-- ==== Proof.FfnOps.lean ====
/- The feed-forward kernel's operations over the extended reals, at an entry: the norms, the products, the shifted rows
   and a point's addition to the rows. -/
module
public import proofs.«01_k».proof.Proof.FfnFrame
public import proofs.«01_k».proof.Proof.FfnSpec
public import Idealize.ShloMosaic.Lib.Pipeline.ReadBack
public import Idealize.ShloMosaic.Lib.Claim
@[expose] public section

set_option maxRecDepth 16384

noncomputable section

namespace Cert.Kernel3Ideal.FfnV

open Cert.Kernel3Ideal Cert.Kernel3Ideal.Gen Cert.Kernel3Ideal.Ffn Cert.FfnSpec
open Cert.MixSpec (rms)
open Idealize.ShloMosaic Idealize.ShloMosaic.TcCoe Idealize.SL.Sem

/-- a tile's normalized rows, in the working order -/
theorem tileH_at (x0 x1 : Vec Ideal S512x2048 .f32) (x4 : Vec Ideal S1x1x2048 .f32) (p : Fin 512) (k : Fin 2048) (r : Fin 512)
    (hr : r.val = 64 * (p.val % 8) + p.val / 8) :
    tileH (F := Ideal) x0 x1 x4 (ix2 p k) = rms (Ideal.ofBits .f32 0x45000000#32) (fun k => x0 (ix2 r k) + x1 (ix2 r k)) (x4 (ix3 0 0 k)) k := by
  rw [show r = ⟨64 * (p.val % 8) + p.val / 8, by omega⟩ from Fin.ext hr]
  pointwise [tileH, k0_pay212, k0_pay183, k0_pay184, perm, rms]

/-- the edges' normalized rows -/
theorem edgeH_at (x2 x3 : Vec Ideal S64x2048 .f32) (x4 : Vec Ideal S1x1x2048 .f32) (e : Fin 64) (k : Fin 2048) :
    edgeH (F := Ideal) x2 x3 x4 (ix2 e k) = rms (Ideal.ofBits .f32 0x45000000#32) (fun k => x2 (ix2 e k) + x3 (ix2 e k)) (x4 (ix3 0 0 k)) k := by
  pointwise [edgeH, k0_pay213, rms]

/-- a tile's projection onto a block of the gate's columns -/
theorem pay216_at (h : Vec Ideal S512x2048 .bf16) (x : Vec Ideal S1x2048x512 .bf16) (p q : Fin 512) :
    k0_pay216 (F := Ideal) h (wholeW x) (ix2 p q) = ∑ k : Fin 2048, h (ix2 p k) * x (ix3 0 k q) := by
  pointwise [k0_pay216, wholeW]

/-- a tile's projection onto a block of the value's columns -/
theorem pay222_at (h : Vec Ideal S512x2048 .bf16) (x : Vec Ideal S1x2048x512 .bf16) (p q : Fin 512) :
    k0_pay222 (F := Ideal) h (wholeW x) (ix2 p q) = ∑ k : Fin 2048, h (ix2 p k) * x (ix3 0 k q) := by
  pointwise [k0_pay222, wholeW]

/-- the edges' projection onto a block of the gate's columns -/
theorem pay214_at (h : Vec Ideal S64x2048 .bf16) (x : Vec Ideal S1x2048x512 .bf16) (p : Fin 64) (q : Fin 512) :
    k0_pay214 (F := Ideal) h (wholeW x) (ix3 0 p q) = ∑ k : Fin 2048, h (ix2 p k) * x (ix3 0 k q) := by
  pointwise [k0_pay214, wholeW]

/-- the edges' projection onto a block of the value's columns -/
theorem pay215_at (h : Vec Ideal S64x2048 .bf16) (x : Vec Ideal S1x2048x512 .bf16) (p : Fin 64) (q : Fin 512) :
    k0_pay215 (F := Ideal) h (wholeW x) (ix3 0 p q) = ∑ k : Fin 2048, h (ix2 p k) * x (ix3 0 k q) := by
  pointwise [k0_pay215, wholeW]

/-- a row read at a slot and an edge -/
theorem edgeRow_at (g : Vec Ideal S11x64x512 .f32) (o : Fin 3 → ℕ) (inb : ∀ a, o a + S1x1x512.size a ≤ S11x64x512.size a) (s : Fin 11) (e : Fin 64)
    (q : Fin 512) (ho : o = ![s.val, e.val, 0]) : edgeRow (F := Ideal) g o inb (ix3 0 0 q) = g (ix3 s e q) := by
  subst ho
  pointwise [edgeRow]

/-- a row of the convolution's weights at a block -/
theorem convRow_at (x : Vec Ideal S1x22x3x512 .f32) (o : Fin 4 → ℕ) (inb : ∀ a, o a + S1x1x3x512.size a ≤ S1x22x3x512.size a) (s : Fin 22) (k : Fin 3)
    (q : Fin 512) (ho : o = ![0, s.val, 0, 0]) : convRow (F := Ideal) x o inb k (ix2 0 q) = x (ix4 0 s k q) := by
  subst ho
  pointwise [convRow]
  refine congrArg x (funext fun a => Fin.ext ?_)
  match a with
  | 0 => rfl
  | 1 => show s.val + 1 * 0 = s.val; omega
  | 2 => show 0 + 1 * k.val = k.val; omega
  | 3 => show 0 + 1 * q.val = q.val; omega

/-- A convolution over rows in the working order: the row before row `p` is row `p - 8`, or one of the last eight, or the
    row `x` before the tile; the row after it likewise. -/
def shifted (U : Vec Ideal S512x512 .f32) (x y w0 w1 w2 : EReal) (p q : Fin 512) : EReal :=
  w0 * (if h : p.val < 8 then Scalar.select (IntOp.cmpi CmpIPredicate.eq (BitVec.ofNat 32 p.val) 0#32) x
      (U (ix2 ⟨504 + (p.val + 8 - 1) % 8, by omega⟩ q)) else U (ix2 ⟨p.val - 8, by omega⟩ q))
    + w1 * U (ix2 p q)
    + w2 * (if h : p.val < 504 then U (ix2 ⟨8 + p.val, by omega⟩ q) else Scalar.select (IntOp.cmpi CmpIPredicate.eq (BitVec.ofNat 32 (p.val - 504)) 7#32) y
      (U (ix2 ⟨(p.val - 504 + 8 - 7) % 8, by omega⟩ q)))

/-- an edge row, or zero where there is none -/
def edgeOr (w : BitVec 1) (x : EReal) : EReal := Scalar.select w x 0

/-- A point's addition to the rows, at an entry. -/
theorem stepWith_at (i : grid0.Coords) (h : Vec Ideal S512x2048 .bf16) (a : Vec Ideal S512x2048 .f32) (g v : Vec Ideal S11x64x512 .f32)
    (x5 x6 : Vec Ideal S1x2048x512 .bf16) (w : Fin 6 → Vec Ideal S1x512 .f32) (x8 : Vec Ideal S1x512x2048 .bf16) (p : Fin 512) (n : Fin 2048) :
    stepWith (F := Ideal) i h a g v x5 x6 w x8 (ix2 p n) = a (ix2 p n) + ∑ q : Fin 512,
      silu (shifted (k0_pay216 h (wholeW x5)) (edgeOr (Scalar.cmpi .sgt (seqWord i) 0#32) (edgeRow g (k0_off19 i) (k0_off19_inb i) (ix3 0 0 q)))
        (edgeOr (Scalar.cmpi .slt (seqWord i) 7#32) (edgeRow g (k0_off20 i) (k0_off20_inb i) (ix3 0 0 q)))
        (w 0 (ix2 0 q)) (w 1 (ix2 0 q)) (w 2 (ix2 0 q)) p q)
      * shifted (k0_pay222 h (wholeW x6)) (edgeOr (Scalar.cmpi .sgt (seqWord i) 0#32) (edgeRow v (k0_off19 i) (k0_off19_inb i) (ix3 0 0 q)))
        (edgeOr (Scalar.cmpi .slt (seqWord i) 7#32) (edgeRow v (k0_off20 i) (k0_off20_inb i) (ix3 0 0 q)))
        (w 3 (ix2 0 q)) (w 4 (ix2 0 q)) (w 5 (ix2 0 q)) p q
      * x8 (ix3 0 q n) := by
  unfold stepWith
  generalize edgeRow g (k0_off19 i) (k0_off19_inb i) = g0
  generalize edgeRow g (k0_off20 i) (k0_off20_inb i) = g1
  generalize edgeRow v (k0_off19 i) (k0_off19_inb i) = v0
  generalize edgeRow v (k0_off20 i) (k0_off20_inb i) = v1
  pointwise [k0_pay1, k0_pay227, k0_pay223, k0_pay224, k0_pay225, k0_pay226, k0_pay221, k0_pay220, k0_pay219, k0_pay218, k0_pay217]
  rfl

/-- the last norm of eight rows -/
theorem pay7_at (x : Vec Ideal S8x2048 .f32) (g : Vec Ideal S1x2048 .f32) (z : Fin 8) (n : Fin 2048) :
    k0_pay7 (F := Ideal) x g (ix2 z n) = rms (Ideal.ofBits .f32 0x45000000#32) (fun k => x (ix2 z k)) (g (ix2 0 n)) n := by
  pointwise [k0_pay7, rms]

/-- The written rows, at an entry: row `r` of the tile is row `p` of the working order. -/
theorem back_at (R : Vec Ideal S512x2048 .f32) (g : Vec Ideal S1x2048 .f32) (r p : Fin 512) (n : Fin 2048)
    (hp : p.val = 64 * (r.val / 8 % 8) + r.val / 8 / 8 + 8 * (r.val % 8)) :
    backNorm (F := Ideal) (cols R) g (ix2 r n) = rms (Ideal.ofBits .f32 0x45000000#32) (fun k => R (ix2 p k)) (g (ix2 0 n)) n := by
  unfold backNorm
  refine (pay7_at _ _ _ n).trans ?_
  refine congr_arg₂ (fun f u => rms (Ideal.ofBits .f32 0x45000000#32) f u n) (funext fun k => ?_) ?_
  · pointwise [backRows, cols]
    exact congr_arg₂ (fun u v => R (ix2 u v)) (Fin.ext (by simp only; omega)) (Fin.ext (by simp only; omega))
  · pointwise

end Cert.Kernel3Ideal.FfnV

end
-- ==== Proof.FfnPoint.lean ====
/- The feed-forward kernel over the extended reals: the normalized rows, the convolved projections, the working rows after
   each block of columns, and the result array. -/
module

public import proofs.«01_k».proof.Proof.FfnEdge
public import proofs.«01_k».proof.Proof.FfnOps

@[expose] public section

set_option maxRecDepth 16384

noncomputable section

namespace Cert.Kernel3Ideal.FfnV

open Cert.Kernel3Ideal Cert.Kernel3Ideal.Gen Cert.Kernel3Ideal.Ffn Cert.FfnSpec
open Cert.MixSpec (rms)
open Idealize.ShloMosaic Idealize.ShloMosaic.TcCoe Idealize.SL.Sem
open Idealize.ShloMosaic.Pipeline (Dat)

/-- the rows that a tile starts from -/
theorem perm_at (x0 x1 : Vec Ideal S512x2048 .f32) (p : Fin 512) (n : Fin 2048) :
    perm (F := Ideal) x0 x1 (ix2 p n) = x0 (ix2 ⟨64 * (p.val % 8) + p.val / 8, by omega⟩ n) + x1 (ix2 ⟨64 * (p.val % 8) + p.val / 8, by omega⟩ n) := rfl

theorem edgeNo_lo (i : ℕ) (hi : i < 32) : edgeNo ⟨i, by omega⟩ = 512 * i - 1 := if_pos hi

theorem edgeNo_hi (i : ℕ) (hi : i < 32) : edgeNo ⟨i + 32, by omega⟩ = min (512 * i + 512) 16383 :=
  (if_neg (show ¬ i + 32 < 32 by omega)).trans (by simp only [Nat.add_sub_cancel])

variable (m : (ℓ : Loc nD τ sig) → Buf (Elt Ideal) ℓ) (c : Dev nD)

/-- the sequence that row tile `i` lies in -/
def bOf (i : ℕ) : Fin 4 := ⟨i / 8 % 4, Nat.mod_lt _ (by decide)⟩

/-- the position of the working row `p` of row tile `i` -/
def lOf (i : ℕ) (p : Fin 512) : Fin 4096 := ⟨512 * (i % 8) + (64 * (p.val % 8) + p.val / 8), by omega⟩

/-! ## The normalized rows -/

/-- a tile's normalized rows -/
theorem hRows_at (i : ℕ) (hi : i < 32) (p : Fin 512) (k : Fin 2048) : hRows (F := Ideal) m c i (ix2 p k) = hN (args m c) (bOf i) (lOf i p) k := by
  unfold hRows
  have e : (pt (11 * i)).val = 11 * i := Nat.mod_eq_of_lt (by omega)
  refine (tileH_at _ _ _ p k ⟨64 * (p.val % 8) + p.val / 8, by omega⟩ rfl).trans ?_
  rw [gblk, hN]
  refine congrArg (fun f => rms _ f _ k) (funext fun k => ?_)
  exact congr_arg₂ (· + ·) (xblk m c _ _ k (bOf i) (lOf i p) (by rw [e]; simp only [bOf, lOf]; omega))
    (dblk m c _ _ k (bOf i) (lOf i p) (by rw [e]; simp only [bOf, lOf]; omega))

/-- the edges' normalized rows -/
theorem hEdge_at (e : Fin 64) (k : Fin 2048) (b : Fin 4) (l : Fin 4096) (h : edgeNo e = b.val * 4096 + l.val) :
    hEdge (F := Ideal) m c (ix2 e k) = hN (args m c) b l k := by
  unfold hEdge
  refine (edgeH_at _ _ _ e k).trans ?_
  rw [gblk, hN]
  exact congrArg (fun f => rms _ f _ k) (funext fun k => congr_arg₂ (· + ·) (xeblk m c _ e k b l h) (deblk m c _ e k b l h))

/-! ## Their projections -/

variable (i : ℕ) (hi : i < 32) (s : ℕ) (hs : s < 11)

include hi hs in
theorem pt_at : (pt (11 * i + s)).val = 11 * i + s := Nat.mod_eq_of_lt (by omega)

include hi hs in
/-- a tile's projection onto the gate's block -/
theorem gate_at (p q : Fin 512) (J : Fin 11264) (hJ : J.val = s * 512 + q.val) :
    k0_pay216 (F := Ideal) (hRows m c i) (wholeW (iblk m c 5 (pt (11 * i + s)))) (ix2 p q) = up (args m c) (bOf i) (lOf i p) J := by
  have e := pt_at i hi s hs
  refine (pay216_at _ _ p q).trans (Finset.sum_congr rfl fun k _ => ?_)
  exact congr_arg₂ (· * ·) (hRows_at m c i hi p k) (ublk0 m c _ k q J (by rw [e]; omega))

include hi hs in
/-- a tile's projection onto the value's block -/
theorem val_at (p q : Fin 512) (J : Fin 11264) (hJ : J.val = 5632 + (s * 512 + q.val)) :
    k0_pay222 (F := Ideal) (hRows m c i) (wholeW (iblk m c 6 (pt (11 * i + s)))) (ix2 p q) = up (args m c) (bOf i) (lOf i p) J := by
  have e := pt_at i hi s hs
  refine (pay222_at _ _ p q).trans (Finset.sum_congr rfl fun k _ => ?_)
  exact congr_arg₂ (· * ·) (hRows_at m c i hi p k) (ublk1 m c _ k q J (by rw [e]; omega))

/-- the edges' projections onto the gate's blocks -/
theorem edgeG_at (S : Fin 11) (e : Fin 64) (q : Fin 512) (b : Fin 4) (l : Fin 4096) (h : edgeNo e = b.val * 4096 + l.val)
    (J : Fin 11264) (hJ : J.val = S.val * 512 + q.val) : edgeG (F := Ideal) m c (ix3 S e q) = up (args m c) b l J := by
  have ep : (pt S.val).val = S.val := Nat.mod_eq_of_lt (by omega)
  refine (pay214_at _ _ e q).trans (Finset.sum_congr rfl fun k _ => ?_)
  exact congr_arg₂ (· * ·) (hEdge_at m c e k b l h) (ublk0 m c _ k q J (by show J.val = (pt S.val).val % 11 * 512 + q.val; omega))

/-- the edges' projections onto the value's blocks -/
theorem edgeV_at (S : Fin 11) (e : Fin 64) (q : Fin 512) (b : Fin 4) (l : Fin 4096) (h : edgeNo e = b.val * 4096 + l.val)
    (J : Fin 11264) (hJ : J.val = 5632 + (S.val * 512 + q.val)) : edgeV (F := Ideal) m c (ix3 S e q) = up (args m c) b l J := by
  have ep : (pt S.val).val = S.val := Nat.mod_eq_of_lt (by omega)
  refine (pay215_at _ _ e q).trans (Finset.sum_congr rfl fun k _ => ?_)
  exact congr_arg₂ (· * ·) (hEdge_at m c e k b l h) (ublk1 m c _ k q J (by show J.val = 5632 + ((pt S.val).val % 11 * 512 + q.val); omega))

/-! ## The convolution -/

theorem upE_in (A : Args) (b : Fin 4) (l : Fin 4096) (e : ℕ) (j : Fin 11264) (h : e = l.val + 1) : upE A b e j = up A b l j := by
  subst h
  unfold upE
  rw [dif_pos ⟨by omega, by omega⟩]
  rfl

theorem eq0 : ∀ p : Fin 512, IntOp.cmpi CmpIPredicate.eq (BitVec.ofNat 32 p.val) 0#32 = if p.val = 0 then 1#1 else 0#1 := by decide +kernel

theorem eq7 : ∀ p : Fin 512, IntOp.cmpi CmpIPredicate.eq (BitVec.ofNat 32 (p.val - 504)) 7#32 = if p.val = 511 then 1#1 else 0#1 := by decide +kernel

/-- The convolution of rows that are the projection's, with the rows before and after the tile. -/
theorem shifted_at (A : Args) (U : Vec Ideal S512x512 .f32) (x y w0 w1 w2 : EReal) (p q : Fin 512) (j : Fin 11264)
    (hU : ∀ p, U (ix2 p q) = up A (bOf i) (lOf i p) j) (hx : x = upE A (bOf i) (512 * (i % 8)) j)
    (hy : y = upE A (bOf i) (512 * (i % 8) + 513) j) (h0 : w0 = A.cw (ix3 1 0 j)) (h1 : w1 = A.cw (ix3 1 1 j)) (h2 : w2 = A.cw (ix3 1 2 j)) :
    shifted U x y w0 w1 w2 p q = conv A (bOf i) (lOf i p) j := by
  subst h0 h1 h2
  unfold shifted conv
  refine congr_arg₂ (· + ·) (congr_arg₂ (· + ·) ?_ ?_) ?_
  · rw [mul_comm]
    refine congrArg (· * _) ?_
    by_cases h : p.val < 8
    · rw [dif_pos h, eq0]
      by_cases hp : p.val = 0
      · rw [if_pos hp, Scalar.select, if_pos (by decide), hx]
        exact congrArg (fun e => upE A (bOf i) e j) (by simp only [lOf]; omega)
      · rw [if_neg hp, Scalar.select, if_neg (by decide), hU]
        exact (upE_in A _ _ _ j (by simp only [lOf]; omega)).symm
    · rw [dif_neg h, hU]
      exact (upE_in A _ _ _ j (by simp only [lOf]; omega)).symm
  · rw [mul_comm, hU]
    exact congrArg (· * _) (upE_in A _ _ _ j rfl).symm
  · rw [mul_comm]
    refine congrArg (· * _) ?_
    by_cases h : p.val < 504
    · rw [dif_pos h, hU]
      exact (upE_in A _ _ _ j (by simp only [lOf]; omega)).symm
    · rw [dif_neg h, eq7]
      by_cases hp : p.val = 511
      · rw [if_pos hp, Scalar.select, if_pos (by decide), hy]
        exact congrArg (fun e => upE A (bOf i) e j) (by simp only [lOf]; omega)
      · rw [if_neg hp, Scalar.select, if_neg (by decide), hU]
        exact (upE_in A _ _ _ j (by simp only [lOf]; omega)).symm

/-- the words that say whether a tile has a row before it and a row after it in its sequence -/
theorem wPrev : ∀ t : Fin cfg0.N, Scalar.cmpi .sgt (seqWord (cfg0.grid.coords t)) 0#32 = if t.val / 11 % 8 = 0 then 0#1 else 1#1 :=
  (by decide +kernel : ∀ t : Fin grid0.N, _)

theorem wNext : ∀ t : Fin cfg0.N, Scalar.cmpi .slt (seqWord (cfg0.grid.coords t)) 7#32 = if t.val / 11 % 8 = 7 then 0#1 else 1#1 :=
  (by decide +kernel : ∀ t : Fin grid0.N, _)

/-- the slots that the edge rows and the convolution's weights are read at -/
theorem slots : ∀ t : Fin cfg0.N, k0_off19 (cfg0.grid.coords t) = ![t.val % 11, t.val / 11, 0] ∧ k0_off20 (cfg0.grid.coords t) = ![t.val % 11, t.val / 11 + 32, 0]
    ∧ k0_off21 (cfg0.grid.coords t) = ![0, t.val % 11, 0, 0] ∧ k0_off22 (cfg0.grid.coords t) = ![0, t.val % 11 + 11, 0, 0] := fun t => by
  have e0 := coords_fst t
  have e1 := coords_snd t
  refine ⟨(k0_off19_eq _).trans ?_, (k0_off20_eq _).trans ?_, (k0_off21_eq _).trans ?_, (k0_off22_eq _).trans ?_⟩ <;> simp only [e0, e1]

include hi in
/-- the row before a tile -/
theorem prev_at (A : Args) (t : Fin cfg0.N) (ht : t.val / 11 = i) (x : EReal) (J : Fin 11264)
    (hx : ∀ (b : Fin 4) (l : Fin 4096), 512 * i - 1 = b.val * 4096 + l.val → x = up A b l J) :
    edgeOr (Scalar.cmpi .sgt (seqWord (cfg0.grid.coords t)) 0#32) x = upE A (bOf i) (512 * (i % 8)) J := by
  rw [wPrev, ht, edgeOr]
  by_cases h : i % 8 = 0
  · rw [if_pos h, Scalar.select, if_neg (by decide), upE, dif_neg (by omega)]
  · rw [if_neg h, Scalar.select, if_pos (by decide), hx (bOf i) ⟨512 * (i % 8) - 1, by omega⟩ (by simp only [bOf]; omega)]
    exact (upE_in A _ _ _ J (by simp only; omega)).symm

include hi in
/-- the row after a tile -/
theorem next_at (A : Args) (t : Fin cfg0.N) (ht : t.val / 11 = i) (x : EReal) (J : Fin 11264)
    (hx : ∀ (b : Fin 4) (l : Fin 4096), min (512 * i + 512) 16383 = b.val * 4096 + l.val → x = up A b l J) :
    edgeOr (Scalar.cmpi .slt (seqWord (cfg0.grid.coords t)) 7#32) x = upE A (bOf i) (512 * (i % 8) + 513) J := by
  rw [wNext, ht, edgeOr]
  by_cases h : i % 8 = 7
  · rw [if_pos h, Scalar.select, if_neg (by decide), upE, dif_neg (by omega)]
  · rw [if_neg h, Scalar.select, if_pos (by decide), hx (bOf i) ⟨512 * (i % 8) + 512, by omega⟩ (by simp only [bOf]; omega)]
    exact (upE_in A _ _ _ J rfl).symm

/-! ## The working rows -/

include hi hs in
/-- the gate's convolution at a point -/
theorem convG_at (p q : Fin 512) (J : Fin 11264) (hJ : J.val = s * 512 + q.val) (t : Fin cfg0.N) (et : t = pt (11 * i + s)) :
    shifted (k0_pay216 (F := Ideal) (hRows m c i) (wholeW (iblk m c 5 t)))
      (edgeOr (Scalar.cmpi .sgt (seqWord (cfg0.grid.coords t)) 0#32) (edgeRow (F := Ideal) (edgeG m c) (k0_off19 (cfg0.grid.coords t)) (k0_off19_inb _) (ix3 0 0 q)))
      (edgeOr (Scalar.cmpi .slt (seqWord (cfg0.grid.coords t)) 7#32) (edgeRow (F := Ideal) (edgeG m c) (k0_off20 (cfg0.grid.coords t)) (k0_off20_inb _) (ix3 0 0 q)))
      (convRows (F := Ideal) (cfg0.grid.coords t) (iblk m c 7 t) 0 (ix2 0 q)) (convRows (F := Ideal) (cfg0.grid.coords t) (iblk m c 7 t) 1 (ix2 0 q))
      (convRows (F := Ideal) (cfg0.grid.coords t) (iblk m c 7 t) 2 (ix2 0 q)) p q = conv (args m c) (bOf i) (lOf i p) J := by
  have e : t.val = 11 * i + s := by rw [et]; exact pt_at i hi s hs
  have e1 : t.val / 11 = i := by omega
  have e2 : t.val % 11 = s := by omega
  obtain ⟨o19, o20, o21, -⟩ := slots t
  rw [e1, e2] at o19 o20
  rw [e2] at o21
  refine shifted_at i (args m c) _ _ _ _ _ _ p q J (fun p => ?_) ?_ ?_ ?_ ?_ ?_
  · rw [et]; exact gate_at m c i hi s hs p q J hJ
  · refine prev_at i hi _ t e1 _ J fun b l h => ?_
    rw [edgeRow_at _ _ _ ⟨s, hs⟩ ⟨i, by omega⟩ q o19]
    exact edgeG_at m c ⟨s, hs⟩ _ q b l ((edgeNo_lo i hi).trans h) J hJ
  · refine next_at i hi _ t e1 _ J fun b l h => ?_
    rw [edgeRow_at _ _ _ ⟨s, hs⟩ ⟨i + 32, by omega⟩ q o20]
    exact edgeG_at m c ⟨s, hs⟩ _ q b l ((edgeNo_hi i hi).trans h) J hJ
  · exact (convRow_at (iblk m c 7 t) _ (k0_off21_inb _) ⟨s, by omega⟩ 0 q o21).trans (cblk m c t _ _ q J hJ)
  · exact (convRow_at (iblk m c 7 t) _ (k0_off21_inb _) ⟨s, by omega⟩ 1 q o21).trans (cblk m c t _ _ q J hJ)
  · exact (convRow_at (iblk m c 7 t) _ (k0_off21_inb _) ⟨s, by omega⟩ 2 q o21).trans (cblk m c t _ _ q J hJ)

include hi hs in
/-- the value's convolution at a point -/
theorem convV_at (p q : Fin 512) (J : Fin 11264) (hJ : J.val = 5632 + (s * 512 + q.val)) (t : Fin cfg0.N) (et : t = pt (11 * i + s)) :
    shifted (k0_pay222 (F := Ideal) (hRows m c i) (wholeW (iblk m c 6 t)))
      (edgeOr (Scalar.cmpi .sgt (seqWord (cfg0.grid.coords t)) 0#32) (edgeRow (F := Ideal) (edgeV m c) (k0_off19 (cfg0.grid.coords t)) (k0_off19_inb _) (ix3 0 0 q)))
      (edgeOr (Scalar.cmpi .slt (seqWord (cfg0.grid.coords t)) 7#32) (edgeRow (F := Ideal) (edgeV m c) (k0_off20 (cfg0.grid.coords t)) (k0_off20_inb _) (ix3 0 0 q)))
      (convRows (F := Ideal) (cfg0.grid.coords t) (iblk m c 7 t) 3 (ix2 0 q)) (convRows (F := Ideal) (cfg0.grid.coords t) (iblk m c 7 t) 4 (ix2 0 q))
      (convRows (F := Ideal) (cfg0.grid.coords t) (iblk m c 7 t) 5 (ix2 0 q)) p q = conv (args m c) (bOf i) (lOf i p) J := by
  have e : t.val = 11 * i + s := by rw [et]; exact pt_at i hi s hs
  have e1 : t.val / 11 = i := by omega
  have e2 : t.val % 11 = s := by omega
  obtain ⟨o19, o20, -, o22⟩ := slots t
  rw [e1, e2] at o19 o20
  rw [e2] at o22
  refine shifted_at i (args m c) _ _ _ _ _ _ p q J (fun p => ?_) ?_ ?_ ?_ ?_ ?_
  · rw [et]; exact val_at m c i hi s hs p q J hJ
  · refine prev_at i hi _ t e1 _ J fun b l h => ?_
    rw [edgeRow_at _ _ _ ⟨s, hs⟩ ⟨i, by omega⟩ q o19]
    exact edgeV_at m c ⟨s, hs⟩ _ q b l ((edgeNo_lo i hi).trans h) J hJ
  · refine next_at i hi _ t e1 _ J fun b l h => ?_
    rw [edgeRow_at _ _ _ ⟨s, hs⟩ ⟨i + 32, by omega⟩ q o20]
    exact edgeV_at m c ⟨s, hs⟩ _ q b l ((edgeNo_hi i hi).trans h) J hJ
  · exact (convRow_at (iblk m c 7 t) _ (k0_off22_inb _) ⟨s + 11, by omega⟩ 0 q o22).trans (cblk m c t _ _ q J (by simp only; omega))
  · exact (convRow_at (iblk m c 7 t) _ (k0_off22_inb _) ⟨s + 11, by omega⟩ 1 q o22).trans (cblk m c t _ _ q J (by simp only; omega))
  · exact (convRow_at (iblk m c 7 t) _ (k0_off22_inb _) ⟨s + 11, by omega⟩ 2 q o22).trans (cblk m c t _ _ q J (by simp only; omega))

include hi in
/-- The working rows after `s` blocks of columns. -/
theorem rows_at (p : Fin 512) (n : Fin 2048) (s : ℕ) (hs : s ≤ 11) : rowsAt (F := Ideal) m c i s (ix2 p n) = part (args m c) (bOf i) (lOf i p) n s := by
  induction s with
  | zero =>
    have e : (pt (11 * i)).val = 11 * i := Nat.mod_eq_of_lt (by omega)
    refine (perm_at _ _ p n).trans ?_
    exact congr_arg₂ (· + ·) (xblk m c _ _ n (bOf i) (lOf i p) (by rw [e]; simp only [bOf, lOf]; omega))
      (dblk m c _ _ n (bOf i) (lOf i p) (by rw [e]; simp only [bOf, lOf]; omega))
  | succ s ih =>
    have e := pt_at i hi s (by omega)
    have h := stepWith_at (cfg0.grid.coords (pt (11 * i + s))) (hRows m c i) (rowsAt m c i s) (edgeG m c) (edgeV m c) (iblk m c 5 (pt (11 * i + s)))
      (iblk m c 6 (pt (11 * i + s))) (convRows (cfg0.grid.coords (pt (11 * i + s))) (iblk m c 7 (pt (11 * i + s)))) (iblk m c 8 (pt (11 * i + s))) p n
    refine h.trans (congr_arg₂ (· + ·) (ih (by omega)) (Finset.sum_congr rfl fun q _ => ?_))
    have hq : (512 * s + q.val) % 5632 = s * 512 + q.val := by omega
    have e1 := convG_at m c i hi s (by omega) p q ⟨(512 * s + q.val) % 5632, by omega⟩ hq (pt (11 * i + s)) rfl
    have e2 := convV_at m c i hi s (by omega) p q ⟨5632 + (512 * s + q.val) % 5632, by omega⟩ (congrArg (5632 + ·) hq) (pt (11 * i + s)) rfl
    have e3 := oblk m c (pt (11 * i + s)) q n ⟨(512 * s + q.val) % 5632, Nat.mod_lt _ (by decide)⟩ (by simp only [hq, e]; omega)
    rw [e1, e2, e3]
    rfl

/-! ## The result array -/

/-- what a row tile's last point leaves -/
theorem outRows_at (t : Fin cfg0.N) (r : Fin 512) (n : Fin 2048) (R : Fin 16384) (hR : R.val = t.val / 11 * 512 + r.val) :
    outRows (F := Ideal) m c t (ix2 r n) = outArr (args m c) (ix2 R n) := by
  have hN : t.val < 352 := t.isLt
  unfold outRows
  refine (back_at _ _ r ⟨64 * (r.val / 8 % 8) + r.val / 8 / 8 + 8 * (r.val % 8), by omega⟩ n rfl).trans ?_
  rw [fblk]
  refine (congrArg (fun f => rms (Ideal.ofBits .f32 0x45000000#32) f ((args m c).gF (ix1 n)) n) (funext fun k =>
    (rows_at m c (t.val / 11) (by omega) _ k 11 (le_refl _)).trans (part_last _ _ _ k))).trans ?_
  refine congr_arg₂ (fun b l => out (args m c) b l n) (Fin.ext ?_) (Fin.ext ?_)
  · show t.val / 11 / 8 % 4 = R.val / 4096
    omega
  · have h1 : (64 * (r.val / 8 % 8) + r.val / 8 / 8 + 8 * (r.val % 8)) % 8 = r.val / 8 / 8 := by omega
    have h2 : (64 * (r.val / 8 % 8) + r.val / 8 / 8 + 8 * (r.val % 8)) / 8 = 8 * (r.val / 8 % 8) + r.val % 8 := by omega
    have h3 : r.val = 64 * (r.val / 8 / 8) + (8 * (r.val / 8 % 8) + r.val % 8) := by omega
    show 512 * (t.val / 11 % 8) + (64 * ((64 * (r.val / 8 % 8) + r.val / 8 / 8 + 8 * (r.val % 8)) % 8)
      + (64 * (r.val / 8 % 8) + r.val / 8 / 8 + 8 * (r.val % 8)) / 8) = R.val % 4096
    rw [h1, h2, ← h3]
    omega

theorem tile10 : ∀ t : Fin cfg0.N, win0_10.index t 0 = t.val / 11 ∧ win0_10.index t 1 = 0 := (by decide +kernel : ∀ t : Fin grid0.N, _)

/-- the result array: the normalized sum -/
theorem final_out : (dats (F := Ideal) m 0 c).arrAt 10 cfg0.N = outArr (args m c) := by
  refine (dats m 0 c).arrAt_eq_of_covers 10 (outArr (args m c)) (by decide +kernel) fun t hf y => ?_
  obtain ⟨e0, e1⟩ := tile10 t
  have hN : t.val < 352 := t.isLt
  obtain ⟨r, n, rfl⟩ : ∃ (r : Fin 512) (n : Fin 2048), y = ix2 r n := ⟨y 0, y 1, eq_ix2 y⟩
  rw [after_10]
  refine (outRows_at m c t r n ⟨t.val / 11 * 512 + r.val, by omega⟩ rfl).trans (congrArg (outArr (args m c)) (funext fun a => Fin.ext ?_))
  match a with
  | 0 => show t.val / 11 * 512 + r.val = win0_10.index t 0 * 512 + 1 * r.val; omega
  | 1 => show n.val = win0_10.index t 1 * 2048 + 1 * n.val; omega

end Cert.Kernel3Ideal.FfnV
end
-- ==== Proof.RefFfn.lean ====
/- The feed-forward call's reference computes the array `outArr`. -/
module

public import proofs.«01_k».proof.Proof.FfnSpec
public import proofs.«01_k».proof.Proof.Gen.Reference3Ideal.Read
public import proofs.«01_k».proof.Proof.Gen.Reference3Ideal.Run
public import Idealize.ShloMosaic.Lib.Claim

@[expose] public section

set_option maxRecDepth 16384

noncomputable section

namespace Cert.Reference3Ideal.FfnR

open Cert.Reference3Ideal Cert.FfnSpec
open Cert.MixSpec (rms)
open Idealize.ShloMosaic Idealize.ShloMosaic.TcCoe Idealize.SL.Sem

variable (A : Args)

/-- the reference's normalized activations -/
theorem act_at (b : Fin 4) (l : Fin 4096) (k : Fin 2048) :
    Read.val_main_v15 (F := Ideal) A.x A.d A.g2 (ix3 b l k) = hN A b l k := by
  pointwise [Read.val_main_v15, Read.val_main_v14, Read.val_main_v13, Read.val_main_v12, Read.val_main_v11, Read.val_main_v10,
    Read.val_main_v9, Read.val_main_v8, Read.val_main_v7, Read.val_main_v6, Read.val_main_v5, Read.val_main_v4, Read.val_main_v3,
    Read.val_main_v2, Read.val_main_v1, Read.val_main_v0, Read.val_main_cst, Read.val_main_cst_0, Read.val_main_cst_1, hN, rms, xs]

/-- the reference's projection -/
theorem up_at (b : Fin 4) (l : Fin 4096) (j : Fin 11264) :
    Read.val_main_v22 (F := Ideal) A.x A.d A.g2 A.wUp (ix3 b l j) = up A b l j := by
  pointwise [Read.val_main_v22, Read.val_main_v17, Read.val_main_v16]
  exact Finset.sum_congr rfl fun k _ => by rw [act_at]

/-- its rows between two zero rows -/
theorem pad_at (b : Fin 4) (e : Fin 4098) (j : Fin 11264) :
    Read.val_main_v23 (F := Ideal) A.x A.d A.g2 A.wUp (ix3 b e j) = upE A b e.val j := by
  pointwise [Read.val_main_v23, Read.val_main_call0_v0, Read.val_main_c]
  rw [show FloatOps.sitofp (F := Ideal) FTy.f32 0#32 = (0 : EReal) from by simp [FloatOps.sitofp]]
  unfold upE
  by_cases h : 1 ≤ e.val ∧ e.val - 1 < 4096
  · rw [dif_pos h, dif_pos h, up_at]
  · rw [dif_neg h, dif_neg h]

/-- the convolution -/
theorem conv_at (b : Fin 4) (l : Fin 4096) (j : Fin 11264) :
    Read.val_main_v43 (F := Ideal) A.x A.d A.g2 A.wUp A.cw (ix3 b l j) = conv A b l j := by
  pointwise [Read.val_main_v43, Read.val_main_v42, Read.val_main_v41, Read.val_main_v40, Read.val_main_v39, Read.val_main_v38,
    Read.val_main_v37, Read.val_main_v36, Read.val_main_v35, Read.val_main_v34, Read.val_main_v33, Read.val_main_v32,
    Read.val_main_v31, Read.val_main_v30, Read.val_main_v29, Read.val_main_v28, Read.val_main_v27, Read.val_main_v26,
    Read.val_main_v25, Read.val_main_v24, Read.val_main_v19, Read.val_main_v18]
  rw [pad_at, pad_at, pad_at]
  unfold conv
  simp only [Nat.add_comm 1, Nat.add_comm 2]

/-- the gated product -/
theorem glu_at (b : Fin 4) (l : Fin 4096) (j : Fin 5632) :
    Read.val_main_v47 (F := Ideal) A.x A.d A.g2 A.wUp A.cw (ix3 b l j) = act A b l j := by
  pointwise [Read.val_main_v47, Read.val_main_v46, Read.val_main_v45, Read.val_main_v44, Read.val_main_call1_v5, Read.val_main_call1_v4,
    Read.val_main_call1_v3, Read.val_main_call1_v2, Read.val_main_call1_v1, Read.val_main_call1_v0, Read.val_main_call1_cst, Read.val_main_call1_cst_0]
  rw [conv_at, conv_at]
  rfl

/-- the activations plus the projection of the gated product -/
theorem sum_at (b : Fin 4) (l : Fin 4096) (n : Fin 2048) :
    Read.val_main_v49 (F := Ideal) A.x A.d A.g2 A.wUp A.cw A.wDn (ix3 b l n) = yR A b l n := by
  pointwise [Read.val_main_v49, Read.val_main_v48, Read.val_main_v21, Read.val_main_v20, Read.val_main_v0]
  simp only [glu_at]
  rfl

/-- the reference's result -/
theorem result : Read.val_main_v63 (F := Ideal) A.x A.d A.g2 A.wUp A.cw A.wDn A.gF = outArr A := by
  funext i
  obtain ⟨r, n, rfl⟩ : ∃ (r : Fin 16384) (n : Fin 2048), i = ix2 r n := ⟨i 0, i 1, eq_ix2 i⟩
  pointwise [Read.val_main_v63, Read.val_main_v62, Read.val_main_v61, Read.val_main_v60, Read.val_main_v59, Read.val_main_v58,
    Read.val_main_v57, Read.val_main_v56, Read.val_main_v55, Read.val_main_v54, Read.val_main_v53, Read.val_main_v52, Read.val_main_v51,
    Read.val_main_v50, Read.val_main_cst_2, Read.val_main_cst_3, Read.val_main_cst_4]
  simp only [sum_at]
  rfl

/-- the argument arrays on device `c` -/
def args (m : (ℓ : Loc nD τ sig) → Buf (Elt Ideal) ℓ) (c : Dev nD) : Args where
  x := m ((c : Thread nD τ).loc main_arg0)
  d := m ((c : Thread nD τ).loc main_arg1)
  g2 := m ((c : Thread nD τ).loc main_arg2)
  wUp := m ((c : Thread nD τ).loc main_arg3)
  cw := m ((c : Thread nD τ).loc main_arg4)
  wDn := m ((c : Thread nD τ).loc main_arg5)
  gF := m ((c : Thread nD τ).loc main_arg6)

/-- The reference runs, ends with the array and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = outArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((Read.val_main_v63_eq m c).trans (result (args m c))), (h c).2⟩) (Value.run m ρ)

end Cert.Reference3Ideal.FfnR
end
-- ==== Proof.lean ====
/- The certificate: the programs' runs, and for each of the three calls the equation between the kernel's results and the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Loops
public import proofs.«01_k».proof.Proof.MixPoint
public import proofs.«01_k».proof.Proof.RefOut
public import proofs.«01_k».proof.Proof.OutPoint
public import proofs.«01_k».proof.Proof.RefProd
public import proofs.«01_k».proof.Proof.FfnFrame
public import proofs.«01_k».proof.Proof.FfnPoint
public import proofs.«01_k».proof.Proof.RefFfn
public import proofs.«01_k».proof.Proof.Gen.Kernel2
public import Idealize.ShloMosaic.Adequacy
public import Idealize.ShloMosaic.Init

@[expose] public section

noncomputable section

namespace Cert.Proof

open Idealize.ShloMosaic Idealize.SL.Sem Cert.Kernel

/-- the kernel terminates, leaves its arguments unchanged and every semaphore counter at zero -/
theorem frame_kernel : Cert.quiescent_Kernel (hKernel := Cert.Kernel.Gen.facts) := fun m ρ _ => Cert.Kernel.Gen.frame m ρ

/-- so does its reading over the extended reals -/
theorem frame_kernelIdeal : Cert.quiescent_KernelIdeal (hKernelIdeal := Cert.KernelIdeal.Gen.facts) :=
  fun m ρ _ => Cert.KernelIdeal.Gen.frame m ρ

/-- and the reference -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.MixR.run m ρ)

/-- Kernel and reference compute the same two arrays. -/
theorem mixers : Cert.algebraic_KernelIdeal_ReferenceIdeal (hKernelIdeal := Cert.KernelIdeal.Gen.facts)
    (hReferenceIdeal := Cert.ReferenceIdeal.Gen.facts) := by
  intro m g m' g' _ hag
  have e : ∀ c, Cert.ReferenceIdeal.MixR.args m' c = Cert.KernelIdeal.MixV.args m c := fun c => by
    obtain ⟨h0, h1, h2, h3, h4, h5, h6, h7, h8⟩ := hag c
    exact Cert.MixSpec.Args.ext h0 h1 h2 h3 h4 h5 h6 h7 h8
  refine ⟨fun c => Cert.MixSpec.mixArr (Cert.KernelIdeal.MixV.args m c), fun c => Cert.MixSpec.actArr (Cert.KernelIdeal.MixV.args m c), ?_, ?_⟩
  · exact (θ_run Cert.KernelIdeal.defs _ _).mono (fun _ h c => ⟨(h c).1.trans (Cert.KernelIdeal.MixV.final_mix m c),
      (h c).2.1.trans (Cert.KernelIdeal.MixV.final_act m c), (h c).2.2⟩) (Cert.KernelIdeal.Value.run_blocks m g)
  · exact (θ_run Cert.ReferenceIdeal.defs _ _).mono (fun _ h c => ⟨(h c).1.trans (congrArg Cert.MixSpec.mixArr (e c)),
      (h c).2.1.trans (congrArg Cert.MixSpec.actArr (e c)), (h c).2.2⟩) (Cert.ReferenceIdeal.MixR.run m' g')

set_option smartUnfolding false in
/-- The output projection's kernel, whose text over the bits is the text over the extended reals, the run proved once for both:
    it terminates, leaves its arguments unchanged and every semaphore counter at zero. -/
theorem frame_kernel2 : Cert.quiescent_Kernel2 (hKernel2 := Cert.Kernel2.Gen.facts) := fun m ρ _ =>
  (θ_run (Cert.Kernel2Ideal.defs (F := Bits)) _ _).mono (fun _ h => h) (Cert.Kernel2Ideal.Out.frame (F := Bits) m ρ)

/-- so does its reading over the extended reals -/
theorem frame_kernel2Ideal : Cert.quiescent_Kernel2Ideal (hKernel2Ideal := Cert.Kernel2Ideal.Gen.facts) :=
  fun m ρ _ => Cert.Kernel2Ideal.Out.frame m ρ

/-- and the reference -/
theorem frame_reference2 : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.OutR.run m ρ)

/-- Kernel and reference compute the same projection of the gated sum. -/
theorem projection : Cert.algebraic_Kernel2Ideal_Reference2Ideal (hKernel2Ideal := Cert.Kernel2Ideal.Gen.facts)
    (hReference2Ideal := Cert.Reference2Ideal.Gen.facts) := by
  intro m g m' g' _ hag
  have e : ∀ c, Cert.Reference2Ideal.OutR.args m' c = Cert.Kernel2Ideal.OutV.args m c := fun c => by
    obtain ⟨h0, h1, h2, h3, h4, h5, h6⟩ := hag c
    exact Cert.OutSpec.Args.ext h0 h1 h2 h3 h4 h5 h6
  refine ⟨fun c => Cert.OutSpec.outArr (Cert.Kernel2Ideal.OutV.args m c), ?_, ?_⟩
  · exact (θ_run Cert.Kernel2Ideal.defs _ _).mono (fun _ h c => ⟨((h.1 c).1 9).trans (Cert.Kernel2Ideal.OutV.final_out m c), h.2.1 c⟩)
      (θ_run_and (Cert.Kernel2Ideal.Out.run_arrays (F := Ideal) m g) (Cert.Kernel2Ideal.Out.frame (F := Ideal) m g))
  · exact (θ_run Cert.Reference2Ideal.defs _ _).mono (fun _ h c => ⟨(h c).1.trans (congrArg Cert.OutSpec.outArr (e c)), (h c).2⟩)
      (Cert.Reference2Ideal.OutR.run m' g')

set_option maxHeartbeats 4000000 in
set_option smartUnfolding false in
/-- The feed-forward kernel, whose run too is proved once for any float values: it terminates, leaves its arguments unchanged and
    every semaphore counter at zero. -/
theorem frame_kernel3 : Cert.quiescent_Kernel3 (hKernel3 := Cert.Kernel3.Gen.facts) := fun m ρ _ =>
  (θ_run (Cert.Kernel3Ideal.defs (F := Bits)) _ _).mono (fun _ h => h) (Cert.Kernel3Ideal.Ffn.frame (F := Bits) m ρ)

/-- so does its reading over the extended reals -/
theorem frame_kernel3Ideal : Cert.quiescent_Kernel3Ideal (hKernel3Ideal := Cert.Kernel3Ideal.Gen.facts) :=
  fun m ρ _ => Cert.Kernel3Ideal.Ffn.frame m ρ

/-- and the reference -/
theorem frame_reference3 : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.FfnR.run m ρ)

/-- Kernel and reference compute the same layer output: the two residual sums, the feed-forward part between them, the last norm. -/
theorem feedForward : Cert.algebraic_Kernel3Ideal_Reference3Ideal (hKernel3Ideal := Cert.Kernel3Ideal.Gen.facts)
    (hReference3Ideal := Cert.Reference3Ideal.Gen.facts) := by
  intro m g m' g' _ hag
  have e : ∀ c, Cert.Reference3Ideal.FfnR.args m' c = Cert.Kernel3Ideal.FfnV.args m c := fun c => by
    obtain ⟨h0, h1, h2, h3, h4, h5, h6⟩ := hag c
    exact Cert.FfnSpec.Args.ext h0 h1 h2 h3 h4 h5 h6
  refine ⟨fun c => Cert.FfnSpec.outArr (Cert.Kernel3Ideal.FfnV.args m c), ?_, ?_⟩
  · exact (θ_run Cert.Kernel3Ideal.defs _ _).mono (fun _ h c => ⟨((h.1 c).1 10).trans (Cert.Kernel3Ideal.FfnV.final_out m c), h.2.1 c⟩)
      (θ_run_and (Cert.Kernel3Ideal.Ffn.run_arrays (F := Ideal) m g) (Cert.Kernel3Ideal.Ffn.frame (F := Ideal) m g))
  · exact (θ_run Cert.Reference3Ideal.defs _ _).mono (fun _ h c => ⟨(h c).1.trans (congrArg Cert.FfnSpec.outArr (e c)), (h c).2⟩)
      (Cert.Reference3Ideal.FfnR.run m' g')

/-- the claims -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernelIdeal, frame_reference, frame_kernel2, frame_kernel2Ideal, frame_reference2,
  frame_kernel3, frame_kernel3Ideal, frame_reference3, trivial, mixers, trivial, projection, trivial, feedForward⟩

end Cert.Proof

end
